-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S8x4096x2048 : Shape := ⟨3, ![8, 4096, 2048]⟩
abbrev S8x4096x512 : Shape := ⟨3, ![8, 4096, 512]⟩
abbrev S8x4x4x4096 : Shape := ⟨4, ![8, 4, 4, 4096]⟩
abbrev S8x4x1x4096 : Shape := ⟨4, ![8, 4, 1, 4096]⟩
abbrev S_ : Shape := ⟨0, ![]⟩

class Facts : Prop where
  bcast_S_S8x4x4x4096 : S_.BroadcastsInDim S8x4x4x4096 (![] : Fin 0 → Fin S8x4x4x4096.rank)
  reducesTo_S8x4x4x4096_S_d0_1_2_3 : S8x4x4x4096.ReducesTo [0, 1, 2, 3] S_
  h_S_ : 0 < S_.numel

variable [Facts]

def fn {F : FTy → Type} [FloatOps F] (main_arg0 : FVec F S8x4096x2048 .fp8e4m3) (main_arg1 : FVec F S8x4096x512 .fp8e4m3) (main_arg2 : FVec F S8x4096x512 .fp8e4m3) (main_arg3 : FVec F S8x4096x2048 .fp8e5m2) (main_arg4 : FVec F S8x4x4x4096 .f32) (main_arg5 : FVec F S8x4x1x4096 .f32) (main_arg6 : FVec F S8x4x1x4096 .f32) (main_arg7 : FVec F S8x4x4x4096 .f32) : IVec S_ 1 :=
  let main_cst : FVec F S_ .f32 := constant S_ .f32 0x00000000#32
  let main_v0 : FVec F S8x4x4x4096 .f32 := broadcastInDim S8x4x4x4096 ![] bcast_S_S8x4x4x4096 main_cst
  let main_v1 : IVec S8x4x4x4096 1 := cmpf .oge main_arg7 main_v0
  let main_cst_0 : FVec F S_ .f32 := constant S_ .f32 0x7F800000#32
  let main_v2 : FVec F S8x4x4x4096 .f32 := broadcastInDim S8x4x4x4096 ![] bcast_S_S8x4x4x4096 main_cst_0
  let main_v3 : IVec S8x4x4x4096 1 := cmpf .olt main_arg7 main_v2
  let main_v4 : IVec S8x4x4x4096 1 := andi main_v1 main_v3
  let main_c : IVec S_ 1 := constantI S_ 1 1#1
  let main_v5 : IVec S_ 1 := (fun x v => Host.reduce IntOp.andi x v reducesTo_S8x4x4x4096_S_d0_1_2_3 h_S_) main_v4 main_c
  main_v5
-- ==== Kernel.lean ====
abbrev S8x4096x2048 : Shape := ⟨3, ![8, 4096, 2048]⟩
abbrev S8x4096x512 : Shape := ⟨3, ![8, 4096, 512]⟩
abbrev S8x4x4x4096 : Shape := ⟨4, ![8, 4, 4, 4096]⟩
abbrev S8x4x1x4096 : Shape := ⟨4, ![8, 4, 1, 4096]⟩
abbrev S1x4096x512 : Shape := ⟨3, ![1, 4096, 512]⟩
abbrev S1x4096x128 : Shape := ⟨3, ![1, 4096, 128]⟩
abbrev S1x1x4x4096 : Shape := ⟨4, ![1, 1, 4, 4096]⟩
abbrev S1x1x1x4096 : Shape := ⟨4, ![1, 1, 1, 4096]⟩
abbrev S4096x256 : Shape := ⟨2, ![4096, 256]⟩
abbrev S128x4096 : Shape := ⟨2, ![128, 4096]⟩
abbrev S4096x128 : Shape := ⟨2, ![4096, 128]⟩
abbrev S1x1x1x128 : Shape := ⟨4, ![1, 1, 1, 128]⟩
abbrev S1x128 : Shape := ⟨2, ![1, 128]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S1x1x1x256 : Shape := ⟨4, ![1, 1, 1, 256]⟩
abbrev S1x256 : Shape := ⟨2, ![1, 256]⟩
abbrev S1x512x128 : Shape := ⟨3, ![1, 512, 128]⟩
abbrev S512x128 : Shape := ⟨2, ![512, 128]⟩
abbrev S512x256 : Shape := ⟨2, ![512, 256]⟩
abbrev S256 : Shape := ⟨1, ![256]⟩
abbrev S128x256 : Shape := ⟨2, ![128, 256]⟩
abbrev S128x512 : Shape := ⟨2, ![128, 512]⟩

abbrev nBuf : Space → Nat
  | .hbm => 11
  | .vmem => 29
  | .smem => 0
  | _ => 0

abbrev bufTy : (tb : Table) → Fin (tcTables nBuf tb) → BufTy
  | .hbm, ⟨0, _⟩ => ⟨S8x4096x2048, .fp8e4m3⟩
  | .hbm, ⟨1, _⟩ => ⟨S8x4096x512, .fp8e4m3⟩
  | .hbm, ⟨2, _⟩ => ⟨S8x4096x512, .fp8e4m3⟩
  | .hbm, ⟨3, _⟩ => ⟨S8x4096x2048, .fp8e5m2⟩
  | .hbm, ⟨4, _⟩ => ⟨S8x4x4x4096, .f32⟩
  | .hbm, ⟨5, _⟩ => ⟨S8x4x1x4096, .f32⟩
  | .hbm, ⟨6, _⟩ => ⟨S8x4x1x4096, .f32⟩
  | .hbm, ⟨7, _⟩ => ⟨S8x4x4x4096, .f32⟩
  | .hbm, ⟨8, _⟩ => ⟨S8x4096x2048, .bf16⟩
  | .hbm, ⟨9, _⟩ => ⟨S8x4096x512, .bf16⟩
  | .hbm, ⟨10, _⟩ => ⟨S8x4096x512, .bf16⟩
  | .local _ .vmem, ⟨0, _⟩ => ⟨S1x4096x512, .fp8e4m3⟩
  | .local _ .vmem, ⟨1, _⟩ => ⟨S1x4096x512, .fp8e4m3⟩
  | .local _ .vmem, ⟨2, _⟩ => ⟨S1x4096x128, .fp8e4m3⟩
  | .local _ .vmem, ⟨3, _⟩ => ⟨S1x4096x128, .fp8e4m3⟩
  | .local _ .vmem, ⟨4, _⟩ => ⟨S1x4096x128, .fp8e4m3⟩
  | .local _ .vmem, ⟨5, _⟩ => ⟨S1x4096x128, .fp8e4m3⟩
  | .local _ .vmem, ⟨6, _⟩ => ⟨S1x4096x512, .fp8e5m2⟩
  | .local _ .vmem, ⟨7, _⟩ => ⟨S1x4096x512, .fp8e5m2⟩
  | .local _ .vmem, ⟨8, _⟩ => ⟨S1x1x4x4096, .f32⟩
  | .local _ .vmem, ⟨9, _⟩ => ⟨S1x1x4x4096, .f32⟩
  | .local _ .vmem, ⟨10, _⟩ => ⟨S1x1x1x4096, .f32⟩
  | .local _ .vmem, ⟨11, _⟩ => ⟨S1x1x1x4096, .f32⟩
  | .local _ .vmem, ⟨12, _⟩ => ⟨S1x1x1x4096, .f32⟩
  | .local _ .vmem, ⟨13, _⟩ => ⟨S1x1x1x4096, .f32⟩
  | .local _ .vmem, ⟨14, _⟩ => ⟨S1x1x4x4096, .f32⟩
  | .local _ .vmem, ⟨15, _⟩ => ⟨S1x1x4x4096, .f32⟩
  | .local _ .vmem, ⟨16, _⟩ => ⟨S1x4096x512, .bf16⟩
  | .local _ .vmem, ⟨17, _⟩ => ⟨S1x4096x512, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S4096x256, .f32⟩
  | .local _ .vmem, ⟨23, _⟩ => ⟨S128x4096, .bf16⟩
  | .local _ .vmem, ⟨24, _⟩ => ⟨S128x4096, .bf16⟩
  | .local _ .vmem, ⟨25, _⟩ => ⟨S4096x128, .f32⟩
  | .local _ .vmem, ⟨26, _⟩ => ⟨S4096x128, .f32⟩
  | .local _ .vmem, ⟨27, _⟩ => ⟨S128x4096, .f32⟩
  | .local _ .vmem, ⟨28, _⟩ => ⟨S128x4096, .f32⟩
  | _, _ => ⟨S8x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32_9 : BitVec 32 := 0#32
  let c0_i32 : BitVec 32 := 0#32
  let c1_i32 : BitVec 32 := 1#32
  let arg20 : BitVec 32 := Scf.iv c0_i32 c1_i32 k0_t1
  let c1_i32_8 : BitVec 32 := 1#32
  let v3 : BitVec 32 := Scalar.muli arg20 c1_i32_8
  let v4 : BitVec 32 := Scalar.addi c0_i32_9 v3
  let c128_i32 : BitVec 32 := 128#32
  let v5 : BitVec 32 := Scalar.muli v4 c128_i32
  v5
def k0_off1 (k0_t1 : Fin k0_t1_loop.trips) : Fin 4 → Nat :=
  let c0 : Index := 0#32
  let c0_10 : Index := 0#32
  let c0_11 : Index := 0#32
  let c0_i32_9 : BitVec 32 := 0#32
  let c0_i32 : BitVec 32 := 0#32
  let c1_i32 : BitVec 32 := 1#32
  let arg20 : BitVec 32 := Scf.iv c0_i32 c1_i32 k0_t1
  let c1_i32_8 : BitVec 32 := 1#32
  let v3 : BitVec 32 := Scalar.muli arg20 c1_i32_8
  let v4 : BitVec 32 := Scalar.addi c0_i32_9 v3
  let c128_i32 : BitVec 32 := 128#32
  let v5 : BitVec 32 := Scalar.muli v4 c128_i32
  let v6 : BitVec 32 := v5
  let v7 : Index := Scalar.indexCast v6
  ![0, 0, 0, v7.toNat]
def k0_off2 (k0_t1 : Fin k0_t1_loop.trips) : Fin 3 → Nat :=
  let c0_15 : Index := 0#32
  let c0_i32_9 : BitVec 32 := 0#32
  let c0_i32 : BitVec 32 := 0#32
  let c1_i32 : BitVec 32 := 1#32
  let arg20 : BitVec 32 := Scf.iv c0_i32 c1_i32 k0_t1
  let c1_i32_8 : BitVec 32 := 1#32
  let v3 : BitVec 32 := Scalar.muli arg20 c1_i32_8
  let v4 : BitVec 32 := Scalar.addi c0_i32_9 v3
  let c128_i32 : BitVec 32 := 128#32
  let v5 : BitVec 32 := Scalar.muli v4 c128_i32
  let v6 : BitVec 32 := v5
  let v13 : Index := Scalar.indexCast v6
  let c0_16 : Index := 0#32
  ![0, v13.toNat, 0]
def k0_off3 (k0_t1 : Fin k0_t1_loop.trips) : Fin 2 → Nat :=
  let c0_17 : Index := 0#32
  let c0_i32_9 : BitVec 32 := 0#32
  let c0_i32 : BitVec 32 := 0#32
  let c1_i32 : BitVec 32 := 1#32
  let arg20 : BitVec 32 := Scf.iv c0_i32 c1_i32 k0_t1
  let c1_i32_8 : BitVec 32 := 1#32
  let v3 : BitVec 32 := Scalar.muli arg20 c1_i32_8
  let v4 : BitVec 32 := Scalar.addi c0_i32_9 v3
  let c128_i32 : BitVec 32 := 128#32
  let v5 : BitVec 32 := Scalar.muli v4 c128_i32
  let v6 : BitVec 32 := v5
  let v21 : Index := Scalar.indexCast v6
  ![0, v21.toNat]
def k0_off4 (k0_t1 : Fin k0_t1_loop.trips) : Fin 2 → Nat :=
  let c0_i32_9 : BitVec 32 := 0#32
  let c0_i32 : BitVec 32 := 0#32
  let c1_i32 : BitVec 32 := 1#32
  let arg20 : BitVec 32 := Scf.iv c0_i32 c1_i32 k0_t1
  let c1_i32_8 : BitVec 32 := 1#32
  let v3 : BitVec 32 := Scalar.muli arg20 c1_i32_8
  let v4 : BitVec 32 := Scalar.addi c0_i32_9 v3
  let c128_i32 : BitVec 32 := 128#32
  let v5 : BitVec 32 := Scalar.muli v4 c128_i32
  let v6 : BitVec 32 := v5
  let v40 : Index := Scalar.indexCast v6
  let c0_21 : Index := 0#32
  ![v40.toNat, 0]
@[reducible] def k0_t2_loop : Scf.Loop 32 :=
  let c0_i32_1 : BitVec 32 := 0#32
  let c16_i32 : BitVec 32 := 16#32
  let v1 : BitVec 32 := Scalar.addi c0_i32_1 c16_i32
  let c1_i32_2 : BitVec 32 := 1#32
  ⟨c0_i32_1, v1, c1_i32_2⟩
def k0_mult2 (k0_t2 : Fin k0_t2_loop.trips) : BitVec 32 :=
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  v5
def k0_off5 (k0_t2 : Fin k0_t2_loop.trips) : Fin 3 → Nat :=
  let c0 : Index := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let v24 : Index := Scalar.indexCast v6
  let c0_16 : Index := 0#32
  ![0, v24.toNat, 0]
def k0_off6 (k0_t2 : Fin k0_t2_loop.trips) : Fin 4 → Nat :=
  let c0_19 : Index := 0#32
  let c0_20 : Index := 0#32
  let c0_21 : Index := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let v30 : Index := Scalar.indexCast v6
  ![0, 0, 0, v30.toNat]
@[reducible] def k0_t3_loop (k0_t2 : Fin k0_t2_loop.trips) : Scf.Loop 32 :=
  let c0_i32_26 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v39 : BitVec 32 := Scalar.subi v23 c0_i32_26
  let c1_i32_27 : BitVec 32 := 1#32
  let v41 : BitVec 32 := Scalar.divsi v39 c1_i32_27
  let v42 : BitVec 32 := Scalar.muli v41 c1_i32_27
  let v43 : BitVec 32 := Scalar.addi c0_i32_26 v42
  let c1_i32_28 : BitVec 32 := 1#32
  ⟨c0_i32_26, v43, c1_i32_28⟩
def k0_mult3 (k0_t2 : Fin k0_t2_loop.trips) (k0_t3 : Fin (k0_t3_loop k0_t2).trips) : BitVec 32 :=
  let c0_i32_26 : BitVec 32 := 0#32
  let c1_i32_28 : BitVec 32 := 1#32
  let arg21 : BitVec 32 := Scf.iv c0_i32_26 c1_i32_28 k0_t3
  let c512_i32_204 : BitVec 32 := 512#32
  let v472 : BitVec 32 := Scalar.muli arg21 c512_i32_204
  v472
def k0_off7 (k0_t2 : Fin k0_t2_loop.trips) (k0_t3 : Fin (k0_t3_loop k0_t2).trips) : Fin 3 → Nat :=
  let c0_205 : Index := 0#32
  let c0_i32_26 : BitVec 32 := 0#32
  let c1_i32_28 : BitVec 32 := 1#32
  let arg21 : BitVec 32 := Scf.iv c0_i32_26 c1_i32_28 k0_t3
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off8 (k0_t2 : Fin k0_t2_loop.trips) (k0_t3 : Fin (k0_t3_loop k0_t2).trips) : Fin 2 → Nat :=
  let c0_i32_26 : BitVec 32 := 0#32
  let c1_i32_28 : BitVec 32 := 1#32
  let arg21 : BitVec 32 := Scf.iv c0_i32_26 c1_i32_28 k0_t3
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off9 (k0_t2 : Fin k0_t2_loop.trips) (k0_t3 : Fin (k0_t3_loop k0_t2).trips) : Fin 2 → Nat :=
  let c0_i32_26 : BitVec 32 := 0#32
  let c1_i32_28 : BitVec 32 := 1#32
  let arg21 : BitVec 32 := Scf.iv c0_i32_26 c1_i32_28 k0_t3
  let c512_i32_204 : BitVec 32 := 512#32
  let v472 : BitVec 32 := Scalar.muli arg21 c512_i32_204
  let v473 : BitVec 32 := v472
  let v484 : Index := Scalar.indexCast v473
  let c0_209 : Index := 0#32
  ![v484.toNat, 0]
@[reducible] def k0_t4_loop (k0_t2 : Fin k0_t2_loop.trips) : Scf.Loop 32 :=
  let c0_i32_26 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v39 : BitVec 32 := Scalar.subi v23 c0_i32_26
  let c1_i32_27 : BitVec 32 := 1#32
  let v41 : BitVec 32 := Scalar.divsi v39 c1_i32_27
  let v42 : BitVec 32 := Scalar.muli v41 c1_i32_27
  let v43 : BitVec 32 := Scalar.addi c0_i32_26 v42
  let v40 : BitVec 32 := Scalar.addi c0_i32_26 v39
  let c1_i32_29 : BitVec 32 := 1#32
  ⟨v43, v40, c1_i32_29⟩
def k0_mult4 (k0_t2 : Fin k0_t2_loop.trips) (k0_t4 : Fin (k0_t4_loop k0_t2).trips) : BitVec 32 :=
  let c0_i32_26 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v39 : BitVec 32 := Scalar.subi v23 c0_i32_26
  let c1_i32_27 : BitVec 32 := 1#32
  let v41 : BitVec 32 := Scalar.divsi v39 c1_i32_27
  let v42 : BitVec 32 := Scalar.muli v41 c1_i32_27
  let v43 : BitVec 32 := Scalar.addi c0_i32_26 v42
  let c1_i32_29 : BitVec 32 := 1#32
  let arg21 : BitVec 32 := Scf.iv v43 c1_i32_29 k0_t4
  let c512_i32_204 : BitVec 32 := 512#32
  let v472 : BitVec 32 := Scalar.muli arg21 c512_i32_204
  v472
def k0_off10 (k0_t2 : Fin k0_t2_loop.trips) (k0_t4 : Fin (k0_t4_loop k0_t2).trips) : Fin 3 → Nat :=
  let c0_205 : Index := 0#32
  let c0_i32_26 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v39 : BitVec 32 := Scalar.subi v23 c0_i32_26
  let c1_i32_27 : BitVec 32 := 1#32
  let v41 : BitVec 32 := Scalar.divsi v39 c1_i32_27
  let v42 : BitVec 32 := Scalar.muli v41 c1_i32_27
  let v43 : BitVec 32 := Scalar.addi c0_i32_26 v42
  let c1_i32_29 : BitVec 32 := 1#32
  let arg21 : BitVec 32 := Scf.iv v43 c1_i32_29 k0_t4
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off11 (k0_t2 : Fin k0_t2_loop.trips) (k0_t4 : Fin (k0_t4_loop k0_t2).trips) : Fin 2 → Nat :=
  let c0_i32_26 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v39 : BitVec 32 := Scalar.subi v23 c0_i32_26
  let c1_i32_27 : BitVec 32 := 1#32
  let v41 : BitVec 32 := Scalar.divsi v39 c1_i32_27
  let v42 : BitVec 32 := Scalar.muli v41 c1_i32_27
  let v43 : BitVec 32 := Scalar.addi c0_i32_26 v42
  let c1_i32_29 : BitVec 32 := 1#32
  let arg21 : BitVec 32 := Scf.iv v43 c1_i32_29 k0_t4
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off12 (k0_t2 : Fin k0_t2_loop.trips) (k0_t4 : Fin (k0_t4_loop k0_t2).trips) : Fin 2 → Nat :=
  let c0_i32_26 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v39 : BitVec 32 := Scalar.subi v23 c0_i32_26
  let c1_i32_27 : BitVec 32 := 1#32
  let v41 : BitVec 32 := Scalar.divsi v39 c1_i32_27
  let v42 : BitVec 32 := Scalar.muli v41 c1_i32_27
  let v43 : BitVec 32 := Scalar.addi c0_i32_26 v42
  let c1_i32_29 : BitVec 32 := 1#32
  let arg21 : BitVec 32 := Scf.iv v43 c1_i32_29 k0_t4
  let c512_i32_204 : BitVec 32 := 512#32
  let v472 : BitVec 32 := Scalar.muli arg21 c512_i32_204
  let v473 : BitVec 32 := v472
  let v484 : Index := Scalar.indexCast v473
  let c0_209 : Index := 0#32
  ![v484.toNat, 0]
def k0_mult5 (k0_t2 : Fin k0_t2_loop.trips) : BitVec 32 :=
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c512_i32_30 : BitVec 32 := 512#32
  let v46 : BitVec 32 := Scalar.muli v23 c512_i32_30
  v46
def k0_off13 (k0_t2 : Fin k0_t2_loop.trips) : Fin 3 → Nat :=
  let c0_31 : Index := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c512_i32_30 : BitVec 32 := 512#32
  let v46 : BitVec 32 := Scalar.muli v23 c512_i32_30
  let v47 : BitVec 32 := v46
  let v48 : Index := Scalar.indexCast v47
  let c0_32 : Index := 0#32
  ![0, v48.toNat, 0]
def k0_off14 (k0_t2 : Fin k0_t2_loop.trips) : Fin 2 → Nat :=
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c512_i32_30 : BitVec 32 := 512#32
  let v46 : BitVec 32 := Scalar.muli v23 c512_i32_30
  let v47 : BitVec 32 := v46
  let v52 : Index := Scalar.indexCast v47
  let c0_34 : Index := 0#32
  ![v52.toNat, 0]
def k0_off15 (k0_t2 : Fin k0_t2_loop.trips) : Fin 2 → Nat :=
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c512_i32_30 : BitVec 32 := 512#32
  let v46 : BitVec 32 := Scalar.muli v23 c512_i32_30
  let v47 : BitVec 32 := v46
  let v68 : Index := Scalar.indexCast v47
  let c0_37 : Index := 0#32
  ![v68.toNat, 0]
@[reducible] def k0_t5_loop (k0_t2 : Fin k0_t2_loop.trips) : Scf.Loop 32 :=
  let c0_i32_41 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_39 : BitVec 32 := 1#32
  let v75 : BitVec 32 := Scalar.addi v23 c1_i32_39
  let v77 : BitVec 32 := Scalar.subi v75 c0_i32_41
  let c1_i32_42 : BitVec 32 := 1#32
  let v79 : BitVec 32 := Scalar.divsi v77 c1_i32_42
  let v80 : BitVec 32 := Scalar.muli v79 c1_i32_42
  let v81 : BitVec 32 := Scalar.addi c0_i32_41 v80
  let c1_i32_43 : BitVec 32 := 1#32
  ⟨c0_i32_41, v81, c1_i32_43⟩
def k0_mult6 (k0_t2 : Fin k0_t2_loop.trips) (k0_t5 : Fin (k0_t5_loop k0_t2).trips) : BitVec 32 :=
  let c0_i32_41 : BitVec 32 := 0#32
  let c1_i32_43 : BitVec 32 := 1#32
  let arg21 : BitVec 32 := Scf.iv c0_i32_41 c1_i32_43 k0_t5
  let c512_i32_204 : BitVec 32 := 512#32
  let v472 : BitVec 32 := Scalar.muli arg21 c512_i32_204
  v472
def k0_off16 (k0_t2 : Fin k0_t2_loop.trips) (k0_t5 : Fin (k0_t5_loop k0_t2).trips) : Fin 2 → Nat :=
  let c0_i32_41 : BitVec 32 := 0#32
  let c1_i32_43 : BitVec 32 := 1#32
  let arg21 : BitVec 32 := Scf.iv c0_i32_41 c1_i32_43 k0_t5
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
@[reducible] def k0_t6_loop (k0_t2 : Fin k0_t2_loop.trips) : Scf.Loop 32 :=
  let c0_i32_41 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_39 : BitVec 32 := 1#32
  let v75 : BitVec 32 := Scalar.addi v23 c1_i32_39
  let v77 : BitVec 32 := Scalar.subi v75 c0_i32_41
  let c1_i32_42 : BitVec 32 := 1#32
  let v79 : BitVec 32 := Scalar.divsi v77 c1_i32_42
  let v80 : BitVec 32 := Scalar.muli v79 c1_i32_42
  let v81 : BitVec 32 := Scalar.addi c0_i32_41 v80
  let v78 : BitVec 32 := Scalar.addi c0_i32_41 v77
  let c1_i32_44 : BitVec 32 := 1#32
  ⟨v81, v78, c1_i32_44⟩
def k0_mult7 (k0_t2 : Fin k0_t2_loop.trips) (k0_t6 : Fin (k0_t6_loop k0_t2).trips) : BitVec 32 :=
  let c0_i32_41 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_39 : BitVec 32 := 1#32
  let v75 : BitVec 32 := Scalar.addi v23 c1_i32_39
  let v77 : BitVec 32 := Scalar.subi v75 c0_i32_41
  let c1_i32_42 : BitVec 32 := 1#32
  let v79 : BitVec 32 := Scalar.divsi v77 c1_i32_42
  let v80 : BitVec 32 := Scalar.muli v79 c1_i32_42
  let v81 : BitVec 32 := Scalar.addi c0_i32_41 v80
  let c1_i32_44 : BitVec 32 := 1#32
  let arg21 : BitVec 32 := Scf.iv v81 c1_i32_44 k0_t6
  let c512_i32_204 : BitVec 32 := 512#32
  let v472 : BitVec 32 := Scalar.muli arg21 c512_i32_204
  v472
def k0_off17 (k0_t2 : Fin k0_t2_loop.trips) (k0_t6 : Fin (k0_t6_loop k0_t2).trips) : Fin 2 → Nat :=
  let c0_i32_41 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_39 : BitVec 32 := 1#32
  let v75 : BitVec 32 := Scalar.addi v23 c1_i32_39
  let v77 : BitVec 32 := Scalar.subi v75 c0_i32_41
  let c1_i32_42 : BitVec 32 := 1#32
  let v79 : BitVec 32 := Scalar.divsi v77 c1_i32_42
  let v80 : BitVec 32 := Scalar.muli v79 c1_i32_42
  let v81 : BitVec 32 := Scalar.addi c0_i32_41 v80
  let c1_i32_44 : BitVec 32 := 1#32
  let arg21 : BitVec 32 := Scf.iv v81 c1_i32_44 k0_t6
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
@[reducible] def k0_t7_loop (k0_t2 : Fin k0_t2_loop.trips) : Scf.Loop 32 :=
  let c0_i32_48 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_46 : BitVec 32 := 1#32
  let v95 : BitVec 32 := Scalar.addi v23 c1_i32_46
  let v97 : BitVec 32 := Scalar.subi v95 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_50 : BitVec 32 := 1#32
  ⟨c0_i32_48, v101, c1_i32_50⟩
def k0_mult8 (k0_t2 : Fin k0_t2_loop.trips) (k0_t7 : Fin (k0_t7_loop k0_t2).trips) : BitVec 32 :=
  let c0_i32_48 : BitVec 32 := 0#32
  let c1_i32_50 : BitVec 32 := 1#32
  let arg21 : BitVec 32 := Scf.iv c0_i32_48 c1_i32_50 k0_t7
  let c512_i32_204 : BitVec 32 := 512#32
  let v472 : BitVec 32 := Scalar.muli arg21 c512_i32_204
  v472
def k0_off18 (k0_t2 : Fin k0_t2_loop.trips) (k0_t7 : Fin (k0_t7_loop k0_t2).trips) : Fin 2 → Nat :=
  let c0_i32_48 : BitVec 32 := 0#32
  let c1_i32_50 : BitVec 32 := 1#32
  let arg21 : BitVec 32 := Scf.iv c0_i32_48 c1_i32_50 k0_t7
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
def k0_off19 (k0_t2 : Fin k0_t2_loop.trips) (k0_t7 : Fin (k0_t7_loop k0_t2).trips) : Fin 2 → Nat :=
  let c0_209 : Index := 0#32
  let c0_i32_48 : BitVec 32 := 0#32
  let c1_i32_50 : BitVec 32 := 1#32
  let arg21 : BitVec 32 := Scf.iv c0_i32_48 c1_i32_50 k0_t7
  let c512_i32_204 : BitVec 32 := 512#32
  let v472 : BitVec 32 := Scalar.muli arg21 c512_i32_204
  let v473 : BitVec 32 := v472
  let v487 : Index := Scalar.indexCast v473
  ![0, v487.toNat]
@[reducible] def k0_t8_loop (k0_t2 : Fin k0_t2_loop.trips) : Scf.Loop 32 :=
  let c0_i32_48 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_46 : BitVec 32 := 1#32
  let v95 : BitVec 32 := Scalar.addi v23 c1_i32_46
  let v97 : BitVec 32 := Scalar.subi v95 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let v98 : BitVec 32 := Scalar.addi c0_i32_48 v97
  let c1_i32_51 : BitVec 32 := 1#32
  ⟨v101, v98, c1_i32_51⟩
def k0_mult9 (k0_t2 : Fin k0_t2_loop.trips) (k0_t8 : Fin (k0_t8_loop k0_t2).trips) : BitVec 32 :=
  let c0_i32_48 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_46 : BitVec 32 := 1#32
  let v95 : BitVec 32 := Scalar.addi v23 c1_i32_46
  let v97 : BitVec 32 := Scalar.subi v95 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg21 : BitVec 32 := Scf.iv v101 c1_i32_51 k0_t8
  let c512_i32_204 : BitVec 32 := 512#32
  let v472 : BitVec 32 := Scalar.muli arg21 c512_i32_204
  v472
def k0_off20 (k0_t2 : Fin k0_t2_loop.trips) (k0_t8 : Fin (k0_t8_loop k0_t2).trips) : Fin 2 → Nat :=
  let c0_i32_48 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_46 : BitVec 32 := 1#32
  let v95 : BitVec 32 := Scalar.addi v23 c1_i32_46
  let v97 : BitVec 32 := Scalar.subi v95 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg21 : BitVec 32 := Scf.iv v101 c1_i32_51 k0_t8
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
def k0_off21 (k0_t2 : Fin k0_t2_loop.trips) (k0_t8 : Fin (k0_t8_loop k0_t2).trips) : Fin 2 → Nat :=
  let c0_209 : Index := 0#32
  let c0_i32_48 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_46 : BitVec 32 := 1#32
  let v95 : BitVec 32 := Scalar.addi v23 c1_i32_46
  let v97 : BitVec 32 := Scalar.subi v95 c0_i32_48
  let c1_i32_49 : BitVec 32 := 1#32
  let v99 : BitVec 32 := Scalar.divsi v97 c1_i32_49
  let v100 : BitVec 32 := Scalar.muli v99 c1_i32_49
  let v101 : BitVec 32 := Scalar.addi c0_i32_48 v100
  let c1_i32_51 : BitVec 32 := 1#32
  let arg21 : BitVec 32 := Scf.iv v101 c1_i32_51 k0_t8
  let c512_i32_204 : BitVec 32 := 512#32
  let v472 : BitVec 32 := Scalar.muli arg21 c512_i32_204
  let v473 : BitVec 32 := v472
  let v487 : Index := Scalar.indexCast v473
  ![0, v487.toNat]
@[reducible] def k0_t9_loop (k0_t2 : Fin k0_t2_loop.trips) : Scf.Loop 32 :=
  let c0_i32_56 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_54 : BitVec 32 := 1#32
  let v117 : BitVec 32 := Scalar.addi v23 c1_i32_54
  let v119 : BitVec 32 := Scalar.subi v117 c0_i32_56
  let c1_i32_57 : BitVec 32 := 1#32
  let v121 : BitVec 32 := Scalar.divsi v119 c1_i32_57
  let v122 : BitVec 32 := Scalar.muli v121 c1_i32_57
  let v123 : BitVec 32 := Scalar.addi c0_i32_56 v122
  let c1_i32_58 : BitVec 32 := 1#32
  ⟨c0_i32_56, v123, c1_i32_58⟩
def k0_mult10 (k0_t2 : Fin k0_t2_loop.trips) (k0_t9 : Fin (k0_t9_loop k0_t2).trips) : BitVec 32 :=
  let c0_i32_56 : BitVec 32 := 0#32
  let c1_i32_58 : BitVec 32 := 1#32
  let arg21 : BitVec 32 := Scf.iv c0_i32_56 c1_i32_58 k0_t9
  let c512_i32_204 : BitVec 32 := 512#32
  let v472 : BitVec 32 := Scalar.muli arg21 c512_i32_204
  v472
def k0_off22 (k0_t2 : Fin k0_t2_loop.trips) (k0_t9 : Fin (k0_t9_loop k0_t2).trips) : Fin 3 → Nat :=
  let c0_205 : Index := 0#32
  let c0_i32_56 : BitVec 32 := 0#32
  let c1_i32_58 : BitVec 32 := 1#32
  let arg21 : BitVec 32 := Scf.iv c0_i32_56 c1_i32_58 k0_t9
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off23 (k0_t2 : Fin k0_t2_loop.trips) (k0_t9 : Fin (k0_t9_loop k0_t2).trips) : Fin 2 → Nat :=
  let c0_i32_56 : BitVec 32 := 0#32
  let c1_i32_58 : BitVec 32 := 1#32
  let arg21 : BitVec 32 := Scf.iv c0_i32_56 c1_i32_58 k0_t9
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off24 (k0_t2 : Fin k0_t2_loop.trips) (k0_t9 : Fin (k0_t9_loop k0_t2).trips) : Fin 2 → Nat :=
  let c0_i32_56 : BitVec 32 := 0#32
  let c1_i32_58 : BitVec 32 := 1#32
  let arg21 : BitVec 32 := Scf.iv c0_i32_56 c1_i32_58 k0_t9
  let c512_i32_204 : BitVec 32 := 512#32
  let v472 : BitVec 32 := Scalar.muli arg21 c512_i32_204
  let v473 : BitVec 32 := v472
  let v482 : Index := Scalar.indexCast v473
  let c0_209 : Index := 0#32
  ![v482.toNat, 0]
def k0_off25 (k0_t2 : Fin k0_t2_loop.trips) (k0_t9 : Fin (k0_t9_loop k0_t2).trips) : Fin 2 → Nat :=
  let c0_210 : Index := 0#32
  let c0_i32_56 : BitVec 32 := 0#32
  let c1_i32_58 : BitVec 32 := 1#32
  let arg21 : BitVec 32 := Scf.iv c0_i32_56 c1_i32_58 k0_t9
  let c512_i32_204 : BitVec 32 := 512#32
  let v472 : BitVec 32 := Scalar.muli arg21 c512_i32_204
  let v473 : BitVec 32 := v472
  let v488 : Index := Scalar.indexCast v473
  ![0, v488.toNat]
@[reducible] def k0_t10_loop (k0_t2 : Fin k0_t2_loop.trips) : Scf.Loop 32 :=
  let c0_i32_56 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_54 : BitVec 32 := 1#32
  let v117 : BitVec 32 := Scalar.addi v23 c1_i32_54
  let v119 : BitVec 32 := Scalar.subi v117 c0_i32_56
  let c1_i32_57 : BitVec 32 := 1#32
  let v121 : BitVec 32 := Scalar.divsi v119 c1_i32_57
  let v122 : BitVec 32 := Scalar.muli v121 c1_i32_57
  let v123 : BitVec 32 := Scalar.addi c0_i32_56 v122
  let v120 : BitVec 32 := Scalar.addi c0_i32_56 v119
  let c1_i32_59 : BitVec 32 := 1#32
  ⟨v123, v120, c1_i32_59⟩
def k0_mult11 (k0_t2 : Fin k0_t2_loop.trips) (k0_t10 : Fin (k0_t10_loop k0_t2).trips) : BitVec 32 :=
  let c0_i32_56 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_54 : BitVec 32 := 1#32
  let v117 : BitVec 32 := Scalar.addi v23 c1_i32_54
  let v119 : BitVec 32 := Scalar.subi v117 c0_i32_56
  let c1_i32_57 : BitVec 32 := 1#32
  let v121 : BitVec 32 := Scalar.divsi v119 c1_i32_57
  let v122 : BitVec 32 := Scalar.muli v121 c1_i32_57
  let v123 : BitVec 32 := Scalar.addi c0_i32_56 v122
  let c1_i32_59 : BitVec 32 := 1#32
  let arg21 : BitVec 32 := Scf.iv v123 c1_i32_59 k0_t10
  let c512_i32_204 : BitVec 32 := 512#32
  let v472 : BitVec 32 := Scalar.muli arg21 c512_i32_204
  v472
def k0_off26 (k0_t2 : Fin k0_t2_loop.trips) (k0_t10 : Fin (k0_t10_loop k0_t2).trips) : Fin 3 → Nat :=
  let c0_205 : Index := 0#32
  let c0_i32_56 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_54 : BitVec 32 := 1#32
  let v117 : BitVec 32 := Scalar.addi v23 c1_i32_54
  let v119 : BitVec 32 := Scalar.subi v117 c0_i32_56
  let c1_i32_57 : BitVec 32 := 1#32
  let v121 : BitVec 32 := Scalar.divsi v119 c1_i32_57
  let v122 : BitVec 32 := Scalar.muli v121 c1_i32_57
  let v123 : BitVec 32 := Scalar.addi c0_i32_56 v122
  let c1_i32_59 : BitVec 32 := 1#32
  let arg21 : BitVec 32 := Scf.iv v123 c1_i32_59 k0_t10
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off27 (k0_t2 : Fin k0_t2_loop.trips) (k0_t10 : Fin (k0_t10_loop k0_t2).trips) : Fin 2 → Nat :=
  let c0_i32_56 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_54 : BitVec 32 := 1#32
  let v117 : BitVec 32 := Scalar.addi v23 c1_i32_54
  let v119 : BitVec 32 := Scalar.subi v117 c0_i32_56
  let c1_i32_57 : BitVec 32 := 1#32
  let v121 : BitVec 32 := Scalar.divsi v119 c1_i32_57
  let v122 : BitVec 32 := Scalar.muli v121 c1_i32_57
  let v123 : BitVec 32 := Scalar.addi c0_i32_56 v122
  let c1_i32_59 : BitVec 32 := 1#32
  let arg21 : BitVec 32 := Scf.iv v123 c1_i32_59 k0_t10
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off28 (k0_t2 : Fin k0_t2_loop.trips) (k0_t10 : Fin (k0_t10_loop k0_t2).trips) : Fin 2 → Nat :=
  let c0_i32_56 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_54 : BitVec 32 := 1#32
  let v117 : BitVec 32 := Scalar.addi v23 c1_i32_54
  let v119 : BitVec 32 := Scalar.subi v117 c0_i32_56
  let c1_i32_57 : BitVec 32 := 1#32
  let v121 : BitVec 32 := Scalar.divsi v119 c1_i32_57
  let v122 : BitVec 32 := Scalar.muli v121 c1_i32_57
  let v123 : BitVec 32 := Scalar.addi c0_i32_56 v122
  let c1_i32_59 : BitVec 32 := 1#32
  let arg21 : BitVec 32 := Scf.iv v123 c1_i32_59 k0_t10
  let c512_i32_204 : BitVec 32 := 512#32
  let v472 : BitVec 32 := Scalar.muli arg21 c512_i32_204
  let v473 : BitVec 32 := v472
  let v482 : Index := Scalar.indexCast v473
  let c0_209 : Index := 0#32
  ![v482.toNat, 0]
def k0_off29 (k0_t2 : Fin k0_t2_loop.trips) (k0_t10 : Fin (k0_t10_loop k0_t2).trips) : Fin 2 → Nat :=
  let c0_210 : Index := 0#32
  let c0_i32_56 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_54 : BitVec 32 := 1#32
  let v117 : BitVec 32 := Scalar.addi v23 c1_i32_54
  let v119 : BitVec 32 := Scalar.subi v117 c0_i32_56
  let c1_i32_57 : BitVec 32 := 1#32
  let v121 : BitVec 32 := Scalar.divsi v119 c1_i32_57
  let v122 : BitVec 32 := Scalar.muli v121 c1_i32_57
  let v123 : BitVec 32 := Scalar.addi c0_i32_56 v122
  let c1_i32_59 : BitVec 32 := 1#32
  let arg21 : BitVec 32 := Scf.iv v123 c1_i32_59 k0_t10
  let c512_i32_204 : BitVec 32 := 512#32
  let v472 : BitVec 32 := Scalar.muli arg21 c512_i32_204
  let v473 : BitVec 32 := v472
  let v488 : Index := Scalar.indexCast v473
  ![0, v488.toNat]
def k0_off30 (k0_t2 : Fin k0_t2_loop.trips) : Fin 3 → Nat :=
  let c0_63 : Index := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let v136 : Index := Scalar.indexCast v6
  let c128 : Index := 128#32
  ![0, v136.toNat, 128]
def k0_off31 (k0_t2 : Fin k0_t2_loop.trips) : Fin 4 → Nat :=
  let c0_66 : Index := 0#32
  let c0_67 : Index := 0#32
  let c1 : Index := 1#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let v142 : Index := Scalar.indexCast v6
  ![0, 0, 1, v142.toNat]
@[reducible] def k0_t11_loop (k0_t2 : Fin k0_t2_loop.trips) : Scf.Loop 32 :=
  let c0_i32_73 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v151 : BitVec 32 := Scalar.subi v23 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_75 : BitVec 32 := 1#32
  ⟨c0_i32_73, v155, c1_i32_75⟩
def k0_mult12 (k0_t2 : Fin k0_t2_loop.trips) (k0_t11 : Fin (k0_t11_loop k0_t2).trips) : BitVec 32 :=
  let c0_i32_73 : BitVec 32 := 0#32
  let c1_i32_75 : BitVec 32 := 1#32
  let arg21 : BitVec 32 := Scf.iv c0_i32_73 c1_i32_75 k0_t11
  let c512_i32_204 : BitVec 32 := 512#32
  let v472 : BitVec 32 := Scalar.muli arg21 c512_i32_204
  v472
def k0_off32 (k0_t2 : Fin k0_t2_loop.trips) (k0_t11 : Fin (k0_t11_loop k0_t2).trips) : Fin 3 → Nat :=
  let c0_205 : Index := 0#32
  let c0_i32_73 : BitVec 32 := 0#32
  let c1_i32_75 : BitVec 32 := 1#32
  let arg21 : BitVec 32 := Scf.iv c0_i32_73 c1_i32_75 k0_t11
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off33 (k0_t2 : Fin k0_t2_loop.trips) (k0_t11 : Fin (k0_t11_loop k0_t2).trips) : Fin 2 → Nat :=
  let c0_i32_73 : BitVec 32 := 0#32
  let c1_i32_75 : BitVec 32 := 1#32
  let arg21 : BitVec 32 := Scf.iv c0_i32_73 c1_i32_75 k0_t11
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off34 (k0_t2 : Fin k0_t2_loop.trips) (k0_t11 : Fin (k0_t11_loop k0_t2).trips) : Fin 2 → Nat :=
  let c0_i32_73 : BitVec 32 := 0#32
  let c1_i32_75 : BitVec 32 := 1#32
  let arg21 : BitVec 32 := Scf.iv c0_i32_73 c1_i32_75 k0_t11
  let c512_i32_204 : BitVec 32 := 512#32
  let v472 : BitVec 32 := Scalar.muli arg21 c512_i32_204
  let v473 : BitVec 32 := v472
  let v484 : Index := Scalar.indexCast v473
  let c0_209 : Index := 0#32
  ![v484.toNat, 0]
@[reducible] def k0_t12_loop (k0_t2 : Fin k0_t2_loop.trips) : Scf.Loop 32 :=
  let c0_i32_73 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v151 : BitVec 32 := Scalar.subi v23 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let v152 : BitVec 32 := Scalar.addi c0_i32_73 v151
  let c1_i32_76 : BitVec 32 := 1#32
  ⟨v155, v152, c1_i32_76⟩
def k0_mult13 (k0_t2 : Fin k0_t2_loop.trips) (k0_t12 : Fin (k0_t12_loop k0_t2).trips) : BitVec 32 :=
  let c0_i32_73 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v151 : BitVec 32 := Scalar.subi v23 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg21 : BitVec 32 := Scf.iv v155 c1_i32_76 k0_t12
  let c512_i32_204 : BitVec 32 := 512#32
  let v472 : BitVec 32 := Scalar.muli arg21 c512_i32_204
  v472
def k0_off35 (k0_t2 : Fin k0_t2_loop.trips) (k0_t12 : Fin (k0_t12_loop k0_t2).trips) : Fin 3 → Nat :=
  let c0_205 : Index := 0#32
  let c0_i32_73 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v151 : BitVec 32 := Scalar.subi v23 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg21 : BitVec 32 := Scf.iv v155 c1_i32_76 k0_t12
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off36 (k0_t2 : Fin k0_t2_loop.trips) (k0_t12 : Fin (k0_t12_loop k0_t2).trips) : Fin 2 → Nat :=
  let c0_i32_73 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v151 : BitVec 32 := Scalar.subi v23 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg21 : BitVec 32 := Scf.iv v155 c1_i32_76 k0_t12
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off37 (k0_t2 : Fin k0_t2_loop.trips) (k0_t12 : Fin (k0_t12_loop k0_t2).trips) : Fin 2 → Nat :=
  let c0_i32_73 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v151 : BitVec 32 := Scalar.subi v23 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg21 : BitVec 32 := Scf.iv v155 c1_i32_76 k0_t12
  let c512_i32_204 : BitVec 32 := 512#32
  let v472 : BitVec 32 := Scalar.muli arg21 c512_i32_204
  let v473 : BitVec 32 := v472
  let v484 : Index := Scalar.indexCast v473
  let c0_209 : Index := 0#32
  ![v484.toNat, 0]
def k0_mult14 (k0_t2 : Fin k0_t2_loop.trips) : BitVec 32 :=
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c512_i32_77 : BitVec 32 := 512#32
  let v158 : BitVec 32 := Scalar.muli v23 c512_i32_77
  v158
@[reducible] def k0_t13_loop (k0_t2 : Fin k0_t2_loop.trips) : Scf.Loop 32 :=
  let c0_i32_88 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_86 : BitVec 32 := 1#32
  let v187 : BitVec 32 := Scalar.addi v23 c1_i32_86
  let v189 : BitVec 32 := Scalar.subi v187 c0_i32_88
  let c1_i32_89 : BitVec 32 := 1#32
  let v191 : BitVec 32 := Scalar.divsi v189 c1_i32_89
  let v192 : BitVec 32 := Scalar.muli v191 c1_i32_89
  let v193 : BitVec 32 := Scalar.addi c0_i32_88 v192
  let c1_i32_90 : BitVec 32 := 1#32
  ⟨c0_i32_88, v193, c1_i32_90⟩
def k0_mult15 (k0_t2 : Fin k0_t2_loop.trips) (k0_t13 : Fin (k0_t13_loop k0_t2).trips) : BitVec 32 :=
  let c0_i32_88 : BitVec 32 := 0#32
  let c1_i32_90 : BitVec 32 := 1#32
  let arg21 : BitVec 32 := Scf.iv c0_i32_88 c1_i32_90 k0_t13
  let c512_i32_204 : BitVec 32 := 512#32
  let v472 : BitVec 32 := Scalar.muli arg21 c512_i32_204
  v472
def k0_off38 (k0_t2 : Fin k0_t2_loop.trips) (k0_t13 : Fin (k0_t13_loop k0_t2).trips) : Fin 2 → Nat :=
  let c0_i32_88 : BitVec 32 := 0#32
  let c1_i32_90 : BitVec 32 := 1#32
  let arg21 : BitVec 32 := Scf.iv c0_i32_88 c1_i32_90 k0_t13
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
@[reducible] def k0_t14_loop (k0_t2 : Fin k0_t2_loop.trips) : Scf.Loop 32 :=
  let c0_i32_88 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_86 : BitVec 32 := 1#32
  let v187 : BitVec 32 := Scalar.addi v23 c1_i32_86
  let v189 : BitVec 32 := Scalar.subi v187 c0_i32_88
  let c1_i32_89 : BitVec 32 := 1#32
  let v191 : BitVec 32 := Scalar.divsi v189 c1_i32_89
  let v192 : BitVec 32 := Scalar.muli v191 c1_i32_89
  let v193 : BitVec 32 := Scalar.addi c0_i32_88 v192
  let v190 : BitVec 32 := Scalar.addi c0_i32_88 v189
  let c1_i32_91 : BitVec 32 := 1#32
  ⟨v193, v190, c1_i32_91⟩
def k0_mult16 (k0_t2 : Fin k0_t2_loop.trips) (k0_t14 : Fin (k0_t14_loop k0_t2).trips) : BitVec 32 :=
  let c0_i32_88 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_86 : BitVec 32 := 1#32
  let v187 : BitVec 32 := Scalar.addi v23 c1_i32_86
  let v189 : BitVec 32 := Scalar.subi v187 c0_i32_88
  let c1_i32_89 : BitVec 32 := 1#32
  let v191 : BitVec 32 := Scalar.divsi v189 c1_i32_89
  let v192 : BitVec 32 := Scalar.muli v191 c1_i32_89
  let v193 : BitVec 32 := Scalar.addi c0_i32_88 v192
  let c1_i32_91 : BitVec 32 := 1#32
  let arg21 : BitVec 32 := Scf.iv v193 c1_i32_91 k0_t14
  let c512_i32_204 : BitVec 32 := 512#32
  let v472 : BitVec 32 := Scalar.muli arg21 c512_i32_204
  v472
def k0_off39 (k0_t2 : Fin k0_t2_loop.trips) (k0_t14 : Fin (k0_t14_loop k0_t2).trips) : Fin 2 → Nat :=
  let c0_i32_88 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_86 : BitVec 32 := 1#32
  let v187 : BitVec 32 := Scalar.addi v23 c1_i32_86
  let v189 : BitVec 32 := Scalar.subi v187 c0_i32_88
  let c1_i32_89 : BitVec 32 := 1#32
  let v191 : BitVec 32 := Scalar.divsi v189 c1_i32_89
  let v192 : BitVec 32 := Scalar.muli v191 c1_i32_89
  let v193 : BitVec 32 := Scalar.addi c0_i32_88 v192
  let c1_i32_91 : BitVec 32 := 1#32
  let arg21 : BitVec 32 := Scf.iv v193 c1_i32_91 k0_t14
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
@[reducible] def k0_t15_loop (k0_t2 : Fin k0_t2_loop.trips) : Scf.Loop 32 :=
  let c0_i32_95 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_93 : BitVec 32 := 1#32
  let v207 : BitVec 32 := Scalar.addi v23 c1_i32_93
  let v209 : BitVec 32 := Scalar.subi v207 c0_i32_95
  let c1_i32_96 : BitVec 32 := 1#32
  let v211 : BitVec 32 := Scalar.divsi v209 c1_i32_96
  let v212 : BitVec 32 := Scalar.muli v211 c1_i32_96
  let v213 : BitVec 32 := Scalar.addi c0_i32_95 v212
  let c1_i32_97 : BitVec 32 := 1#32
  ⟨c0_i32_95, v213, c1_i32_97⟩
def k0_mult17 (k0_t2 : Fin k0_t2_loop.trips) (k0_t15 : Fin (k0_t15_loop k0_t2).trips) : BitVec 32 :=
  let c0_i32_95 : BitVec 32 := 0#32
  let c1_i32_97 : BitVec 32 := 1#32
  let arg21 : BitVec 32 := Scf.iv c0_i32_95 c1_i32_97 k0_t15
  let c512_i32_204 : BitVec 32 := 512#32
  let v472 : BitVec 32 := Scalar.muli arg21 c512_i32_204
  v472
def k0_off40 (k0_t2 : Fin k0_t2_loop.trips) (k0_t15 : Fin (k0_t15_loop k0_t2).trips) : Fin 2 → Nat :=
  let c0_i32_95 : BitVec 32 := 0#32
  let c1_i32_97 : BitVec 32 := 1#32
  let arg21 : BitVec 32 := Scf.iv c0_i32_95 c1_i32_97 k0_t15
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
def k0_off41 (k0_t2 : Fin k0_t2_loop.trips) (k0_t15 : Fin (k0_t15_loop k0_t2).trips) : Fin 2 → Nat :=
  let c0_209 : Index := 0#32
  let c0_i32_95 : BitVec 32 := 0#32
  let c1_i32_97 : BitVec 32 := 1#32
  let arg21 : BitVec 32 := Scf.iv c0_i32_95 c1_i32_97 k0_t15
  let c512_i32_204 : BitVec 32 := 512#32
  let v472 : BitVec 32 := Scalar.muli arg21 c512_i32_204
  let v473 : BitVec 32 := v472
  let v487 : Index := Scalar.indexCast v473
  ![0, v487.toNat]
@[reducible] def k0_t16_loop (k0_t2 : Fin k0_t2_loop.trips) : Scf.Loop 32 :=
  let c0_i32_95 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_93 : BitVec 32 := 1#32
  let v207 : BitVec 32 := Scalar.addi v23 c1_i32_93
  let v209 : BitVec 32 := Scalar.subi v207 c0_i32_95
  let c1_i32_96 : BitVec 32 := 1#32
  let v211 : BitVec 32 := Scalar.divsi v209 c1_i32_96
  let v212 : BitVec 32 := Scalar.muli v211 c1_i32_96
  let v213 : BitVec 32 := Scalar.addi c0_i32_95 v212
  let v210 : BitVec 32 := Scalar.addi c0_i32_95 v209
  let c1_i32_98 : BitVec 32 := 1#32
  ⟨v213, v210, c1_i32_98⟩
def k0_mult18 (k0_t2 : Fin k0_t2_loop.trips) (k0_t16 : Fin (k0_t16_loop k0_t2).trips) : BitVec 32 :=
  let c0_i32_95 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_93 : BitVec 32 := 1#32
  let v207 : BitVec 32 := Scalar.addi v23 c1_i32_93
  let v209 : BitVec 32 := Scalar.subi v207 c0_i32_95
  let c1_i32_96 : BitVec 32 := 1#32
  let v211 : BitVec 32 := Scalar.divsi v209 c1_i32_96
  let v212 : BitVec 32 := Scalar.muli v211 c1_i32_96
  let v213 : BitVec 32 := Scalar.addi c0_i32_95 v212
  let c1_i32_98 : BitVec 32 := 1#32
  let arg21 : BitVec 32 := Scf.iv v213 c1_i32_98 k0_t16
  let c512_i32_204 : BitVec 32 := 512#32
  let v472 : BitVec 32 := Scalar.muli arg21 c512_i32_204
  v472
def k0_off42 (k0_t2 : Fin k0_t2_loop.trips) (k0_t16 : Fin (k0_t16_loop k0_t2).trips) : Fin 2 → Nat :=
  let c0_i32_95 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_93 : BitVec 32 := 1#32
  let v207 : BitVec 32 := Scalar.addi v23 c1_i32_93
  let v209 : BitVec 32 := Scalar.subi v207 c0_i32_95
  let c1_i32_96 : BitVec 32 := 1#32
  let v211 : BitVec 32 := Scalar.divsi v209 c1_i32_96
  let v212 : BitVec 32 := Scalar.muli v211 c1_i32_96
  let v213 : BitVec 32 := Scalar.addi c0_i32_95 v212
  let c1_i32_98 : BitVec 32 := 1#32
  let arg21 : BitVec 32 := Scf.iv v213 c1_i32_98 k0_t16
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
def k0_off43 (k0_t2 : Fin k0_t2_loop.trips) (k0_t16 : Fin (k0_t16_loop k0_t2).trips) : Fin 2 → Nat :=
  let c0_209 : Index := 0#32
  let c0_i32_95 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_93 : BitVec 32 := 1#32
  let v207 : BitVec 32 := Scalar.addi v23 c1_i32_93
  let v209 : BitVec 32 := Scalar.subi v207 c0_i32_95
  let c1_i32_96 : BitVec 32 := 1#32
  let v211 : BitVec 32 := Scalar.divsi v209 c1_i32_96
  let v212 : BitVec 32 := Scalar.muli v211 c1_i32_96
  let v213 : BitVec 32 := Scalar.addi c0_i32_95 v212
  let c1_i32_98 : BitVec 32 := 1#32
  let arg21 : BitVec 32 := Scf.iv v213 c1_i32_98 k0_t16
  let c512_i32_204 : BitVec 32 := 512#32
  let v472 : BitVec 32 := Scalar.muli arg21 c512_i32_204
  let v473 : BitVec 32 := v472
  let v487 : Index := Scalar.indexCast v473
  ![0, v487.toNat]
@[reducible] def k0_t17_loop (k0_t2 : Fin k0_t2_loop.trips) : Scf.Loop 32 :=
  let c0_i32_103 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_101 : BitVec 32 := 1#32
  let v229 : BitVec 32 := Scalar.addi v23 c1_i32_101
  let v231 : BitVec 32 := Scalar.subi v229 c0_i32_103
  let c1_i32_104 : BitVec 32 := 1#32
  let v233 : BitVec 32 := Scalar.divsi v231 c1_i32_104
  let v234 : BitVec 32 := Scalar.muli v233 c1_i32_104
  let v235 : BitVec 32 := Scalar.addi c0_i32_103 v234
  let c1_i32_105 : BitVec 32 := 1#32
  ⟨c0_i32_103, v235, c1_i32_105⟩
def k0_mult19 (k0_t2 : Fin k0_t2_loop.trips) (k0_t17 : Fin (k0_t17_loop k0_t2).trips) : BitVec 32 :=
  let c0_i32_103 : BitVec 32 := 0#32
  let c1_i32_105 : BitVec 32 := 1#32
  let arg21 : BitVec 32 := Scf.iv c0_i32_103 c1_i32_105 k0_t17
  let c512_i32_204 : BitVec 32 := 512#32
  let v472 : BitVec 32 := Scalar.muli arg21 c512_i32_204
  v472
def k0_off44 (k0_t2 : Fin k0_t2_loop.trips) (k0_t17 : Fin (k0_t17_loop k0_t2).trips) : Fin 3 → Nat :=
  let c0_205 : Index := 0#32
  let c0_i32_103 : BitVec 32 := 0#32
  let c1_i32_105 : BitVec 32 := 1#32
  let arg21 : BitVec 32 := Scf.iv c0_i32_103 c1_i32_105 k0_t17
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off45 (k0_t2 : Fin k0_t2_loop.trips) (k0_t17 : Fin (k0_t17_loop k0_t2).trips) : Fin 2 → Nat :=
  let c0_i32_103 : BitVec 32 := 0#32
  let c1_i32_105 : BitVec 32 := 1#32
  let arg21 : BitVec 32 := Scf.iv c0_i32_103 c1_i32_105 k0_t17
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off46 (k0_t2 : Fin k0_t2_loop.trips) (k0_t17 : Fin (k0_t17_loop k0_t2).trips) : Fin 2 → Nat :=
  let c0_i32_103 : BitVec 32 := 0#32
  let c1_i32_105 : BitVec 32 := 1#32
  let arg21 : BitVec 32 := Scf.iv c0_i32_103 c1_i32_105 k0_t17
  let c512_i32_204 : BitVec 32 := 512#32
  let v472 : BitVec 32 := Scalar.muli arg21 c512_i32_204
  let v473 : BitVec 32 := v472
  let v482 : Index := Scalar.indexCast v473
  let c0_209 : Index := 0#32
  ![v482.toNat, 0]
def k0_off47 (k0_t2 : Fin k0_t2_loop.trips) (k0_t17 : Fin (k0_t17_loop k0_t2).trips) : Fin 2 → Nat :=
  let c0_210 : Index := 0#32
  let c0_i32_103 : BitVec 32 := 0#32
  let c1_i32_105 : BitVec 32 := 1#32
  let arg21 : BitVec 32 := Scf.iv c0_i32_103 c1_i32_105 k0_t17
  let c512_i32_204 : BitVec 32 := 512#32
  let v472 : BitVec 32 := Scalar.muli arg21 c512_i32_204
  let v473 : BitVec 32 := v472
  let v488 : Index := Scalar.indexCast v473
  ![0, v488.toNat]
@[reducible] def k0_t18_loop (k0_t2 : Fin k0_t2_loop.trips) : Scf.Loop 32 :=
  let c0_i32_103 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_101 : BitVec 32 := 1#32
  let v229 : BitVec 32 := Scalar.addi v23 c1_i32_101
  let v231 : BitVec 32 := Scalar.subi v229 c0_i32_103
  let c1_i32_104 : BitVec 32 := 1#32
  let v233 : BitVec 32 := Scalar.divsi v231 c1_i32_104
  let v234 : BitVec 32 := Scalar.muli v233 c1_i32_104
  let v235 : BitVec 32 := Scalar.addi c0_i32_103 v234
  let v232 : BitVec 32 := Scalar.addi c0_i32_103 v231
  let c1_i32_106 : BitVec 32 := 1#32
  ⟨v235, v232, c1_i32_106⟩
def k0_mult20 (k0_t2 : Fin k0_t2_loop.trips) (k0_t18 : Fin (k0_t18_loop k0_t2).trips) : BitVec 32 :=
  let c0_i32_103 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_101 : BitVec 32 := 1#32
  let v229 : BitVec 32 := Scalar.addi v23 c1_i32_101
  let v231 : BitVec 32 := Scalar.subi v229 c0_i32_103
  let c1_i32_104 : BitVec 32 := 1#32
  let v233 : BitVec 32 := Scalar.divsi v231 c1_i32_104
  let v234 : BitVec 32 := Scalar.muli v233 c1_i32_104
  let v235 : BitVec 32 := Scalar.addi c0_i32_103 v234
  let c1_i32_106 : BitVec 32 := 1#32
  let arg21 : BitVec 32 := Scf.iv v235 c1_i32_106 k0_t18
  let c512_i32_204 : BitVec 32 := 512#32
  let v472 : BitVec 32 := Scalar.muli arg21 c512_i32_204
  v472
def k0_off48 (k0_t2 : Fin k0_t2_loop.trips) (k0_t18 : Fin (k0_t18_loop k0_t2).trips) : Fin 3 → Nat :=
  let c0_205 : Index := 0#32
  let c0_i32_103 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_101 : BitVec 32 := 1#32
  let v229 : BitVec 32 := Scalar.addi v23 c1_i32_101
  let v231 : BitVec 32 := Scalar.subi v229 c0_i32_103
  let c1_i32_104 : BitVec 32 := 1#32
  let v233 : BitVec 32 := Scalar.divsi v231 c1_i32_104
  let v234 : BitVec 32 := Scalar.muli v233 c1_i32_104
  let v235 : BitVec 32 := Scalar.addi c0_i32_103 v234
  let c1_i32_106 : BitVec 32 := 1#32
  let arg21 : BitVec 32 := Scf.iv v235 c1_i32_106 k0_t18
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off49 (k0_t2 : Fin k0_t2_loop.trips) (k0_t18 : Fin (k0_t18_loop k0_t2).trips) : Fin 2 → Nat :=
  let c0_i32_103 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_101 : BitVec 32 := 1#32
  let v229 : BitVec 32 := Scalar.addi v23 c1_i32_101
  let v231 : BitVec 32 := Scalar.subi v229 c0_i32_103
  let c1_i32_104 : BitVec 32 := 1#32
  let v233 : BitVec 32 := Scalar.divsi v231 c1_i32_104
  let v234 : BitVec 32 := Scalar.muli v233 c1_i32_104
  let v235 : BitVec 32 := Scalar.addi c0_i32_103 v234
  let c1_i32_106 : BitVec 32 := 1#32
  let arg21 : BitVec 32 := Scf.iv v235 c1_i32_106 k0_t18
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off50 (k0_t2 : Fin k0_t2_loop.trips) (k0_t18 : Fin (k0_t18_loop k0_t2).trips) : Fin 2 → Nat :=
  let c0_i32_103 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_101 : BitVec 32 := 1#32
  let v229 : BitVec 32 := Scalar.addi v23 c1_i32_101
  let v231 : BitVec 32 := Scalar.subi v229 c0_i32_103
  let c1_i32_104 : BitVec 32 := 1#32
  let v233 : BitVec 32 := Scalar.divsi v231 c1_i32_104
  let v234 : BitVec 32 := Scalar.muli v233 c1_i32_104
  let v235 : BitVec 32 := Scalar.addi c0_i32_103 v234
  let c1_i32_106 : BitVec 32 := 1#32
  let arg21 : BitVec 32 := Scf.iv v235 c1_i32_106 k0_t18
  let c512_i32_204 : BitVec 32 := 512#32
  let v472 : BitVec 32 := Scalar.muli arg21 c512_i32_204
  let v473 : BitVec 32 := v472
  let v482 : Index := Scalar.indexCast v473
  let c0_209 : Index := 0#32
  ![v482.toNat, 0]
def k0_off51 (k0_t2 : Fin k0_t2_loop.trips) (k0_t18 : Fin (k0_t18_loop k0_t2).trips) : Fin 2 → Nat :=
  let c0_210 : Index := 0#32
  let c0_i32_103 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_101 : BitVec 32 := 1#32
  let v229 : BitVec 32 := Scalar.addi v23 c1_i32_101
  let v231 : BitVec 32 := Scalar.subi v229 c0_i32_103
  let c1_i32_104 : BitVec 32 := 1#32
  let v233 : BitVec 32 := Scalar.divsi v231 c1_i32_104
  let v234 : BitVec 32 := Scalar.muli v233 c1_i32_104
  let v235 : BitVec 32 := Scalar.addi c0_i32_103 v234
  let c1_i32_106 : BitVec 32 := 1#32
  let arg21 : BitVec 32 := Scf.iv v235 c1_i32_106 k0_t18
  let c512_i32_204 : BitVec 32 := 512#32
  let v472 : BitVec 32 := Scalar.muli arg21 c512_i32_204
  let v473 : BitVec 32 := v472
  let v488 : Index := Scalar.indexCast v473
  ![0, v488.toNat]
def k0_off52 (k0_t2 : Fin k0_t2_loop.trips) : Fin 3 → Nat :=
  let c0_110 : Index := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let v248 : Index := Scalar.indexCast v6
  let c256 : Index := 256#32
  ![0, v248.toNat, 256]
def k0_off53 (k0_t2 : Fin k0_t2_loop.trips) : Fin 4 → Nat :=
  let c0_113 : Index := 0#32
  let c0_114 : Index := 0#32
  let c2 : Index := 2#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let v254 : Index := Scalar.indexCast v6
  ![0, 0, 2, v254.toNat]
@[reducible] def k0_t19_loop (k0_t2 : Fin k0_t2_loop.trips) : Scf.Loop 32 :=
  let c0_i32_120 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v263 : BitVec 32 := Scalar.subi v23 c0_i32_120
  let c1_i32_121 : BitVec 32 := 1#32
  let v265 : BitVec 32 := Scalar.divsi v263 c1_i32_121
  let v266 : BitVec 32 := Scalar.muli v265 c1_i32_121
  let v267 : BitVec 32 := Scalar.addi c0_i32_120 v266
  let c1_i32_122 : BitVec 32 := 1#32
  ⟨c0_i32_120, v267, c1_i32_122⟩
def k0_mult21 (k0_t2 : Fin k0_t2_loop.trips) (k0_t19 : Fin (k0_t19_loop k0_t2).trips) : BitVec 32 :=
  let c0_i32_120 : BitVec 32 := 0#32
  let c1_i32_122 : BitVec 32 := 1#32
  let arg21 : BitVec 32 := Scf.iv c0_i32_120 c1_i32_122 k0_t19
  let c512_i32_204 : BitVec 32 := 512#32
  let v472 : BitVec 32 := Scalar.muli arg21 c512_i32_204
  v472
def k0_off54 (k0_t2 : Fin k0_t2_loop.trips) (k0_t19 : Fin (k0_t19_loop k0_t2).trips) : Fin 3 → Nat :=
  let c0_205 : Index := 0#32
  let c0_i32_120 : BitVec 32 := 0#32
  let c1_i32_122 : BitVec 32 := 1#32
  let arg21 : BitVec 32 := Scf.iv c0_i32_120 c1_i32_122 k0_t19
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off55 (k0_t2 : Fin k0_t2_loop.trips) (k0_t19 : Fin (k0_t19_loop k0_t2).trips) : Fin 2 → Nat :=
  let c0_i32_120 : BitVec 32 := 0#32
  let c1_i32_122 : BitVec 32 := 1#32
  let arg21 : BitVec 32 := Scf.iv c0_i32_120 c1_i32_122 k0_t19
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off56 (k0_t2 : Fin k0_t2_loop.trips) (k0_t19 : Fin (k0_t19_loop k0_t2).trips) : Fin 2 → Nat :=
  let c0_i32_120 : BitVec 32 := 0#32
  let c1_i32_122 : BitVec 32 := 1#32
  let arg21 : BitVec 32 := Scf.iv c0_i32_120 c1_i32_122 k0_t19
  let c512_i32_204 : BitVec 32 := 512#32
  let v472 : BitVec 32 := Scalar.muli arg21 c512_i32_204
  let v473 : BitVec 32 := v472
  let v484 : Index := Scalar.indexCast v473
  let c0_209 : Index := 0#32
  ![v484.toNat, 0]
@[reducible] def k0_t20_loop (k0_t2 : Fin k0_t2_loop.trips) : Scf.Loop 32 :=
  let c0_i32_120 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v263 : BitVec 32 := Scalar.subi v23 c0_i32_120
  let c1_i32_121 : BitVec 32 := 1#32
  let v265 : BitVec 32 := Scalar.divsi v263 c1_i32_121
  let v266 : BitVec 32 := Scalar.muli v265 c1_i32_121
  let v267 : BitVec 32 := Scalar.addi c0_i32_120 v266
  let v264 : BitVec 32 := Scalar.addi c0_i32_120 v263
  let c1_i32_123 : BitVec 32 := 1#32
  ⟨v267, v264, c1_i32_123⟩
def k0_mult22 (k0_t2 : Fin k0_t2_loop.trips) (k0_t20 : Fin (k0_t20_loop k0_t2).trips) : BitVec 32 :=
  let c0_i32_120 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v263 : BitVec 32 := Scalar.subi v23 c0_i32_120
  let c1_i32_121 : BitVec 32 := 1#32
  let v265 : BitVec 32 := Scalar.divsi v263 c1_i32_121
  let v266 : BitVec 32 := Scalar.muli v265 c1_i32_121
  let v267 : BitVec 32 := Scalar.addi c0_i32_120 v266
  let c1_i32_123 : BitVec 32 := 1#32
  let arg21 : BitVec 32 := Scf.iv v267 c1_i32_123 k0_t20
  let c512_i32_204 : BitVec 32 := 512#32
  let v472 : BitVec 32 := Scalar.muli arg21 c512_i32_204
  v472
def k0_off57 (k0_t2 : Fin k0_t2_loop.trips) (k0_t20 : Fin (k0_t20_loop k0_t2).trips) : Fin 3 → Nat :=
  let c0_205 : Index := 0#32
  let c0_i32_120 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v263 : BitVec 32 := Scalar.subi v23 c0_i32_120
  let c1_i32_121 : BitVec 32 := 1#32
  let v265 : BitVec 32 := Scalar.divsi v263 c1_i32_121
  let v266 : BitVec 32 := Scalar.muli v265 c1_i32_121
  let v267 : BitVec 32 := Scalar.addi c0_i32_120 v266
  let c1_i32_123 : BitVec 32 := 1#32
  let arg21 : BitVec 32 := Scf.iv v267 c1_i32_123 k0_t20
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off58 (k0_t2 : Fin k0_t2_loop.trips) (k0_t20 : Fin (k0_t20_loop k0_t2).trips) : Fin 2 → Nat :=
  let c0_i32_120 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v263 : BitVec 32 := Scalar.subi v23 c0_i32_120
  let c1_i32_121 : BitVec 32 := 1#32
  let v265 : BitVec 32 := Scalar.divsi v263 c1_i32_121
  let v266 : BitVec 32 := Scalar.muli v265 c1_i32_121
  let v267 : BitVec 32 := Scalar.addi c0_i32_120 v266
  let c1_i32_123 : BitVec 32 := 1#32
  let arg21 : BitVec 32 := Scf.iv v267 c1_i32_123 k0_t20
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off59 (k0_t2 : Fin k0_t2_loop.trips) (k0_t20 : Fin (k0_t20_loop k0_t2).trips) : Fin 2 → Nat :=
  let c0_i32_120 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v263 : BitVec 32 := Scalar.subi v23 c0_i32_120
  let c1_i32_121 : BitVec 32 := 1#32
  let v265 : BitVec 32 := Scalar.divsi v263 c1_i32_121
  let v266 : BitVec 32 := Scalar.muli v265 c1_i32_121
  let v267 : BitVec 32 := Scalar.addi c0_i32_120 v266
  let c1_i32_123 : BitVec 32 := 1#32
  let arg21 : BitVec 32 := Scf.iv v267 c1_i32_123 k0_t20
  let c512_i32_204 : BitVec 32 := 512#32
  let v472 : BitVec 32 := Scalar.muli arg21 c512_i32_204
  let v473 : BitVec 32 := v472
  let v484 : Index := Scalar.indexCast v473
  let c0_209 : Index := 0#32
  ![v484.toNat, 0]
def k0_mult23 (k0_t2 : Fin k0_t2_loop.trips) : BitVec 32 :=
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c512_i32_124 : BitVec 32 := 512#32
  let v270 : BitVec 32 := Scalar.muli v23 c512_i32_124
  v270
@[reducible] def k0_t21_loop (k0_t2 : Fin k0_t2_loop.trips) : Scf.Loop 32 :=
  let c0_i32_135 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_133 : BitVec 32 := 1#32
  let v299 : BitVec 32 := Scalar.addi v23 c1_i32_133
  let v301 : BitVec 32 := Scalar.subi v299 c0_i32_135
  let c1_i32_136 : BitVec 32 := 1#32
  let v303 : BitVec 32 := Scalar.divsi v301 c1_i32_136
  let v304 : BitVec 32 := Scalar.muli v303 c1_i32_136
  let v305 : BitVec 32 := Scalar.addi c0_i32_135 v304
  let c1_i32_137 : BitVec 32 := 1#32
  ⟨c0_i32_135, v305, c1_i32_137⟩
def k0_mult24 (k0_t2 : Fin k0_t2_loop.trips) (k0_t21 : Fin (k0_t21_loop k0_t2).trips) : BitVec 32 :=
  let c0_i32_135 : BitVec 32 := 0#32
  let c1_i32_137 : BitVec 32 := 1#32
  let arg21 : BitVec 32 := Scf.iv c0_i32_135 c1_i32_137 k0_t21
  let c512_i32_204 : BitVec 32 := 512#32
  let v472 : BitVec 32 := Scalar.muli arg21 c512_i32_204
  v472
def k0_off60 (k0_t2 : Fin k0_t2_loop.trips) (k0_t21 : Fin (k0_t21_loop k0_t2).trips) : Fin 2 → Nat :=
  let c0_i32_135 : BitVec 32 := 0#32
  let c1_i32_137 : BitVec 32 := 1#32
  let arg21 : BitVec 32 := Scf.iv c0_i32_135 c1_i32_137 k0_t21
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
@[reducible] def k0_t22_loop (k0_t2 : Fin k0_t2_loop.trips) : Scf.Loop 32 :=
  let c0_i32_135 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_133 : BitVec 32 := 1#32
  let v299 : BitVec 32 := Scalar.addi v23 c1_i32_133
  let v301 : BitVec 32 := Scalar.subi v299 c0_i32_135
  let c1_i32_136 : BitVec 32 := 1#32
  let v303 : BitVec 32 := Scalar.divsi v301 c1_i32_136
  let v304 : BitVec 32 := Scalar.muli v303 c1_i32_136
  let v305 : BitVec 32 := Scalar.addi c0_i32_135 v304
  let v302 : BitVec 32 := Scalar.addi c0_i32_135 v301
  let c1_i32_138 : BitVec 32 := 1#32
  ⟨v305, v302, c1_i32_138⟩
def k0_mult25 (k0_t2 : Fin k0_t2_loop.trips) (k0_t22 : Fin (k0_t22_loop k0_t2).trips) : BitVec 32 :=
  let c0_i32_135 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_133 : BitVec 32 := 1#32
  let v299 : BitVec 32 := Scalar.addi v23 c1_i32_133
  let v301 : BitVec 32 := Scalar.subi v299 c0_i32_135
  let c1_i32_136 : BitVec 32 := 1#32
  let v303 : BitVec 32 := Scalar.divsi v301 c1_i32_136
  let v304 : BitVec 32 := Scalar.muli v303 c1_i32_136
  let v305 : BitVec 32 := Scalar.addi c0_i32_135 v304
  let c1_i32_138 : BitVec 32 := 1#32
  let arg21 : BitVec 32 := Scf.iv v305 c1_i32_138 k0_t22
  let c512_i32_204 : BitVec 32 := 512#32
  let v472 : BitVec 32 := Scalar.muli arg21 c512_i32_204
  v472
def k0_off61 (k0_t2 : Fin k0_t2_loop.trips) (k0_t22 : Fin (k0_t22_loop k0_t2).trips) : Fin 2 → Nat :=
  let c0_i32_135 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_133 : BitVec 32 := 1#32
  let v299 : BitVec 32 := Scalar.addi v23 c1_i32_133
  let v301 : BitVec 32 := Scalar.subi v299 c0_i32_135
  let c1_i32_136 : BitVec 32 := 1#32
  let v303 : BitVec 32 := Scalar.divsi v301 c1_i32_136
  let v304 : BitVec 32 := Scalar.muli v303 c1_i32_136
  let v305 : BitVec 32 := Scalar.addi c0_i32_135 v304
  let c1_i32_138 : BitVec 32 := 1#32
  let arg21 : BitVec 32 := Scf.iv v305 c1_i32_138 k0_t22
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
@[reducible] def k0_t23_loop (k0_t2 : Fin k0_t2_loop.trips) : Scf.Loop 32 :=
  let c0_i32_142 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_140 : BitVec 32 := 1#32
  let v319 : BitVec 32 := Scalar.addi v23 c1_i32_140
  let v321 : BitVec 32 := Scalar.subi v319 c0_i32_142
  let c1_i32_143 : BitVec 32 := 1#32
  let v323 : BitVec 32 := Scalar.divsi v321 c1_i32_143
  let v324 : BitVec 32 := Scalar.muli v323 c1_i32_143
  let v325 : BitVec 32 := Scalar.addi c0_i32_142 v324
  let c1_i32_144 : BitVec 32 := 1#32
  ⟨c0_i32_142, v325, c1_i32_144⟩
def k0_mult26 (k0_t2 : Fin k0_t2_loop.trips) (k0_t23 : Fin (k0_t23_loop k0_t2).trips) : BitVec 32 :=
  let c0_i32_142 : BitVec 32 := 0#32
  let c1_i32_144 : BitVec 32 := 1#32
  let arg21 : BitVec 32 := Scf.iv c0_i32_142 c1_i32_144 k0_t23
  let c512_i32_204 : BitVec 32 := 512#32
  let v472 : BitVec 32 := Scalar.muli arg21 c512_i32_204
  v472
def k0_off62 (k0_t2 : Fin k0_t2_loop.trips) (k0_t23 : Fin (k0_t23_loop k0_t2).trips) : Fin 2 → Nat :=
  let c0_i32_142 : BitVec 32 := 0#32
  let c1_i32_144 : BitVec 32 := 1#32
  let arg21 : BitVec 32 := Scf.iv c0_i32_142 c1_i32_144 k0_t23
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
def k0_off63 (k0_t2 : Fin k0_t2_loop.trips) (k0_t23 : Fin (k0_t23_loop k0_t2).trips) : Fin 2 → Nat :=
  let c0_209 : Index := 0#32
  let c0_i32_142 : BitVec 32 := 0#32
  let c1_i32_144 : BitVec 32 := 1#32
  let arg21 : BitVec 32 := Scf.iv c0_i32_142 c1_i32_144 k0_t23
  let c512_i32_204 : BitVec 32 := 512#32
  let v472 : BitVec 32 := Scalar.muli arg21 c512_i32_204
  let v473 : BitVec 32 := v472
  let v487 : Index := Scalar.indexCast v473
  ![0, v487.toNat]
@[reducible] def k0_t24_loop (k0_t2 : Fin k0_t2_loop.trips) : Scf.Loop 32 :=
  let c0_i32_142 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_140 : BitVec 32 := 1#32
  let v319 : BitVec 32 := Scalar.addi v23 c1_i32_140
  let v321 : BitVec 32 := Scalar.subi v319 c0_i32_142
  let c1_i32_143 : BitVec 32 := 1#32
  let v323 : BitVec 32 := Scalar.divsi v321 c1_i32_143
  let v324 : BitVec 32 := Scalar.muli v323 c1_i32_143
  let v325 : BitVec 32 := Scalar.addi c0_i32_142 v324
  let v322 : BitVec 32 := Scalar.addi c0_i32_142 v321
  let c1_i32_145 : BitVec 32 := 1#32
  ⟨v325, v322, c1_i32_145⟩
def k0_mult27 (k0_t2 : Fin k0_t2_loop.trips) (k0_t24 : Fin (k0_t24_loop k0_t2).trips) : BitVec 32 :=
  let c0_i32_142 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_140 : BitVec 32 := 1#32
  let v319 : BitVec 32 := Scalar.addi v23 c1_i32_140
  let v321 : BitVec 32 := Scalar.subi v319 c0_i32_142
  let c1_i32_143 : BitVec 32 := 1#32
  let v323 : BitVec 32 := Scalar.divsi v321 c1_i32_143
  let v324 : BitVec 32 := Scalar.muli v323 c1_i32_143
  let v325 : BitVec 32 := Scalar.addi c0_i32_142 v324
  let c1_i32_145 : BitVec 32 := 1#32
  let arg21 : BitVec 32 := Scf.iv v325 c1_i32_145 k0_t24
  let c512_i32_204 : BitVec 32 := 512#32
  let v472 : BitVec 32 := Scalar.muli arg21 c512_i32_204
  v472
def k0_off64 (k0_t2 : Fin k0_t2_loop.trips) (k0_t24 : Fin (k0_t24_loop k0_t2).trips) : Fin 2 → Nat :=
  let c0_i32_142 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_140 : BitVec 32 := 1#32
  let v319 : BitVec 32 := Scalar.addi v23 c1_i32_140
  let v321 : BitVec 32 := Scalar.subi v319 c0_i32_142
  let c1_i32_143 : BitVec 32 := 1#32
  let v323 : BitVec 32 := Scalar.divsi v321 c1_i32_143
  let v324 : BitVec 32 := Scalar.muli v323 c1_i32_143
  let v325 : BitVec 32 := Scalar.addi c0_i32_142 v324
  let c1_i32_145 : BitVec 32 := 1#32
  let arg21 : BitVec 32 := Scf.iv v325 c1_i32_145 k0_t24
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
def k0_off65 (k0_t2 : Fin k0_t2_loop.trips) (k0_t24 : Fin (k0_t24_loop k0_t2).trips) : Fin 2 → Nat :=
  let c0_209 : Index := 0#32
  let c0_i32_142 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_140 : BitVec 32 := 1#32
  let v319 : BitVec 32 := Scalar.addi v23 c1_i32_140
  let v321 : BitVec 32 := Scalar.subi v319 c0_i32_142
  let c1_i32_143 : BitVec 32 := 1#32
  let v323 : BitVec 32 := Scalar.divsi v321 c1_i32_143
  let v324 : BitVec 32 := Scalar.muli v323 c1_i32_143
  let v325 : BitVec 32 := Scalar.addi c0_i32_142 v324
  let c1_i32_145 : BitVec 32 := 1#32
  let arg21 : BitVec 32 := Scf.iv v325 c1_i32_145 k0_t24
  let c512_i32_204 : BitVec 32 := 512#32
  let v472 : BitVec 32 := Scalar.muli arg21 c512_i32_204
  let v473 : BitVec 32 := v472
  let v487 : Index := Scalar.indexCast v473
  ![0, v487.toNat]
@[reducible] def k0_t25_loop (k0_t2 : Fin k0_t2_loop.trips) : Scf.Loop 32 :=
  let c0_i32_150 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_148 : BitVec 32 := 1#32
  let v341 : BitVec 32 := Scalar.addi v23 c1_i32_148
  let v343 : BitVec 32 := Scalar.subi v341 c0_i32_150
  let c1_i32_151 : BitVec 32 := 1#32
  let v345 : BitVec 32 := Scalar.divsi v343 c1_i32_151
  let v346 : BitVec 32 := Scalar.muli v345 c1_i32_151
  let v347 : BitVec 32 := Scalar.addi c0_i32_150 v346
  let c1_i32_152 : BitVec 32 := 1#32
  ⟨c0_i32_150, v347, c1_i32_152⟩
def k0_mult28 (k0_t2 : Fin k0_t2_loop.trips) (k0_t25 : Fin (k0_t25_loop k0_t2).trips) : BitVec 32 :=
  let c0_i32_150 : BitVec 32 := 0#32
  let c1_i32_152 : BitVec 32 := 1#32
  let arg21 : BitVec 32 := Scf.iv c0_i32_150 c1_i32_152 k0_t25
  let c512_i32_204 : BitVec 32 := 512#32
  let v472 : BitVec 32 := Scalar.muli arg21 c512_i32_204
  v472
def k0_off66 (k0_t2 : Fin k0_t2_loop.trips) (k0_t25 : Fin (k0_t25_loop k0_t2).trips) : Fin 3 → Nat :=
  let c0_205 : Index := 0#32
  let c0_i32_150 : BitVec 32 := 0#32
  let c1_i32_152 : BitVec 32 := 1#32
  let arg21 : BitVec 32 := Scf.iv c0_i32_150 c1_i32_152 k0_t25
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off67 (k0_t2 : Fin k0_t2_loop.trips) (k0_t25 : Fin (k0_t25_loop k0_t2).trips) : Fin 2 → Nat :=
  let c0_i32_150 : BitVec 32 := 0#32
  let c1_i32_152 : BitVec 32 := 1#32
  let arg21 : BitVec 32 := Scf.iv c0_i32_150 c1_i32_152 k0_t25
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off68 (k0_t2 : Fin k0_t2_loop.trips) (k0_t25 : Fin (k0_t25_loop k0_t2).trips) : Fin 2 → Nat :=
  let c0_i32_150 : BitVec 32 := 0#32
  let c1_i32_152 : BitVec 32 := 1#32
  let arg21 : BitVec 32 := Scf.iv c0_i32_150 c1_i32_152 k0_t25
  let c512_i32_204 : BitVec 32 := 512#32
  let v472 : BitVec 32 := Scalar.muli arg21 c512_i32_204
  let v473 : BitVec 32 := v472
  let v482 : Index := Scalar.indexCast v473
  let c0_209 : Index := 0#32
  ![v482.toNat, 0]
def k0_off69 (k0_t2 : Fin k0_t2_loop.trips) (k0_t25 : Fin (k0_t25_loop k0_t2).trips) : Fin 2 → Nat :=
  let c0_210 : Index := 0#32
  let c0_i32_150 : BitVec 32 := 0#32
  let c1_i32_152 : BitVec 32 := 1#32
  let arg21 : BitVec 32 := Scf.iv c0_i32_150 c1_i32_152 k0_t25
  let c512_i32_204 : BitVec 32 := 512#32
  let v472 : BitVec 32 := Scalar.muli arg21 c512_i32_204
  let v473 : BitVec 32 := v472
  let v488 : Index := Scalar.indexCast v473
  ![0, v488.toNat]
@[reducible] def k0_t26_loop (k0_t2 : Fin k0_t2_loop.trips) : Scf.Loop 32 :=
  let c0_i32_150 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_148 : BitVec 32 := 1#32
  let v341 : BitVec 32 := Scalar.addi v23 c1_i32_148
  let v343 : BitVec 32 := Scalar.subi v341 c0_i32_150
  let c1_i32_151 : BitVec 32 := 1#32
  let v345 : BitVec 32 := Scalar.divsi v343 c1_i32_151
  let v346 : BitVec 32 := Scalar.muli v345 c1_i32_151
  let v347 : BitVec 32 := Scalar.addi c0_i32_150 v346
  let v344 : BitVec 32 := Scalar.addi c0_i32_150 v343
  let c1_i32_153 : BitVec 32 := 1#32
  ⟨v347, v344, c1_i32_153⟩
def k0_mult29 (k0_t2 : Fin k0_t2_loop.trips) (k0_t26 : Fin (k0_t26_loop k0_t2).trips) : BitVec 32 :=
  let c0_i32_150 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_148 : BitVec 32 := 1#32
  let v341 : BitVec 32 := Scalar.addi v23 c1_i32_148
  let v343 : BitVec 32 := Scalar.subi v341 c0_i32_150
  let c1_i32_151 : BitVec 32 := 1#32
  let v345 : BitVec 32 := Scalar.divsi v343 c1_i32_151
  let v346 : BitVec 32 := Scalar.muli v345 c1_i32_151
  let v347 : BitVec 32 := Scalar.addi c0_i32_150 v346
  let c1_i32_153 : BitVec 32 := 1#32
  let arg21 : BitVec 32 := Scf.iv v347 c1_i32_153 k0_t26
  let c512_i32_204 : BitVec 32 := 512#32
  let v472 : BitVec 32 := Scalar.muli arg21 c512_i32_204
  v472
def k0_off70 (k0_t2 : Fin k0_t2_loop.trips) (k0_t26 : Fin (k0_t26_loop k0_t2).trips) : Fin 3 → Nat :=
  let c0_205 : Index := 0#32
  let c0_i32_150 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_148 : BitVec 32 := 1#32
  let v341 : BitVec 32 := Scalar.addi v23 c1_i32_148
  let v343 : BitVec 32 := Scalar.subi v341 c0_i32_150
  let c1_i32_151 : BitVec 32 := 1#32
  let v345 : BitVec 32 := Scalar.divsi v343 c1_i32_151
  let v346 : BitVec 32 := Scalar.muli v345 c1_i32_151
  let v347 : BitVec 32 := Scalar.addi c0_i32_150 v346
  let c1_i32_153 : BitVec 32 := 1#32
  let arg21 : BitVec 32 := Scf.iv v347 c1_i32_153 k0_t26
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off71 (k0_t2 : Fin k0_t2_loop.trips) (k0_t26 : Fin (k0_t26_loop k0_t2).trips) : Fin 2 → Nat :=
  let c0_i32_150 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_148 : BitVec 32 := 1#32
  let v341 : BitVec 32 := Scalar.addi v23 c1_i32_148
  let v343 : BitVec 32 := Scalar.subi v341 c0_i32_150
  let c1_i32_151 : BitVec 32 := 1#32
  let v345 : BitVec 32 := Scalar.divsi v343 c1_i32_151
  let v346 : BitVec 32 := Scalar.muli v345 c1_i32_151
  let v347 : BitVec 32 := Scalar.addi c0_i32_150 v346
  let c1_i32_153 : BitVec 32 := 1#32
  let arg21 : BitVec 32 := Scf.iv v347 c1_i32_153 k0_t26
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off72 (k0_t2 : Fin k0_t2_loop.trips) (k0_t26 : Fin (k0_t26_loop k0_t2).trips) : Fin 2 → Nat :=
  let c0_i32_150 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_148 : BitVec 32 := 1#32
  let v341 : BitVec 32 := Scalar.addi v23 c1_i32_148
  let v343 : BitVec 32 := Scalar.subi v341 c0_i32_150
  let c1_i32_151 : BitVec 32 := 1#32
  let v345 : BitVec 32 := Scalar.divsi v343 c1_i32_151
  let v346 : BitVec 32 := Scalar.muli v345 c1_i32_151
  let v347 : BitVec 32 := Scalar.addi c0_i32_150 v346
  let c1_i32_153 : BitVec 32 := 1#32
  let arg21 : BitVec 32 := Scf.iv v347 c1_i32_153 k0_t26
  let c512_i32_204 : BitVec 32 := 512#32
  let v472 : BitVec 32 := Scalar.muli arg21 c512_i32_204
  let v473 : BitVec 32 := v472
  let v482 : Index := Scalar.indexCast v473
  let c0_209 : Index := 0#32
  ![v482.toNat, 0]
def k0_off73 (k0_t2 : Fin k0_t2_loop.trips) (k0_t26 : Fin (k0_t26_loop k0_t2).trips) : Fin 2 → Nat :=
  let c0_210 : Index := 0#32
  let c0_i32_150 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_148 : BitVec 32 := 1#32
  let v341 : BitVec 32 := Scalar.addi v23 c1_i32_148
  let v343 : BitVec 32 := Scalar.subi v341 c0_i32_150
  let c1_i32_151 : BitVec 32 := 1#32
  let v345 : BitVec 32 := Scalar.divsi v343 c1_i32_151
  let v346 : BitVec 32 := Scalar.muli v345 c1_i32_151
  let v347 : BitVec 32 := Scalar.addi c0_i32_150 v346
  let c1_i32_153 : BitVec 32 := 1#32
  let arg21 : BitVec 32 := Scf.iv v347 c1_i32_153 k0_t26
  let c512_i32_204 : BitVec 32 := 512#32
  let v472 : BitVec 32 := Scalar.muli arg21 c512_i32_204
  let v473 : BitVec 32 := v472
  let v488 : Index := Scalar.indexCast v473
  ![0, v488.toNat]
def k0_off74 (k0_t2 : Fin k0_t2_loop.trips) : Fin 3 → Nat :=
  let c0_157 : Index := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let v360 : Index := Scalar.indexCast v6
  let c384 : Index := 384#32
  ![0, v360.toNat, 384]
def k0_off75 (k0_t2 : Fin k0_t2_loop.trips) : Fin 4 → Nat :=
  let c0_160 : Index := 0#32
  let c0_161 : Index := 0#32
  let c3 : Index := 3#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let v366 : Index := Scalar.indexCast v6
  ![0, 0, 3, v366.toNat]
@[reducible] def k0_t27_loop (k0_t2 : Fin k0_t2_loop.trips) : Scf.Loop 32 :=
  let c0_i32_167 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v375 : BitVec 32 := Scalar.subi v23 c0_i32_167
  let c1_i32_168 : BitVec 32 := 1#32
  let v377 : BitVec 32 := Scalar.divsi v375 c1_i32_168
  let v378 : BitVec 32 := Scalar.muli v377 c1_i32_168
  let v379 : BitVec 32 := Scalar.addi c0_i32_167 v378
  let c1_i32_169 : BitVec 32 := 1#32
  ⟨c0_i32_167, v379, c1_i32_169⟩
def k0_mult30 (k0_t2 : Fin k0_t2_loop.trips) (k0_t27 : Fin (k0_t27_loop k0_t2).trips) : BitVec 32 :=
  let c0_i32_167 : BitVec 32 := 0#32
  let c1_i32_169 : BitVec 32 := 1#32
  let arg21 : BitVec 32 := Scf.iv c0_i32_167 c1_i32_169 k0_t27
  let c512_i32_204 : BitVec 32 := 512#32
  let v472 : BitVec 32 := Scalar.muli arg21 c512_i32_204
  v472
def k0_off76 (k0_t2 : Fin k0_t2_loop.trips) (k0_t27 : Fin (k0_t27_loop k0_t2).trips) : Fin 3 → Nat :=
  let c0_205 : Index := 0#32
  let c0_i32_167 : BitVec 32 := 0#32
  let c1_i32_169 : BitVec 32 := 1#32
  let arg21 : BitVec 32 := Scf.iv c0_i32_167 c1_i32_169 k0_t27
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off77 (k0_t2 : Fin k0_t2_loop.trips) (k0_t27 : Fin (k0_t27_loop k0_t2).trips) : Fin 2 → Nat :=
  let c0_i32_167 : BitVec 32 := 0#32
  let c1_i32_169 : BitVec 32 := 1#32
  let arg21 : BitVec 32 := Scf.iv c0_i32_167 c1_i32_169 k0_t27
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off78 (k0_t2 : Fin k0_t2_loop.trips) (k0_t27 : Fin (k0_t27_loop k0_t2).trips) : Fin 2 → Nat :=
  let c0_i32_167 : BitVec 32 := 0#32
  let c1_i32_169 : BitVec 32 := 1#32
  let arg21 : BitVec 32 := Scf.iv c0_i32_167 c1_i32_169 k0_t27
  let c512_i32_204 : BitVec 32 := 512#32
  let v472 : BitVec 32 := Scalar.muli arg21 c512_i32_204
  let v473 : BitVec 32 := v472
  let v484 : Index := Scalar.indexCast v473
  let c0_209 : Index := 0#32
  ![v484.toNat, 0]
@[reducible] def k0_t28_loop (k0_t2 : Fin k0_t2_loop.trips) : Scf.Loop 32 :=
  let c0_i32_167 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v375 : BitVec 32 := Scalar.subi v23 c0_i32_167
  let c1_i32_168 : BitVec 32 := 1#32
  let v377 : BitVec 32 := Scalar.divsi v375 c1_i32_168
  let v378 : BitVec 32 := Scalar.muli v377 c1_i32_168
  let v379 : BitVec 32 := Scalar.addi c0_i32_167 v378
  let v376 : BitVec 32 := Scalar.addi c0_i32_167 v375
  let c1_i32_170 : BitVec 32 := 1#32
  ⟨v379, v376, c1_i32_170⟩
def k0_mult31 (k0_t2 : Fin k0_t2_loop.trips) (k0_t28 : Fin (k0_t28_loop k0_t2).trips) : BitVec 32 :=
  let c0_i32_167 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v375 : BitVec 32 := Scalar.subi v23 c0_i32_167
  let c1_i32_168 : BitVec 32 := 1#32
  let v377 : BitVec 32 := Scalar.divsi v375 c1_i32_168
  let v378 : BitVec 32 := Scalar.muli v377 c1_i32_168
  let v379 : BitVec 32 := Scalar.addi c0_i32_167 v378
  let c1_i32_170 : BitVec 32 := 1#32
  let arg21 : BitVec 32 := Scf.iv v379 c1_i32_170 k0_t28
  let c512_i32_204 : BitVec 32 := 512#32
  let v472 : BitVec 32 := Scalar.muli arg21 c512_i32_204
  v472
def k0_off79 (k0_t2 : Fin k0_t2_loop.trips) (k0_t28 : Fin (k0_t28_loop k0_t2).trips) : Fin 3 → Nat :=
  let c0_205 : Index := 0#32
  let c0_i32_167 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v375 : BitVec 32 := Scalar.subi v23 c0_i32_167
  let c1_i32_168 : BitVec 32 := 1#32
  let v377 : BitVec 32 := Scalar.divsi v375 c1_i32_168
  let v378 : BitVec 32 := Scalar.muli v377 c1_i32_168
  let v379 : BitVec 32 := Scalar.addi c0_i32_167 v378
  let c1_i32_170 : BitVec 32 := 1#32
  let arg21 : BitVec 32 := Scf.iv v379 c1_i32_170 k0_t28
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off80 (k0_t2 : Fin k0_t2_loop.trips) (k0_t28 : Fin (k0_t28_loop k0_t2).trips) : Fin 2 → Nat :=
  let c0_i32_167 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v375 : BitVec 32 := Scalar.subi v23 c0_i32_167
  let c1_i32_168 : BitVec 32 := 1#32
  let v377 : BitVec 32 := Scalar.divsi v375 c1_i32_168
  let v378 : BitVec 32 := Scalar.muli v377 c1_i32_168
  let v379 : BitVec 32 := Scalar.addi c0_i32_167 v378
  let c1_i32_170 : BitVec 32 := 1#32
  let arg21 : BitVec 32 := Scf.iv v379 c1_i32_170 k0_t28
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off81 (k0_t2 : Fin k0_t2_loop.trips) (k0_t28 : Fin (k0_t28_loop k0_t2).trips) : Fin 2 → Nat :=
  let c0_i32_167 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let v375 : BitVec 32 := Scalar.subi v23 c0_i32_167
  let c1_i32_168 : BitVec 32 := 1#32
  let v377 : BitVec 32 := Scalar.divsi v375 c1_i32_168
  let v378 : BitVec 32 := Scalar.muli v377 c1_i32_168
  let v379 : BitVec 32 := Scalar.addi c0_i32_167 v378
  let c1_i32_170 : BitVec 32 := 1#32
  let arg21 : BitVec 32 := Scf.iv v379 c1_i32_170 k0_t28
  let c512_i32_204 : BitVec 32 := 512#32
  let v472 : BitVec 32 := Scalar.muli arg21 c512_i32_204
  let v473 : BitVec 32 := v472
  let v484 : Index := Scalar.indexCast v473
  let c0_209 : Index := 0#32
  ![v484.toNat, 0]
def k0_mult32 (k0_t2 : Fin k0_t2_loop.trips) : BitVec 32 :=
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c512_i32_171 : BitVec 32 := 512#32
  let v382 : BitVec 32 := Scalar.muli v23 c512_i32_171
  v382
@[reducible] def k0_t29_loop (k0_t2 : Fin k0_t2_loop.trips) : Scf.Loop 32 :=
  let c0_i32_182 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_180 : BitVec 32 := 1#32
  let v411 : BitVec 32 := Scalar.addi v23 c1_i32_180
  let v413 : BitVec 32 := Scalar.subi v411 c0_i32_182
  let c1_i32_183 : BitVec 32 := 1#32
  let v415 : BitVec 32 := Scalar.divsi v413 c1_i32_183
  let v416 : BitVec 32 := Scalar.muli v415 c1_i32_183
  let v417 : BitVec 32 := Scalar.addi c0_i32_182 v416
  let c1_i32_184 : BitVec 32 := 1#32
  ⟨c0_i32_182, v417, c1_i32_184⟩
def k0_mult33 (k0_t2 : Fin k0_t2_loop.trips) (k0_t29 : Fin (k0_t29_loop k0_t2).trips) : BitVec 32 :=
  let c0_i32_182 : BitVec 32 := 0#32
  let c1_i32_184 : BitVec 32 := 1#32
  let arg21 : BitVec 32 := Scf.iv c0_i32_182 c1_i32_184 k0_t29
  let c512_i32_204 : BitVec 32 := 512#32
  let v472 : BitVec 32 := Scalar.muli arg21 c512_i32_204
  v472
def k0_off82 (k0_t2 : Fin k0_t2_loop.trips) (k0_t29 : Fin (k0_t29_loop k0_t2).trips) : Fin 2 → Nat :=
  let c0_i32_182 : BitVec 32 := 0#32
  let c1_i32_184 : BitVec 32 := 1#32
  let arg21 : BitVec 32 := Scf.iv c0_i32_182 c1_i32_184 k0_t29
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
@[reducible] def k0_t30_loop (k0_t2 : Fin k0_t2_loop.trips) : Scf.Loop 32 :=
  let c0_i32_182 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_180 : BitVec 32 := 1#32
  let v411 : BitVec 32 := Scalar.addi v23 c1_i32_180
  let v413 : BitVec 32 := Scalar.subi v411 c0_i32_182
  let c1_i32_183 : BitVec 32 := 1#32
  let v415 : BitVec 32 := Scalar.divsi v413 c1_i32_183
  let v416 : BitVec 32 := Scalar.muli v415 c1_i32_183
  let v417 : BitVec 32 := Scalar.addi c0_i32_182 v416
  let v414 : BitVec 32 := Scalar.addi c0_i32_182 v413
  let c1_i32_185 : BitVec 32 := 1#32
  ⟨v417, v414, c1_i32_185⟩
def k0_mult34 (k0_t2 : Fin k0_t2_loop.trips) (k0_t30 : Fin (k0_t30_loop k0_t2).trips) : BitVec 32 :=
  let c0_i32_182 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_180 : BitVec 32 := 1#32
  let v411 : BitVec 32 := Scalar.addi v23 c1_i32_180
  let v413 : BitVec 32 := Scalar.subi v411 c0_i32_182
  let c1_i32_183 : BitVec 32 := 1#32
  let v415 : BitVec 32 := Scalar.divsi v413 c1_i32_183
  let v416 : BitVec 32 := Scalar.muli v415 c1_i32_183
  let v417 : BitVec 32 := Scalar.addi c0_i32_182 v416
  let c1_i32_185 : BitVec 32 := 1#32
  let arg21 : BitVec 32 := Scf.iv v417 c1_i32_185 k0_t30
  let c512_i32_204 : BitVec 32 := 512#32
  let v472 : BitVec 32 := Scalar.muli arg21 c512_i32_204
  v472
def k0_off83 (k0_t2 : Fin k0_t2_loop.trips) (k0_t30 : Fin (k0_t30_loop k0_t2).trips) : Fin 2 → Nat :=
  let c0_i32_182 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_180 : BitVec 32 := 1#32
  let v411 : BitVec 32 := Scalar.addi v23 c1_i32_180
  let v413 : BitVec 32 := Scalar.subi v411 c0_i32_182
  let c1_i32_183 : BitVec 32 := 1#32
  let v415 : BitVec 32 := Scalar.divsi v413 c1_i32_183
  let v416 : BitVec 32 := Scalar.muli v415 c1_i32_183
  let v417 : BitVec 32 := Scalar.addi c0_i32_182 v416
  let c1_i32_185 : BitVec 32 := 1#32
  let arg21 : BitVec 32 := Scf.iv v417 c1_i32_185 k0_t30
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
@[reducible] def k0_t31_loop (k0_t2 : Fin k0_t2_loop.trips) : Scf.Loop 32 :=
  let c0_i32_189 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_187 : BitVec 32 := 1#32
  let v431 : BitVec 32 := Scalar.addi v23 c1_i32_187
  let v433 : BitVec 32 := Scalar.subi v431 c0_i32_189
  let c1_i32_190 : BitVec 32 := 1#32
  let v435 : BitVec 32 := Scalar.divsi v433 c1_i32_190
  let v436 : BitVec 32 := Scalar.muli v435 c1_i32_190
  let v437 : BitVec 32 := Scalar.addi c0_i32_189 v436
  let c1_i32_191 : BitVec 32 := 1#32
  ⟨c0_i32_189, v437, c1_i32_191⟩
def k0_mult35 (k0_t2 : Fin k0_t2_loop.trips) (k0_t31 : Fin (k0_t31_loop k0_t2).trips) : BitVec 32 :=
  let c0_i32_189 : BitVec 32 := 0#32
  let c1_i32_191 : BitVec 32 := 1#32
  let arg21 : BitVec 32 := Scf.iv c0_i32_189 c1_i32_191 k0_t31
  let c512_i32_204 : BitVec 32 := 512#32
  let v472 : BitVec 32 := Scalar.muli arg21 c512_i32_204
  v472
def k0_off84 (k0_t2 : Fin k0_t2_loop.trips) (k0_t31 : Fin (k0_t31_loop k0_t2).trips) : Fin 2 → Nat :=
  let c0_i32_189 : BitVec 32 := 0#32
  let c1_i32_191 : BitVec 32 := 1#32
  let arg21 : BitVec 32 := Scf.iv c0_i32_189 c1_i32_191 k0_t31
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
def k0_off85 (k0_t2 : Fin k0_t2_loop.trips) (k0_t31 : Fin (k0_t31_loop k0_t2).trips) : Fin 2 → Nat :=
  let c0_209 : Index := 0#32
  let c0_i32_189 : BitVec 32 := 0#32
  let c1_i32_191 : BitVec 32 := 1#32
  let arg21 : BitVec 32 := Scf.iv c0_i32_189 c1_i32_191 k0_t31
  let c512_i32_204 : BitVec 32 := 512#32
  let v472 : BitVec 32 := Scalar.muli arg21 c512_i32_204
  let v473 : BitVec 32 := v472
  let v487 : Index := Scalar.indexCast v473
  ![0, v487.toNat]
@[reducible] def k0_t32_loop (k0_t2 : Fin k0_t2_loop.trips) : Scf.Loop 32 :=
  let c0_i32_189 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_187 : BitVec 32 := 1#32
  let v431 : BitVec 32 := Scalar.addi v23 c1_i32_187
  let v433 : BitVec 32 := Scalar.subi v431 c0_i32_189
  let c1_i32_190 : BitVec 32 := 1#32
  let v435 : BitVec 32 := Scalar.divsi v433 c1_i32_190
  let v436 : BitVec 32 := Scalar.muli v435 c1_i32_190
  let v437 : BitVec 32 := Scalar.addi c0_i32_189 v436
  let v434 : BitVec 32 := Scalar.addi c0_i32_189 v433
  let c1_i32_192 : BitVec 32 := 1#32
  ⟨v437, v434, c1_i32_192⟩
def k0_mult36 (k0_t2 : Fin k0_t2_loop.trips) (k0_t32 : Fin (k0_t32_loop k0_t2).trips) : BitVec 32 :=
  let c0_i32_189 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_187 : BitVec 32 := 1#32
  let v431 : BitVec 32 := Scalar.addi v23 c1_i32_187
  let v433 : BitVec 32 := Scalar.subi v431 c0_i32_189
  let c1_i32_190 : BitVec 32 := 1#32
  let v435 : BitVec 32 := Scalar.divsi v433 c1_i32_190
  let v436 : BitVec 32 := Scalar.muli v435 c1_i32_190
  let v437 : BitVec 32 := Scalar.addi c0_i32_189 v436
  let c1_i32_192 : BitVec 32 := 1#32
  let arg21 : BitVec 32 := Scf.iv v437 c1_i32_192 k0_t32
  let c512_i32_204 : BitVec 32 := 512#32
  let v472 : BitVec 32 := Scalar.muli arg21 c512_i32_204
  v472
def k0_off86 (k0_t2 : Fin k0_t2_loop.trips) (k0_t32 : Fin (k0_t32_loop k0_t2).trips) : Fin 2 → Nat :=
  let c0_i32_189 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_187 : BitVec 32 := 1#32
  let v431 : BitVec 32 := Scalar.addi v23 c1_i32_187
  let v433 : BitVec 32 := Scalar.subi v431 c0_i32_189
  let c1_i32_190 : BitVec 32 := 1#32
  let v435 : BitVec 32 := Scalar.divsi v433 c1_i32_190
  let v436 : BitVec 32 := Scalar.muli v435 c1_i32_190
  let v437 : BitVec 32 := Scalar.addi c0_i32_189 v436
  let c1_i32_192 : BitVec 32 := 1#32
  let arg21 : BitVec 32 := Scf.iv v437 c1_i32_192 k0_t32
  let c512_i32_204 : BitVec 32 := 512#32
  let v472 : BitVec 32 := Scalar.muli arg21 c512_i32_204
  let v473 : BitVec 32 := v472
  let v474 : Index := Scalar.indexCast v473
  let c0_205 : Index := 0#32
  ![v474.toNat, 0]
def k0_off87 (k0_t2 : Fin k0_t2_loop.trips) (k0_t32 : Fin (k0_t32_loop k0_t2).trips) : Fin 2 → Nat :=
  let c0_209 : Index := 0#32
  let c0_i32_189 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_187 : BitVec 32 := 1#32
  let v431 : BitVec 32 := Scalar.addi v23 c1_i32_187
  let v433 : BitVec 32 := Scalar.subi v431 c0_i32_189
  let c1_i32_190 : BitVec 32 := 1#32
  let v435 : BitVec 32 := Scalar.divsi v433 c1_i32_190
  let v436 : BitVec 32 := Scalar.muli v435 c1_i32_190
  let v437 : BitVec 32 := Scalar.addi c0_i32_189 v436
  let c1_i32_192 : BitVec 32 := 1#32
  let arg21 : BitVec 32 := Scf.iv v437 c1_i32_192 k0_t32
  let c512_i32_204 : BitVec 32 := 512#32
  let v472 : BitVec 32 := Scalar.muli arg21 c512_i32_204
  let v473 : BitVec 32 := v472
  let v487 : Index := Scalar.indexCast v473
  ![0, v487.toNat]
@[reducible] def k0_t33_loop (k0_t2 : Fin k0_t2_loop.trips) : Scf.Loop 32 :=
  let c0_i32_197 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_195 : BitVec 32 := 1#32
  let v453 : BitVec 32 := Scalar.addi v23 c1_i32_195
  let v455 : BitVec 32 := Scalar.subi v453 c0_i32_197
  let c1_i32_198 : BitVec 32 := 1#32
  let v457 : BitVec 32 := Scalar.divsi v455 c1_i32_198
  let v458 : BitVec 32 := Scalar.muli v457 c1_i32_198
  let v459 : BitVec 32 := Scalar.addi c0_i32_197 v458
  let c1_i32_199 : BitVec 32 := 1#32
  ⟨c0_i32_197, v459, c1_i32_199⟩
def k0_mult37 (k0_t2 : Fin k0_t2_loop.trips) (k0_t33 : Fin (k0_t33_loop k0_t2).trips) : BitVec 32 :=
  let c0_i32_197 : BitVec 32 := 0#32
  let c1_i32_199 : BitVec 32 := 1#32
  let arg21 : BitVec 32 := Scf.iv c0_i32_197 c1_i32_199 k0_t33
  let c512_i32_204 : BitVec 32 := 512#32
  let v472 : BitVec 32 := Scalar.muli arg21 c512_i32_204
  v472
def k0_off88 (k0_t2 : Fin k0_t2_loop.trips) (k0_t33 : Fin (k0_t33_loop k0_t2).trips) : Fin 3 → Nat :=
  let c0_205 : Index := 0#32
  let c0_i32_197 : BitVec 32 := 0#32
  let c1_i32_199 : BitVec 32 := 1#32
  let arg21 : BitVec 32 := Scf.iv c0_i32_197 c1_i32_199 k0_t33
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off89 (k0_t2 : Fin k0_t2_loop.trips) (k0_t33 : Fin (k0_t33_loop k0_t2).trips) : Fin 2 → Nat :=
  let c0_i32_197 : BitVec 32 := 0#32
  let c1_i32_199 : BitVec 32 := 1#32
  let arg21 : BitVec 32 := Scf.iv c0_i32_197 c1_i32_199 k0_t33
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off90 (k0_t2 : Fin k0_t2_loop.trips) (k0_t33 : Fin (k0_t33_loop k0_t2).trips) : Fin 2 → Nat :=
  let c0_i32_197 : BitVec 32 := 0#32
  let c1_i32_199 : BitVec 32 := 1#32
  let arg21 : BitVec 32 := Scf.iv c0_i32_197 c1_i32_199 k0_t33
  let c512_i32_204 : BitVec 32 := 512#32
  let v472 : BitVec 32 := Scalar.muli arg21 c512_i32_204
  let v473 : BitVec 32 := v472
  let v482 : Index := Scalar.indexCast v473
  let c0_209 : Index := 0#32
  ![v482.toNat, 0]
def k0_off91 (k0_t2 : Fin k0_t2_loop.trips) (k0_t33 : Fin (k0_t33_loop k0_t2).trips) : Fin 2 → Nat :=
  let c0_210 : Index := 0#32
  let c0_i32_197 : BitVec 32 := 0#32
  let c1_i32_199 : BitVec 32 := 1#32
  let arg21 : BitVec 32 := Scf.iv c0_i32_197 c1_i32_199 k0_t33
  let c512_i32_204 : BitVec 32 := 512#32
  let v472 : BitVec 32 := Scalar.muli arg21 c512_i32_204
  let v473 : BitVec 32 := v472
  let v488 : Index := Scalar.indexCast v473
  ![0, v488.toNat]
@[reducible] def k0_t34_loop (k0_t2 : Fin k0_t2_loop.trips) : Scf.Loop 32 :=
  let c0_i32_197 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_195 : BitVec 32 := 1#32
  let v453 : BitVec 32 := Scalar.addi v23 c1_i32_195
  let v455 : BitVec 32 := Scalar.subi v453 c0_i32_197
  let c1_i32_198 : BitVec 32 := 1#32
  let v457 : BitVec 32 := Scalar.divsi v455 c1_i32_198
  let v458 : BitVec 32 := Scalar.muli v457 c1_i32_198
  let v459 : BitVec 32 := Scalar.addi c0_i32_197 v458
  let v456 : BitVec 32 := Scalar.addi c0_i32_197 v455
  let c1_i32_200 : BitVec 32 := 1#32
  ⟨v459, v456, c1_i32_200⟩
def k0_mult38 (k0_t2 : Fin k0_t2_loop.trips) (k0_t34 : Fin (k0_t34_loop k0_t2).trips) : BitVec 32 :=
  let c0_i32_197 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_195 : BitVec 32 := 1#32
  let v453 : BitVec 32 := Scalar.addi v23 c1_i32_195
  let v455 : BitVec 32 := Scalar.subi v453 c0_i32_197
  let c1_i32_198 : BitVec 32 := 1#32
  let v457 : BitVec 32 := Scalar.divsi v455 c1_i32_198
  let v458 : BitVec 32 := Scalar.muli v457 c1_i32_198
  let v459 : BitVec 32 := Scalar.addi c0_i32_197 v458
  let c1_i32_200 : BitVec 32 := 1#32
  let arg21 : BitVec 32 := Scf.iv v459 c1_i32_200 k0_t34
  let c512_i32_204 : BitVec 32 := 512#32
  let v472 : BitVec 32 := Scalar.muli arg21 c512_i32_204
  v472
def k0_off92 (k0_t2 : Fin k0_t2_loop.trips) (k0_t34 : Fin (k0_t34_loop k0_t2).trips) : Fin 3 → Nat :=
  let c0_205 : Index := 0#32
  let c0_i32_197 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_195 : BitVec 32 := 1#32
  let v453 : BitVec 32 := Scalar.addi v23 c1_i32_195
  let v455 : BitVec 32 := Scalar.subi v453 c0_i32_197
  let c1_i32_198 : BitVec 32 := 1#32
  let v457 : BitVec 32 := Scalar.divsi v455 c1_i32_198
  let v458 : BitVec 32 := Scalar.muli v457 c1_i32_198
  let v459 : BitVec 32 := Scalar.addi c0_i32_197 v458
  let c1_i32_200 : BitVec 32 := 1#32
  let arg21 : BitVec 32 := Scf.iv v459 c1_i32_200 k0_t34
  let c512_i32_204 : BitVec 32 := 512#32
  let v472 : BitVec 32 := Scalar.muli arg21 c512_i32_204
  let v473 : BitVec 32 := v472
  let v474 : Index := Scalar.indexCast v473
  let c0_206 : Index := 0#32
  ![0, v474.toNat, 0]
def k0_off93 (k0_t2 : Fin k0_t2_loop.trips) (k0_t34 : Fin (k0_t34_loop k0_t2).trips) : Fin 2 → Nat :=
  let c0_i32_197 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_195 : BitVec 32 := 1#32
  let v453 : BitVec 32 := Scalar.addi v23 c1_i32_195
  let v455 : BitVec 32 := Scalar.subi v453 c0_i32_197
  let c1_i32_198 : BitVec 32 := 1#32
  let v457 : BitVec 32 := Scalar.divsi v455 c1_i32_198
  let v458 : BitVec 32 := Scalar.muli v457 c1_i32_198
  let v459 : BitVec 32 := Scalar.addi c0_i32_197 v458
  let c1_i32_200 : BitVec 32 := 1#32
  let arg21 : BitVec 32 := Scf.iv v459 c1_i32_200 k0_t34
  let c512_i32_204 : BitVec 32 := 512#32
  let v472 : BitVec 32 := Scalar.muli arg21 c512_i32_204
  let v473 : BitVec 32 := v472
  let v478 : Index := Scalar.indexCast v473
  let c0_208 : Index := 0#32
  ![v478.toNat, 0]
def k0_off94 (k0_t2 : Fin k0_t2_loop.trips) (k0_t34 : Fin (k0_t34_loop k0_t2).trips) : Fin 2 → Nat :=
  let c0_i32_197 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_195 : BitVec 32 := 1#32
  let v453 : BitVec 32 := Scalar.addi v23 c1_i32_195
  let v455 : BitVec 32 := Scalar.subi v453 c0_i32_197
  let c1_i32_198 : BitVec 32 := 1#32
  let v457 : BitVec 32 := Scalar.divsi v455 c1_i32_198
  let v458 : BitVec 32 := Scalar.muli v457 c1_i32_198
  let v459 : BitVec 32 := Scalar.addi c0_i32_197 v458
  let c1_i32_200 : BitVec 32 := 1#32
  let arg21 : BitVec 32 := Scf.iv v459 c1_i32_200 k0_t34
  let c512_i32_204 : BitVec 32 := 512#32
  let v472 : BitVec 32 := Scalar.muli arg21 c512_i32_204
  let v473 : BitVec 32 := v472
  let v482 : Index := Scalar.indexCast v473
  let c0_209 : Index := 0#32
  ![v482.toNat, 0]
def k0_off95 (k0_t2 : Fin k0_t2_loop.trips) (k0_t34 : Fin (k0_t34_loop k0_t2).trips) : Fin 2 → Nat :=
  let c0_210 : Index := 0#32
  let c0_i32_197 : BitVec 32 := 0#32
  let c0_i32_9 : BitVec 32 := 0#32
  let c0_i32_1 : BitVec 32 := 0#32
  let c1_i32_2 : BitVec 32 := 1#32
  let arg20 : BitVec 32 := Scf.iv c0_i32_1 c1_i32_2 k0_t2
  let c1_i32_8 : BitVec 32 := 1#32
  let v3 : BitVec 32 := Scalar.muli arg20 c1_i32_8
  let v4 : BitVec 32 := Scalar.addi c0_i32_9 v3
  let c256_i32 : BitVec 32 := 256#32
  let v5 : BitVec 32 := Scalar.muli v4 c256_i32
  let v6 : BitVec 32 := v5
  let c0_i32_10 : BitVec 32 := 0#32
  let v8 : BitVec 1 := Scalar.cmpi .sgt v6 c0_i32_10
  let v9 : BitVec 32 := Scalar.extui v8
  let c0_i32_11 : BitVec 32 := 0#32
  let v10 : BitVec 1 := Scalar.cmpi .slt v6 c0_i32_11
  let v11 : BitVec 32 := Scalar.extui v10
  let v12 : BitVec 32 := Scalar.subi v9 v11
  let c512_i32 : BitVec 32 := 512#32
  let c0_i32_12 : BitVec 32 := 0#32
  let v13 : BitVec 1 := Scalar.cmpi .sgt c512_i32 c0_i32_12
  let v14 : BitVec 32 := Scalar.extui v13
  let c0_i32_13 : BitVec 32 := 0#32
  let v15 : BitVec 1 := Scalar.cmpi .slt c512_i32 c0_i32_13
  let v16 : BitVec 32 := Scalar.extui v15
  let v17 : BitVec 32 := Scalar.subi v14 v16
  let v18 : BitVec 1 := Scalar.cmpi .ne v12 v17
  let v19 : BitVec 32 := Scalar.remsi v6 c512_i32
  let c0_i32_14 : BitVec 32 := 0#32
  let v20 : BitVec 1 := Scalar.cmpi .ne v19 c0_i32_14
  let v21 : BitVec 1 := Scalar.andi v18 v20
  let v7 : BitVec 32 := Scalar.divsi v6 c512_i32
  let c1_i32_15 : BitVec 32 := 1#32
  let v22 : BitVec 32 := Scalar.subi v7 c1_i32_15
  let v23 : BitVec 32 := Scalar.select v21 v22 v7
  let c1_i32_195 : BitVec 32 := 1#32
  let v453 : BitVec 32 := Scalar.addi v23 c1_i32_195
  let v455 : BitVec 32 := Scalar.subi v453 c0_i32_197
  let c1_i32_198 : BitVec 32 := 1#32
  let v457 : BitVec 32 := Scalar.divsi v455 c1_i32_198
  let v458 : BitVec 32 := Scalar.muli v457 c1_i32_198
  let v459 : BitVec 32 := Scalar.addi c0_i32_197 v458
  let c1_i32_200 : BitVec 32 := 1#32
  let arg21 : BitVec 32 := Scf.iv v459 c1_i32_200 k0_t34
  let c512_i32_204 : BitVec 32 := 512#32
  let v472 : BitVec 32 := Scalar.muli arg21 c512_i32_204
  let v473 : BitVec 32 := v472
  let v488 : Index := Scalar.indexCast v473
  ![0, v488.toNat]
@[reducible] def k0_t35_loop : Scf.Loop 32 :=
  let c0_i32_4 : BitVec 32 := 0#32
  let c32_i32_5 : BitVec 32 := 32#32
  let v2 : BitVec 32 := Scalar.addi c0_i32_4 c32_i32_5
  let c1_i32_6 : BitVec 32 := 1#32
  ⟨c0_i32_4, v2, c1_i32_6⟩
def k0_mult39 (k0_t35 : Fin k0_t35_loop.trips) : BitVec 32 :=
  let c0_i32_9 : BitVec 32 := 0#32
  let c0_i32_4 : BitVec 32 := 0#32
  let c1_i32_6 : BitVec 32 := 1#32
  let arg20 : BitVec 32 := Scf.iv c0_i32_4 c1_i32_6 k0_t35
  let c1_i32_8 : BitVec 32 := 1#32
  let v3 : BitVec 32 := Scalar.muli arg20 c1_i32_8
  let v4 : BitVec 32 := Scalar.addi c0_i32_9 v3
  let c128_i32 : BitVec 32 := 128#32
  let v5 : BitVec 32 := Scalar.muli v4 c128_i32
  v5
def k0_off96 (k0_t35 : Fin k0_t35_loop.trips) : Fin 2 → Nat :=
  let c0 : Index := 0#32
  let c0_i32_9 : BitVec 32 := 0#32
  let c0_i32_4 : BitVec 32 := 0#32
  let c1_i32_6 : BitVec 32 := 1#32
  let arg20 : BitVec 32 := Scf.iv c0_i32_4 c1_i32_6 k0_t35
  let c1_i32_8 : BitVec 32 := 1#32
  let v3 : BitVec 32 := Scalar.muli arg20 c1_i32_8
  let v4 : BitVec 32 := Scalar.addi c0_i32_9 v3
  let c128_i32 : BitVec 32 := 128#32
  let v5 : BitVec 32 := Scalar.muli v4 c128_i32
  let v6 : BitVec 32 := v5
  let v7 : Index := Scalar.indexCast v6
  ![0, v7.toNat]
def k0_off97 (k0_t35 : Fin k0_t35_loop.trips) : Fin 3 → Nat :=
  let c0_10 : Index := 0#32
  let c0_i32_9 : BitVec 32 := 0#32
  let c0_i32_4 : BitVec 32 := 0#32
  let c1_i32_6 : BitVec 32 := 1#32
  let arg20 : BitVec 32 := Scf.iv c0_i32_4 c1_i32_6 k0_t35
  let c1_i32_8 : BitVec 32 := 1#32
  let v3 : BitVec 32 := Scalar.muli arg20 c1_i32_8
  let v4 : BitVec 32 := Scalar.addi c0_i32_9 v3
  let c128_i32 : BitVec 32 := 128#32
  let v5 : BitVec 32 := Scalar.muli v4 c128_i32
  let v6 : BitVec 32 := v5
  let v13 : Index := Scalar.indexCast v6
  let c0_11 : Index := 0#32
  ![0, v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x4x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x4096x2048 : Shape := ⟨3, ![8, 4096, 2048]⟩
abbrev S8x4096x512 : Shape := ⟨3, ![8, 4096, 512]⟩
abbrev S8x4x4x4096 : Shape := ⟨4, ![8, 4, 4, 4096]⟩
abbrev S8x4x1x4096 : Shape := ⟨4, ![8, 4, 1, 4096]⟩
abbrev S8x4096x4x4x128 : Shape := ⟨5, ![8, 4096, 4, 4, 128]⟩
abbrev S8x4096x4x128 : Shape := ⟨4, ![8, 4096, 4, 128]⟩
abbrev S8x4x4096x4 : Shape := ⟨4, ![8, 4, 4096, 4]⟩
abbrev S8x4x4096 : Shape := ⟨3, ![8, 4, 4096]⟩
abbrev S8x4096x4x4 : Shape := ⟨4, ![8, 4096, 4, 4]⟩
abbrev S8x4096x4x4x1 : Shape := ⟨5, ![8, 4096, 4, 4, 1]⟩
abbrev S8x4096x4 : Shape := ⟨3, ![8, 4096, 4]⟩
abbrev S8x4096x4x1 : Shape := ⟨4, ![8, 4096, 4, 1]⟩
abbrev S8x4x4096x4x4096 : Shape := ⟨5, ![8, 4, 4096, 4, 4096]⟩
abbrev S8x4x4096x4x1 : Shape := ⟨5, ![8, 4, 4096, 4, 1]⟩
abbrev S8x4x1x1x4096 : Shape := ⟨5, ![8, 4, 1, 1, 4096]⟩
abbrev S8x4x4096x4x128 : Shape := ⟨5, ![8, 4, 4096, 4, 128]⟩
abbrev S8x4x128x4096x4 : Shape := ⟨5, ![8, 4, 128, 4096, 4]⟩
abbrev S8x4x128x4096 : Shape := ⟨4, ![8, 4, 128, 4096]⟩

abbrev nBuf : Space → Nat
  | .hbm => 11
  | .vmem => 11
  | .smem => 0
  | _ => 0

abbrev bufTy : (tb : Table) → Fin (tcTables nBuf tb) → BufTy
  | .hbm, ⟨0, _⟩ => ⟨S8x4096x2048, .fp8e4m3⟩
  | .hbm, ⟨1, _⟩ => ⟨S8x4096x512, .fp8e4m3⟩
  | .hbm, ⟨2, _⟩ => ⟨S8x4096x512, .fp8e4m3⟩
  | .hbm, ⟨3, _⟩ => ⟨S8x4096x2048, .fp8e5m2⟩
  | .hbm, ⟨4, _⟩ => ⟨S8x4x4x4096, .f32⟩
  | .hbm, ⟨5, _⟩ => ⟨S8x4x1x4096, .f32⟩
  | .hbm, ⟨6, _⟩ => ⟨S8x4x1x4096, .f32⟩
  | .hbm, ⟨7, _⟩ => ⟨S8x4x4x4096, .f32⟩
  | .hbm, ⟨8, _⟩ => ⟨S8x4096x2048, .bf16⟩
  | .hbm, ⟨9, _⟩ => ⟨S8x4096x512, .bf16⟩
  | .hbm, ⟨10, _⟩ => ⟨S8x4096x512, .bf16⟩
  | .local _ .vmem, ⟨0, _⟩ => ⟨S8x4096x2048, .fp8e4m3⟩
  | .local _ .vmem, ⟨1, _⟩ => ⟨S8x4096x512, .fp8e4m3⟩
  | .local _ .vmem, ⟨2, _⟩ => ⟨S8x4096x512, .fp8e4m3⟩
  | .local _ .vmem, ⟨3, _⟩ => ⟨S8x4096x2048, .fp8e5m2⟩
  | .local _ .vmem, ⟨4, _⟩ => ⟨S8x4x4x4096, .f32⟩
  | .local _ .vmem, ⟨5, _⟩ => ⟨S8x4x1x4096, .f32⟩
  | .local _ .vmem, ⟨6, _⟩ => ⟨S8x4x1x4096, .f32⟩
  | .local _ .vmem, ⟨7, _⟩ => ⟨S8x4x4x4096, .f32⟩
  | .local _ .vmem, ⟨8, _⟩ => ⟨S8x4096x2048, .bf16⟩
  | .local _ .vmem, ⟨9, _⟩ => ⟨S8x4096x512, .bf16⟩
  | .local _ .vmem, ⟨10, _⟩ => ⟨S8x4096x512, .bf16⟩
  | _, _ => ⟨S8x4096x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4096x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4096x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4096x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4x4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4x1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4x4x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x4096x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x4096x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.S.KernelLoops1.lean ====
module

public import proofs.«01_k».proof.Proof.Gen.Kernel.Skeleton
public import proofs.«01_k».proof.Proof.Gen.Kernel.Frame
public import Idealize.ShloMosaic.Lib.Exec
public import Idealize.ShloMosaic.Lib.Tactic
public import Idealize.ShloMosaic.Lib.VecWindow

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option warn.classDefReducibility false in
/-- Loop `k0_t1`: what it reads stays as it is, what it writes holds something. -/
@[sl_loop] def loop1   (X3 : BufTy.Contents (Elt F) arg3.view.ty) (X4 : BufTy.Contents (Elt F) arg4.view.ty) (X7 : BufTy.Contents (Elt F) arg7.view.ty) (X8 : BufTy.Contents (Elt F) arg8.view.ty) :
    Idealize.ShloMosaic.LoopInv (M := 𝕄) Idealize.ShloMosaic.frame
      (wpE (defs₀ (F := F)) Variants.none (c : Thread nD τ) none) Set.univ
      k0_t1_loop.lb k0_t1_loop.ub k0_t1_loop.st k0_t1_ok ()
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv _ _ := iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    unfold k0_t1_body
    iintro ⟨H3, H4, H7, H8, ⟨%f14, H14⟩, ⟨%f15, H15⟩, ⟨%f16, H16⟩, ⟨%f17, H17⟩, ⟨%f18, H18⟩, ⟨%f19, H19⟩⟩
    sl_exec
    sl_step
    sl_close

set_option warn.classDefReducibility false in
/-- Loop `k0_t3`: what it reads stays as it is, what it writes holds something. -/
@[sl_loop] def loop3 (k0_t2 : Fin k0_t2_loop.trips) (v6 : BitVec 32) (v23 : BitVec 32) (v26 : FVec F S256x128 .fp8e4m3) (v37 : FVec F S1x256 .f32) (v38 : FVec F S1x256 .f32) (c0_i32_26 : BitVec 32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t3_loop k0_t2).lb (k0_t3_loop k0_t2).ub (k0_t3_loop k0_t2).st (k0_t3_ok k0_t2) init
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v26 v37 v38 c0_i32_26) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t3_body
    iintro ⟨H3, H16, ⟨%f13, H13⟩⟩
    sl_exec
    sl_step
    sl_close

set_option warn.classDefReducibility false in
/-- Loop `k0_t7`: what it reads stays as it is, what it writes holds something. -/
@[sl_loop] def loop7 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (v83 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t7_loop k0_t2).lb (k0_t7_loop k0_t2).ub (k0_t7_loop k0_t2).st (k0_t7_ok k0_t2) init
      (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81 v83) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t7_body
    iintro ⟨H15, ⟨%f13, H13⟩, ⟨%f19, H19⟩⟩
    sl_exec
    sl_step
    sl_close

set_option warn.classDefReducibility false in
/-- Loop `k0_t11`: what it reads stays as it is, what it writes holds something. -/
@[sl_loop] def loop11 (k0_t2 : Fin k0_t2_loop.trips) (v6 : BitVec 32) (v23 : BitVec 32) (v29 : FVec F S256x128 .fp8e5m2) (v35 : FVec F S1x256 .f32) (v110 : FVec F S1x256 .f32) (v116 : FVec F S128x256 .bf16) (v123 : BitVec 32) (v124 : FVec F S128x256 .f32) (c1_i32_59 : BitVec 32) (v137 : Vec F S1x256x128 .fp8e4m3) (v143 : Vec F S1x1x1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t11_loop k0_t2).lb (k0_t11_loop k0_t2).ub (k0_t11_loop k0_t2).st (k0_t11_ok k0_t2) init
      (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v29 v35 v110 v116 v123 v124 c1_i32_59 v137 v143) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t11_body
    iintro ⟨H3, H16, ⟨%f13, H13⟩⟩
    sl_exec
    sl_step
    sl_close

set_option warn.classDefReducibility false in
/-- Loop `k0_t15`: what it reads stays as it is, what it writes holds something. -/
@[sl_loop] def loop15 (k0_t2 : Fin k0_t2_loop.trips) (v6 : BitVec 32) (v23 : BitVec 32) (v138 : FVec F S256x128 .fp8e4m3) (v141 : FVec F S256x128 .fp8e5m2) (v144 : FVec F S1x256 .f32) (v147 : FVec F S1x256 .f32) (v201 : FVec F S1x256 .f32) (v206 : FVec F S128x256 .bf16) (c1_i32_93 : BitVec 32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t15_loop k0_t2).lb (k0_t15_loop k0_t2).ub (k0_t15_loop k0_t2).st (k0_t15_ok k0_t2) init
      (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t15_body
    iintro ⟨H15, ⟨%f13, H13⟩, ⟨%f19, H19⟩⟩
    sl_exec
    sl_step
    sl_close

set_option warn.classDefReducibility false in
/-- Loop `k0_t19`: what it reads stays as it is, what it writes holds something. -/
@[sl_loop] def loop19 (k0_t2 : Fin k0_t2_loop.trips) (v6 : BitVec 32) (v23 : BitVec 32) (v249 : Vec F S1x256x128 .fp8e4m3) (v255 : Vec F S1x1x1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t19_loop k0_t2).lb (k0_t19_loop k0_t2).ub (k0_t19_loop k0_t2).st (k0_t19_ok k0_t2) init
      (k0_t19_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v249 v255) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t19_body
    iintro ⟨H3, H16, ⟨%f13, H13⟩⟩
    sl_exec
    sl_step
    sl_close

set_option warn.classDefReducibility false in
/-- Loop `k0_t23`: what it reads stays as it is, what it writes holds something. -/
@[sl_loop] def loop23 (k0_t2 : Fin k0_t2_loop.trips) (v23 : BitVec 32) (v253 : FVec F S256x128 .fp8e5m2) (v259 : FVec F S1x256 .f32) (v269 : FVec F S1x256 .f32) (v271 : BitVec 32) (v281 : FVec F S512x256 .f32) (v285 : IVec S512x256 32) (v286 : IVec S512x256 32) (v287 : IVec S512x256 32) (v307 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t23_loop k0_t2).lb (k0_t23_loop k0_t2).ub (k0_t23_loop k0_t2).st (k0_t23_ok k0_t2) init
      (k0_t23_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287 v307) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t23_body
    iintro ⟨H15, ⟨%f13, H13⟩, ⟨%f19, H19⟩⟩
    sl_exec
    sl_step
    sl_close

set_option warn.classDefReducibility false in
/-- Loop `k0_t27`: what it reads stays as it is, what it writes holds something. -/
@[sl_loop] def loop27 (k0_t2 : Fin k0_t2_loop.trips) (v6 : BitVec 32) (v23 : BitVec 32) (v362 : FVec F S256x128 .fp8e4m3) (v368 : FVec F S1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t27_loop k0_t2).lb (k0_t27_loop k0_t2).ub (k0_t27_loop k0_t2).st (k0_t27_ok k0_t2) init
      (k0_t27_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v362 v368) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t27_body
    iintro ⟨H3, H16, ⟨%f13, H13⟩⟩
    sl_exec
    sl_step
    sl_close

set_option warn.classDefReducibility false in
/-- Loop `k0_t31`: what it reads stays as it is, what it writes holds something. -/
@[sl_loop] def loop31 (k0_t2 : Fin k0_t2_loop.trips) (v23 : BitVec 32) (v362 : FVec F S256x128 .fp8e4m3) (v365 : FVec F S256x128 .fp8e5m2) (v368 : FVec F S1x256 .f32) (v371 : FVec F S1x256 .f32) (v410 : FVec F S1x256 .f32) (v411 : BitVec 32) (v419 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t31_loop k0_t2).lb (k0_t31_loop k0_t2).ub (k0_t31_loop k0_t2).st (k0_t31_ok k0_t2) init
      (k0_t31_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411 v419) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t31_body
    iintro ⟨H15, ⟨%f13, H13⟩, ⟨%f19, H19⟩⟩
    sl_exec
    sl_step
    sl_close

set_option warn.classDefReducibility false in
/-- Loop `k0_t35`: what it reads stays as it is, what it writes holds something. -/
@[sl_loop] def loop35   (X18 : BufTy.Contents (Elt F) arg18.view.ty) (X19 : BufTy.Contents (Elt F) arg19.view.ty) :
    Idealize.ShloMosaic.LoopInv (M := 𝕄) Idealize.ShloMosaic.frame
      (wpE (defs₀ (F := F)) Variants.none (c : Thread nD τ) none) Set.univ
      k0_t35_loop.lb k0_t35_loop.ub k0_t35_loop.st k0_t35_ok ()
      (k0_t35_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv _ _ := iprop((arg18.view.loc (c : Thread nD τ) ↦[arg18.view.set]{fullShare} X18) ∗ (arg19.view.loc (c : Thread nD τ) ↦[arg19.view.set]{fullShare} X19) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)))
  step k acc := by
    unfold k0_t35_body
    iintro ⟨H18, H19, ⟨%f11, H11⟩, ⟨%f12, H12⟩⟩
    sl_exec
    sl_step
    sl_close

end Cert.Proof.Kernel
-- ==== Proof.S.KernelLoops2.lean ====
module

public import proofs.«01_k».proof.Proof.Gen.Kernel.Skeleton
public import proofs.«01_k».proof.Proof.Gen.Kernel.Frame
public import Idealize.ShloMosaic.Lib.Exec
public import Idealize.ShloMosaic.Lib.Tactic
public import Idealize.ShloMosaic.Lib.VecWindow

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option warn.classDefReducibility false in
/-- Loop `k0_t4`: what it reads stays as it is, what it writes holds something. -/
@[sl_loop] def loop4 (k0_t2 : Fin k0_t2_loop.trips) (v6 : BitVec 32) (v23 : BitVec 32) (v26 : FVec F S256x128 .fp8e4m3) (v37 : FVec F S1x256 .f32) (v38 : FVec F S1x256 .f32) (c0_i32_26 : BitVec 32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t4_loop k0_t2).lb (k0_t4_loop k0_t2).ub (k0_t4_loop k0_t2).st (k0_t4_ok k0_t2) init
      (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v26 v37 v38 c0_i32_26) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t4_body
    iintro ⟨H3, H16, ⟨%f13, H13⟩⟩
    sl_exec
    sl_step
    sl_close

set_option warn.classDefReducibility false in
/-- Loop `k0_t8`: what it reads stays as it is, what it writes holds something. -/
@[sl_loop] def loop8 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (v83 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t8_loop k0_t2).lb (k0_t8_loop k0_t2).ub (k0_t8_loop k0_t2).st (k0_t8_ok k0_t2) init
      (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81 v83) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t8_body
    iintro ⟨H15, ⟨%f13, H13⟩, ⟨%f19, H19⟩⟩
    sl_exec
    sl_step
    sl_close

set_option warn.classDefReducibility false in
/-- Loop `k0_t12`: what it reads stays as it is, what it writes holds something. -/
@[sl_loop] def loop12 (k0_t2 : Fin k0_t2_loop.trips) (v6 : BitVec 32) (v23 : BitVec 32) (v29 : FVec F S256x128 .fp8e5m2) (v35 : FVec F S1x256 .f32) (v110 : FVec F S1x256 .f32) (v116 : FVec F S128x256 .bf16) (v123 : BitVec 32) (v124 : FVec F S128x256 .f32) (c1_i32_59 : BitVec 32) (v137 : Vec F S1x256x128 .fp8e4m3) (v143 : Vec F S1x1x1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t12_loop k0_t2).lb (k0_t12_loop k0_t2).ub (k0_t12_loop k0_t2).st (k0_t12_ok k0_t2) init
      (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v29 v35 v110 v116 v123 v124 c1_i32_59 v137 v143) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t12_body
    iintro ⟨H3, H16, ⟨%f13, H13⟩⟩
    sl_exec
    sl_step
    sl_close

set_option warn.classDefReducibility false in
/-- Loop `k0_t16`: what it reads stays as it is, what it writes holds something. -/
@[sl_loop] def loop16 (k0_t2 : Fin k0_t2_loop.trips) (v6 : BitVec 32) (v23 : BitVec 32) (v138 : FVec F S256x128 .fp8e4m3) (v141 : FVec F S256x128 .fp8e5m2) (v144 : FVec F S1x256 .f32) (v147 : FVec F S1x256 .f32) (v201 : FVec F S1x256 .f32) (v206 : FVec F S128x256 .bf16) (c1_i32_93 : BitVec 32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t16_loop k0_t2).lb (k0_t16_loop k0_t2).ub (k0_t16_loop k0_t2).st (k0_t16_ok k0_t2) init
      (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t16_body
    iintro ⟨H15, ⟨%f13, H13⟩, ⟨%f19, H19⟩⟩
    sl_exec
    sl_step
    sl_close

set_option warn.classDefReducibility false in
/-- Loop `k0_t20`: what it reads stays as it is, what it writes holds something. -/
@[sl_loop] def loop20 (k0_t2 : Fin k0_t2_loop.trips) (v6 : BitVec 32) (v23 : BitVec 32) (v249 : Vec F S1x256x128 .fp8e4m3) (v255 : Vec F S1x1x1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t20_loop k0_t2).lb (k0_t20_loop k0_t2).ub (k0_t20_loop k0_t2).st (k0_t20_ok k0_t2) init
      (k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v249 v255) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t20_body
    iintro ⟨H3, H16, ⟨%f13, H13⟩⟩
    sl_exec
    sl_step
    sl_close

set_option warn.classDefReducibility false in
/-- Loop `k0_t24`: what it reads stays as it is, what it writes holds something. -/
@[sl_loop] def loop24 (k0_t2 : Fin k0_t2_loop.trips) (v23 : BitVec 32) (v253 : FVec F S256x128 .fp8e5m2) (v259 : FVec F S1x256 .f32) (v269 : FVec F S1x256 .f32) (v271 : BitVec 32) (v281 : FVec F S512x256 .f32) (v285 : IVec S512x256 32) (v286 : IVec S512x256 32) (v287 : IVec S512x256 32) (v307 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t24_loop k0_t2).lb (k0_t24_loop k0_t2).ub (k0_t24_loop k0_t2).st (k0_t24_ok k0_t2) init
      (k0_t24_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287 v307) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t24_body
    iintro ⟨H15, ⟨%f13, H13⟩, ⟨%f19, H19⟩⟩
    sl_exec
    sl_step
    sl_close

set_option warn.classDefReducibility false in
/-- Loop `k0_t28`: what it reads stays as it is, what it writes holds something. -/
@[sl_loop] def loop28 (k0_t2 : Fin k0_t2_loop.trips) (v6 : BitVec 32) (v23 : BitVec 32) (v362 : FVec F S256x128 .fp8e4m3) (v368 : FVec F S1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t28_loop k0_t2).lb (k0_t28_loop k0_t2).ub (k0_t28_loop k0_t2).st (k0_t28_ok k0_t2) init
      (k0_t28_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v362 v368) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t28_body
    iintro ⟨H3, H16, ⟨%f13, H13⟩⟩
    sl_exec
    sl_step
    sl_close

set_option warn.classDefReducibility false in
/-- Loop `k0_t32`: what it reads stays as it is, what it writes holds something. -/
@[sl_loop] def loop32 (k0_t2 : Fin k0_t2_loop.trips) (v23 : BitVec 32) (v362 : FVec F S256x128 .fp8e4m3) (v365 : FVec F S256x128 .fp8e5m2) (v368 : FVec F S1x256 .f32) (v371 : FVec F S1x256 .f32) (v410 : FVec F S1x256 .f32) (v411 : BitVec 32) (v419 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t32_loop k0_t2).lb (k0_t32_loop k0_t2).ub (k0_t32_loop k0_t2).st (k0_t32_ok k0_t2) init
      (k0_t32_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411 v419) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t32_body
    iintro ⟨H15, ⟨%f13, H13⟩, ⟨%f19, H19⟩⟩
    sl_exec
    sl_step
    sl_close

end Cert.Proof.Kernel
-- ==== Proof.S.KernelLoops3.lean ====
module

public import proofs.«01_k».proof.Proof.Gen.Kernel.Skeleton
public import proofs.«01_k».proof.Proof.Gen.Kernel.Frame
public import Idealize.ShloMosaic.Lib.Exec
public import Idealize.ShloMosaic.Lib.Tactic
public import Idealize.ShloMosaic.Lib.VecWindow

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option warn.classDefReducibility false in
/-- Loop `k0_t5`: what it reads stays as it is, what it writes holds something. -/
@[sl_loop] def loop5 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (init : FVec F S1x256 .f32)  :
    Idealize.ShloMosaic.LoopInv (M := 𝕄) Idealize.ShloMosaic.frame
      (wpE (defs₀ (F := F)) Variants.none (c : Thread nD τ) none) Set.univ
      (k0_t5_loop k0_t2).lb (k0_t5_loop k0_t2).ub (k0_t5_loop k0_t2).st (k0_t5_ok k0_t2) init
      (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81) where
  inv _ _ := iprop((∃ f : BufTy.Contents (Elt F) arg13.view.ty, (arg13.view.loc (c : Thread nD τ) ↦[arg13.view.set]{fullShare} f)))
  step k acc := by
    unfold k0_t5_body
    iintro ⟨⟨%f13, H13⟩⟩
    sl_exec
    sl_step
    sl_close

set_option warn.classDefReducibility false in
/-- Loop `k0_t9`: what it reads stays as it is, what it writes holds something. -/
@[sl_loop] def loop9 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (v103 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t9_loop k0_t2).lb (k0_t9_loop k0_t2).ub (k0_t9_loop k0_t2).st (k0_t9_ok k0_t2) init
      (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81 v103) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t9_body
    iintro ⟨H4, H13, H14, H17, ⟨%f18, H18⟩⟩
    sl_exec
    sl_step
    sl_close

set_option warn.classDefReducibility false in
/-- Loop `k0_t13`: what it reads stays as it is, what it writes holds something. -/
@[sl_loop] def loop13 (k0_t2 : Fin k0_t2_loop.trips) (v6 : BitVec 32) (v23 : BitVec 32) (v138 : FVec F S256x128 .fp8e4m3) (v141 : FVec F S256x128 .fp8e5m2) (v147 : FVec F S1x256 .f32) (v149 : FVec F S1x256 .f32) (v157 : FVec F S1x256 .f32) (v159 : BitVec 32) (v161 : Vec F S1x512x128 .fp8e4m3) (v165 : Vec F S512x128 .f32) (init : FVec F S1x256 .f32)  :
    Idealize.ShloMosaic.LoopInv (M := 𝕄) Idealize.ShloMosaic.frame
      (wpE (defs₀ (F := F)) Variants.none (c : Thread nD τ) none) Set.univ
      (k0_t13_loop k0_t2).lb (k0_t13_loop k0_t2).ub (k0_t13_loop k0_t2).st (k0_t13_ok k0_t2) init
      (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v147 v149 v157 v159 v161 v165) where
  inv _ _ := iprop((∃ f : BufTy.Contents (Elt F) arg13.view.ty, (arg13.view.loc (c : Thread nD τ) ↦[arg13.view.set]{fullShare} f)))
  step k acc := by
    unfold k0_t13_body
    iintro ⟨⟨%f13, H13⟩⟩
    sl_exec
    sl_step
    sl_close

set_option warn.classDefReducibility false in
/-- Loop `k0_t17`: what it reads stays as it is, what it writes holds something. -/
@[sl_loop] def loop17 (k0_t2 : Fin k0_t2_loop.trips) (v6 : BitVec 32) (v23 : BitVec 32) (v138 : FVec F S256x128 .fp8e4m3) (v141 : FVec F S256x128 .fp8e5m2) (v144 : FVec F S1x256 .f32) (v147 : FVec F S1x256 .f32) (v201 : FVec F S1x256 .f32) (v206 : FVec F S128x256 .bf16) (c1_i32_93 : BitVec 32) (v215 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t17_loop k0_t2).lb (k0_t17_loop k0_t2).ub (k0_t17_loop k0_t2).st (k0_t17_ok k0_t2) init
      (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93 v215) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t17_body
    iintro ⟨H4, H13, H14, H17, ⟨%f18, H18⟩⟩
    sl_exec
    sl_step
    sl_close

set_option warn.classDefReducibility false in
/-- Loop `k0_t21`: what it reads stays as it is, what it writes holds something. -/
@[sl_loop] def loop21 (k0_t2 : Fin k0_t2_loop.trips) (v23 : BitVec 32) (v253 : FVec F S256x128 .fp8e5m2) (v259 : FVec F S1x256 .f32) (v269 : FVec F S1x256 .f32) (v271 : BitVec 32) (v281 : FVec F S512x256 .f32) (v285 : IVec S512x256 32) (v286 : IVec S512x256 32) (v287 : IVec S512x256 32) (init : FVec F S1x256 .f32)  :
    Idealize.ShloMosaic.LoopInv (M := 𝕄) Idealize.ShloMosaic.frame
      (wpE (defs₀ (F := F)) Variants.none (c : Thread nD τ) none) Set.univ
      (k0_t21_loop k0_t2).lb (k0_t21_loop k0_t2).ub (k0_t21_loop k0_t2).st (k0_t21_ok k0_t2) init
      (k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287) where
  inv _ _ := iprop((∃ f : BufTy.Contents (Elt F) arg13.view.ty, (arg13.view.loc (c : Thread nD τ) ↦[arg13.view.set]{fullShare} f)))
  step k acc := by
    unfold k0_t21_body
    iintro ⟨⟨%f13, H13⟩⟩
    sl_exec
    sl_step
    sl_close

set_option warn.classDefReducibility false in
/-- Loop `k0_t25`: what it reads stays as it is, what it writes holds something. -/
@[sl_loop] def loop25 (k0_t2 : Fin k0_t2_loop.trips) (v6 : BitVec 32) (v23 : BitVec 32) (v250 : FVec F S256x128 .fp8e4m3) (v253 : FVec F S256x128 .fp8e5m2) (v256 : FVec F S1x256 .f32) (v259 : FVec F S1x256 .f32) (v327 : FVec F S128x256 .f32) (v328 : FVec F S128x256 .f32) (v329 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t25_loop k0_t2).lb (k0_t25_loop k0_t2).ub (k0_t25_loop k0_t2).st (k0_t25_ok k0_t2) init
      (k0_t25_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v250 v253 v256 v259 v327 v328 v329) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t25_body
    iintro ⟨H4, H13, H14, H17, ⟨%f18, H18⟩⟩
    sl_exec
    sl_step
    sl_close

set_option warn.classDefReducibility false in
/-- Loop `k0_t29`: what it reads stays as it is, what it writes holds something. -/
@[sl_loop] def loop29 (k0_t2 : Fin k0_t2_loop.trips) (v23 : BitVec 32) (v362 : FVec F S256x128 .fp8e4m3) (v365 : FVec F S256x128 .fp8e5m2) (v368 : FVec F S1x256 .f32) (v371 : FVec F S1x256 .f32) (v410 : FVec F S1x256 .f32) (v411 : BitVec 32) (init : FVec F S1x256 .f32)  :
    Idealize.ShloMosaic.LoopInv (M := 𝕄) Idealize.ShloMosaic.frame
      (wpE (defs₀ (F := F)) Variants.none (c : Thread nD τ) none) Set.univ
      (k0_t29_loop k0_t2).lb (k0_t29_loop k0_t2).ub (k0_t29_loop k0_t2).st (k0_t29_ok k0_t2) init
      (k0_t29_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411) where
  inv _ _ := iprop((∃ f : BufTy.Contents (Elt F) arg13.view.ty, (arg13.view.loc (c : Thread nD τ) ↦[arg13.view.set]{fullShare} f)))
  step k acc := by
    unfold k0_t29_body
    iintro ⟨⟨%f13, H13⟩⟩
    sl_exec
    sl_step
    sl_close

set_option warn.classDefReducibility false in
/-- Loop `k0_t33`: what it reads stays as it is, what it writes holds something. -/
@[sl_loop] def loop33 (k0_t2 : Fin k0_t2_loop.trips) (v365 : FVec F S256x128 .fp8e5m2) (v446 : FVec F S1x256 .f32) (v452 : FVec F S128x256 .bf16) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t33_loop k0_t2).lb (k0_t33_loop k0_t2).ub (k0_t33_loop k0_t2).st (k0_t33_ok k0_t2) init
      (k0_t33_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v365 v446 v452) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t33_body
    iintro ⟨H4, H13, H14, H17, ⟨%f18, H18⟩⟩
    sl_exec
    sl_step
    sl_close

end Cert.Proof.Kernel
-- ==== Proof.S.KernelLoops4.lean ====
module

public import proofs.«01_k».proof.Proof.Gen.Kernel.Skeleton
public import proofs.«01_k».proof.Proof.Gen.Kernel.Frame
public import Idealize.ShloMosaic.Lib.Exec
public import Idealize.ShloMosaic.Lib.Tactic
public import Idealize.ShloMosaic.Lib.VecWindow

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option warn.classDefReducibility false in
/-- Loop `k0_t6`: what it reads stays as it is, what it writes holds something. -/
@[sl_loop] def loop6 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (init : FVec F S1x256 .f32)  :
    Idealize.ShloMosaic.LoopInv (M := 𝕄) Idealize.ShloMosaic.frame
      (wpE (defs₀ (F := F)) Variants.none (c : Thread nD τ) none) Set.univ
      (k0_t6_loop k0_t2).lb (k0_t6_loop k0_t2).ub (k0_t6_loop k0_t2).st (k0_t6_ok k0_t2) init
      (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81) where
  inv _ _ := iprop((∃ f : BufTy.Contents (Elt F) arg13.view.ty, (arg13.view.loc (c : Thread nD τ) ↦[arg13.view.set]{fullShare} f)))
  step k acc := by
    unfold k0_t6_body
    iintro ⟨⟨%f13, H13⟩⟩
    sl_exec
    sl_step
    sl_close

set_option warn.classDefReducibility false in
/-- Loop `k0_t10`: what it reads stays as it is, what it writes holds something. -/
@[sl_loop] def loop10 (k0_t2 : Fin k0_t2_loop.trips) (v6 : BitVec 32) (v23 : BitVec 32) (v29 : FVec F S256x128 .fp8e5m2) (v35 : FVec F S1x256 .f32) (v110 : FVec F S1x256 .f32) (v116 : FVec F S128x256 .bf16) (v123 : BitVec 32) (v124 : FVec F S128x256 .f32) (c1_i32_59 : BitVec 32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t10_loop k0_t2).lb (k0_t10_loop k0_t2).ub (k0_t10_loop k0_t2).st (k0_t10_ok k0_t2) init
      (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v29 v35 v110 v116 v123 v124 c1_i32_59) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t10_body
    iintro ⟨H4, H13, H14, H17, ⟨%f18, H18⟩⟩
    sl_exec
    sl_step
    sl_close

set_option warn.classDefReducibility false in
/-- Loop `k0_t14`: what it reads stays as it is, what it writes holds something. -/
@[sl_loop] def loop14 (k0_t2 : Fin k0_t2_loop.trips) (v6 : BitVec 32) (v23 : BitVec 32) (v138 : FVec F S256x128 .fp8e4m3) (v141 : FVec F S256x128 .fp8e5m2) (v147 : FVec F S1x256 .f32) (v149 : FVec F S1x256 .f32) (v157 : FVec F S1x256 .f32) (v159 : BitVec 32) (v161 : Vec F S1x512x128 .fp8e4m3) (v165 : Vec F S512x128 .f32) (init : FVec F S1x256 .f32)  :
    Idealize.ShloMosaic.LoopInv (M := 𝕄) Idealize.ShloMosaic.frame
      (wpE (defs₀ (F := F)) Variants.none (c : Thread nD τ) none) Set.univ
      (k0_t14_loop k0_t2).lb (k0_t14_loop k0_t2).ub (k0_t14_loop k0_t2).st (k0_t14_ok k0_t2) init
      (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v147 v149 v157 v159 v161 v165) where
  inv _ _ := iprop((∃ f : BufTy.Contents (Elt F) arg13.view.ty, (arg13.view.loc (c : Thread nD τ) ↦[arg13.view.set]{fullShare} f)))
  step k acc := by
    unfold k0_t14_body
    iintro ⟨⟨%f13, H13⟩⟩
    sl_exec
    sl_step
    sl_close

set_option warn.classDefReducibility false in
/-- Loop `k0_t18`: what it reads stays as it is, what it writes holds something. -/
@[sl_loop] def loop18 (k0_t2 : Fin k0_t2_loop.trips) (v6 : BitVec 32) (v23 : BitVec 32) (v138 : FVec F S256x128 .fp8e4m3) (v141 : FVec F S256x128 .fp8e5m2) (v144 : FVec F S1x256 .f32) (v147 : FVec F S1x256 .f32) (v201 : FVec F S1x256 .f32) (v206 : FVec F S128x256 .bf16) (c1_i32_93 : BitVec 32) (v215 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t18_loop k0_t2).lb (k0_t18_loop k0_t2).ub (k0_t18_loop k0_t2).st (k0_t18_ok k0_t2) init
      (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93 v215) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t18_body
    iintro ⟨H4, H13, H14, H17, ⟨%f18, H18⟩⟩
    sl_exec
    sl_step
    sl_close

set_option warn.classDefReducibility false in
/-- Loop `k0_t22`: what it reads stays as it is, what it writes holds something. -/
@[sl_loop] def loop22 (k0_t2 : Fin k0_t2_loop.trips) (v23 : BitVec 32) (v253 : FVec F S256x128 .fp8e5m2) (v259 : FVec F S1x256 .f32) (v269 : FVec F S1x256 .f32) (v271 : BitVec 32) (v281 : FVec F S512x256 .f32) (v285 : IVec S512x256 32) (v286 : IVec S512x256 32) (v287 : IVec S512x256 32) (init : FVec F S1x256 .f32)  :
    Idealize.ShloMosaic.LoopInv (M := 𝕄) Idealize.ShloMosaic.frame
      (wpE (defs₀ (F := F)) Variants.none (c : Thread nD τ) none) Set.univ
      (k0_t22_loop k0_t2).lb (k0_t22_loop k0_t2).ub (k0_t22_loop k0_t2).st (k0_t22_ok k0_t2) init
      (k0_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287) where
  inv _ _ := iprop((∃ f : BufTy.Contents (Elt F) arg13.view.ty, (arg13.view.loc (c : Thread nD τ) ↦[arg13.view.set]{fullShare} f)))
  step k acc := by
    unfold k0_t22_body
    iintro ⟨⟨%f13, H13⟩⟩
    sl_exec
    sl_step
    sl_close

set_option warn.classDefReducibility false in
/-- Loop `k0_t26`: what it reads stays as it is, what it writes holds something. -/
@[sl_loop] def loop26 (k0_t2 : Fin k0_t2_loop.trips) (v6 : BitVec 32) (v23 : BitVec 32) (v250 : FVec F S256x128 .fp8e4m3) (v253 : FVec F S256x128 .fp8e5m2) (v256 : FVec F S1x256 .f32) (v259 : FVec F S1x256 .f32) (v327 : FVec F S128x256 .f32) (v328 : FVec F S128x256 .f32) (v329 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t26_loop k0_t2).lb (k0_t26_loop k0_t2).ub (k0_t26_loop k0_t2).st (k0_t26_ok k0_t2) init
      (k0_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v250 v253 v256 v259 v327 v328 v329) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t26_body
    iintro ⟨H4, H13, H14, H17, ⟨%f18, H18⟩⟩
    sl_exec
    sl_step
    sl_close

set_option warn.classDefReducibility false in
/-- Loop `k0_t30`: what it reads stays as it is, what it writes holds something. -/
@[sl_loop] def loop30 (k0_t2 : Fin k0_t2_loop.trips) (v23 : BitVec 32) (v362 : FVec F S256x128 .fp8e4m3) (v365 : FVec F S256x128 .fp8e5m2) (v368 : FVec F S1x256 .f32) (v371 : FVec F S1x256 .f32) (v410 : FVec F S1x256 .f32) (v411 : BitVec 32) (init : FVec F S1x256 .f32)  :
    Idealize.ShloMosaic.LoopInv (M := 𝕄) Idealize.ShloMosaic.frame
      (wpE (defs₀ (F := F)) Variants.none (c : Thread nD τ) none) Set.univ
      (k0_t30_loop k0_t2).lb (k0_t30_loop k0_t2).ub (k0_t30_loop k0_t2).st (k0_t30_ok k0_t2) init
      (k0_t30_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411) where
  inv _ _ := iprop((∃ f : BufTy.Contents (Elt F) arg13.view.ty, (arg13.view.loc (c : Thread nD τ) ↦[arg13.view.set]{fullShare} f)))
  step k acc := by
    unfold k0_t30_body
    iintro ⟨⟨%f13, H13⟩⟩
    sl_exec
    sl_step
    sl_close

set_option warn.classDefReducibility false in
/-- Loop `k0_t34`: what it reads stays as it is, what it writes holds something. -/
@[sl_loop] def loop34 (k0_t2 : Fin k0_t2_loop.trips) (v365 : FVec F S256x128 .fp8e5m2) (v446 : FVec F S1x256 .f32) (v452 : FVec F S128x256 .bf16) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t34_loop k0_t2).lb (k0_t34_loop k0_t2).ub (k0_t34_loop k0_t2).st (k0_t34_ok k0_t2) init
      (k0_t34_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v365 v446 v452) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t34_body
    iintro ⟨H4, H13, H14, H17, ⟨%f18, H18⟩⟩
    sl_exec
    sl_step
    sl_close

end Cert.Proof.Kernel
-- ==== Proof.S.KernelOuter.lean ====
module

public import proofs.«01_k».proof.Proof.S.KernelLoops1
public import proofs.«01_k».proof.Proof.S.KernelLoops2
public import proofs.«01_k».proof.Proof.S.KernelLoops3
public import proofs.«01_k».proof.Proof.S.KernelLoops4
public import Idealize.ShloMosaic.Lib.Exec
public import Idealize.ShloMosaic.Lib.Tactic
public import Idealize.ShloMosaic.Lib.VecWindow

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)
set_option maxHeartbeats 8000000

set_option warn.classDefReducibility false in
/-- Loop `k0_t2`: what it reads stays as it is, what it writes holds something. -/
@[sl_loop] def loop2   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (X15 : BufTy.Contents (Elt F) arg15.view.ty) (X16 : BufTy.Contents (Elt F) arg16.view.ty) (X17 : BufTy.Contents (Elt F) arg17.view.ty) :
    Idealize.ShloMosaic.LoopInv (M := 𝕄) Idealize.ShloMosaic.frame
      (wpE (defs₀ (F := F)) Variants.none (c : Thread nD τ) none) Set.univ
      k0_t2_loop.lb k0_t2_loop.ub k0_t2_loop.st k0_t2_ok ()
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv _ _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (∃ f : BufTy.Contents (Elt F) arg10.view.ty, (arg10.view.loc (c : Thread nD τ) ↦[arg10.view.set]{fullShare} f)) ∗ (∃ f : BufTy.Contents (Elt F) arg13.view.ty, (arg13.view.loc (c : Thread nD τ) ↦[arg13.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    unfold k0_t2_body
    iintro ⟨H2, H3, H4, H5, H6, H7, H8, H9, H14, H15, H16, H17, ⟨%f10, H10⟩, ⟨%f13, H13⟩, ⟨%f18, H18⟩, ⟨%f19, H19⟩⟩
    sl_exec_parts
    sl_step
    sl_close

end Cert.Proof.Kernel
-- ==== Proof.S.KernelRun.lean ====
module

public import proofs.«01_k».proof.Proof.S.KernelOuter
public import Idealize.ShloMosaic.Lib.Pipeline.FrameBody
public import Idealize.ShloMosaic.Lib.Exec
public import Idealize.ShloMosaic.Lib.Tactic
public import Idealize.ShloMosaic.Lib.VecWindow

@[expose] public section

set_option maxRecDepth 8192

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

section Body

variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option maxHeartbeats 4000000 in
/-- One grid point of the kernel: from its blocks owned, every other buffer at anything, it runs to its return and gives the
    blocks back as they were. -/
theorem kernelRun (x2 : Vec F S1x4096x512 .fp8e4m3) (x3 : Vec F S1x4096x128 .fp8e4m3) (x4 : Vec F S1x4096x128 .fp8e4m3) (x5 : Vec F S1x4096x512 .fp8e5m2) (x6 : Vec F S1x1x4x4096 .f32) (x7 : Vec F S1x1x1x4096 .f32) (x8 : Vec F S1x1x1x4096 .f32) (x9 : Vec F S1x1x4x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_attention_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attention_backward_eq_skeleton]; unfold cc0_attention_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf2 hf3 hf4 hf5 hf6 hf7 hf8 hf9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Body

variable (m : (ℓ : Loc nD τ sig) → Buf (Elt F) ℓ) (ρ : Dev nD → PrngReg)

/-- The three outputs: nothing here reads what the kernel leaves in them. -/
def forgets0 : Fin 11 → Bool := fun w => decide (8 ≤ w.val)

/-- The proof data: inputs keep their blocks, what the outputs hold is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The scratch and the generator register, conjunct by conjunct. -/
theorem Phi_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after0_0, after0_1, after0_2, after0_3, after0_4, after0_5, after0_6, after0_7]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (kernelRun c _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

/-- The pipeline's obligation, with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every execution of @main ends, with all counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as it was launched, and all counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨(Pipeline.RDat.FramePost.arr_in h.1 c 0 rfl).trans (V_main_arg0 m c), (Pipeline.RDat.FramePost.arr_in h.1 c 1 rfl).trans (V_main_arg1 m c), (Pipeline.RDat.FramePost.arr_in h.1 c 2 rfl).trans (V_main_arg2 m c), (Pipeline.RDat.FramePost.arr_in h.1 c 3 rfl).trans (V_main_arg3 m c), (Pipeline.RDat.FramePost.arr_in h.1 c 4 rfl).trans (V_main_arg4 m c), (Pipeline.RDat.FramePost.arr_in h.1 c 5 rfl).trans (V_main_arg5 m c), (Pipeline.RDat.FramePost.arr_in h.1 c 6 rfl).trans (V_main_arg6 m c), (Pipeline.RDat.FramePost.arr_in h.1 c 7 rfl).trans (V_main_arg7 m c)⟩, h.2⟩) (run_main m ρ)

end Cert.Proof.Kernel
-- ==== Proof.S.KernelIdealLoops1.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option warn.classDefReducibility false in
/-- Loop `k0_t1`: what it reads stays as it is, what it writes holds something. -/
@[sl_loop] def loop1   (X3 : BufTy.Contents (Elt F) arg3.view.ty) (X4 : BufTy.Contents (Elt F) arg4.view.ty) (X7 : BufTy.Contents (Elt F) arg7.view.ty) (X8 : BufTy.Contents (Elt F) arg8.view.ty) :
    Idealize.ShloMosaic.LoopInv (M := 𝕄) Idealize.ShloMosaic.frame
      (wpE (defs₀ (F := F)) Variants.none (c : Thread nD τ) none) Set.univ
      k0_t1_loop.lb k0_t1_loop.ub k0_t1_loop.st k0_t1_ok ()
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv _ _ := iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (∃ f : BufTy.Contents (Elt F) arg14.view.ty, (arg14.view.loc (c : Thread nD τ) ↦[arg14.view.set]{fullShare} f)) ∗ (∃ f : BufTy.Contents (Elt F) arg15.view.ty, (arg15.view.loc (c : Thread nD τ) ↦[arg15.view.set]{fullShare} f)) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    unfold k0_t1_body
    iintro ⟨H3, H4, H7, H8, ⟨%f14, H14⟩, ⟨%f15, H15⟩, ⟨%f16, H16⟩, ⟨%f17, H17⟩, ⟨%f18, H18⟩, ⟨%f19, H19⟩⟩
    sl_exec
    sl_step
    sl_close

set_option warn.classDefReducibility false in
/-- Loop `k0_t3`: what it reads stays as it is, what it writes holds something. -/
@[sl_loop] def loop3 (k0_t2 : Fin k0_t2_loop.trips) (v6 : BitVec 32) (v23 : BitVec 32) (v26 : FVec F S256x128 .fp8e4m3) (v37 : FVec F S1x256 .f32) (v38 : FVec F S1x256 .f32) (c0_i32_26 : BitVec 32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t3_loop k0_t2).lb (k0_t3_loop k0_t2).ub (k0_t3_loop k0_t2).st (k0_t3_ok k0_t2) init
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v26 v37 v38 c0_i32_26) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t3_body
    iintro ⟨H3, H16, ⟨%f13, H13⟩⟩
    sl_exec
    sl_step
    sl_close

set_option warn.classDefReducibility false in
/-- Loop `k0_t7`: what it reads stays as it is, what it writes holds something. -/
@[sl_loop] def loop7 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (v83 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t7_loop k0_t2).lb (k0_t7_loop k0_t2).ub (k0_t7_loop k0_t2).st (k0_t7_ok k0_t2) init
      (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81 v83) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t7_body
    iintro ⟨H15, ⟨%f13, H13⟩, ⟨%f19, H19⟩⟩
    sl_exec
    sl_step
    sl_close

set_option warn.classDefReducibility false in
/-- Loop `k0_t11`: what it reads stays as it is, what it writes holds something. -/
@[sl_loop] def loop11 (k0_t2 : Fin k0_t2_loop.trips) (v6 : BitVec 32) (v23 : BitVec 32) (v29 : FVec F S256x128 .fp8e5m2) (v35 : FVec F S1x256 .f32) (v110 : FVec F S1x256 .f32) (v116 : FVec F S128x256 .bf16) (v123 : BitVec 32) (v124 : FVec F S128x256 .f32) (c1_i32_59 : BitVec 32) (v137 : Vec F S1x256x128 .fp8e4m3) (v143 : Vec F S1x1x1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t11_loop k0_t2).lb (k0_t11_loop k0_t2).ub (k0_t11_loop k0_t2).st (k0_t11_ok k0_t2) init
      (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v29 v35 v110 v116 v123 v124 c1_i32_59 v137 v143) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t11_body
    iintro ⟨H3, H16, ⟨%f13, H13⟩⟩
    sl_exec
    sl_step
    sl_close

set_option warn.classDefReducibility false in
/-- Loop `k0_t15`: what it reads stays as it is, what it writes holds something. -/
@[sl_loop] def loop15 (k0_t2 : Fin k0_t2_loop.trips) (v6 : BitVec 32) (v23 : BitVec 32) (v138 : FVec F S256x128 .fp8e4m3) (v141 : FVec F S256x128 .fp8e5m2) (v144 : FVec F S1x256 .f32) (v147 : FVec F S1x256 .f32) (v201 : FVec F S1x256 .f32) (v206 : FVec F S128x256 .bf16) (c1_i32_93 : BitVec 32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t15_loop k0_t2).lb (k0_t15_loop k0_t2).ub (k0_t15_loop k0_t2).st (k0_t15_ok k0_t2) init
      (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t15_body
    iintro ⟨H15, ⟨%f13, H13⟩, ⟨%f19, H19⟩⟩
    sl_exec
    sl_step
    sl_close

set_option warn.classDefReducibility false in
/-- Loop `k0_t19`: what it reads stays as it is, what it writes holds something. -/
@[sl_loop] def loop19 (k0_t2 : Fin k0_t2_loop.trips) (v6 : BitVec 32) (v23 : BitVec 32) (v249 : Vec F S1x256x128 .fp8e4m3) (v255 : Vec F S1x1x1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t19_loop k0_t2).lb (k0_t19_loop k0_t2).ub (k0_t19_loop k0_t2).st (k0_t19_ok k0_t2) init
      (k0_t19_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v249 v255) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t19_body
    iintro ⟨H3, H16, ⟨%f13, H13⟩⟩
    sl_exec
    sl_step
    sl_close

set_option warn.classDefReducibility false in
/-- Loop `k0_t23`: what it reads stays as it is, what it writes holds something. -/
@[sl_loop] def loop23 (k0_t2 : Fin k0_t2_loop.trips) (v23 : BitVec 32) (v253 : FVec F S256x128 .fp8e5m2) (v259 : FVec F S1x256 .f32) (v269 : FVec F S1x256 .f32) (v271 : BitVec 32) (v281 : FVec F S512x256 .f32) (v285 : IVec S512x256 32) (v286 : IVec S512x256 32) (v287 : IVec S512x256 32) (v307 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t23_loop k0_t2).lb (k0_t23_loop k0_t2).ub (k0_t23_loop k0_t2).st (k0_t23_ok k0_t2) init
      (k0_t23_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287 v307) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t23_body
    iintro ⟨H15, ⟨%f13, H13⟩, ⟨%f19, H19⟩⟩
    sl_exec
    sl_step
    sl_close

set_option warn.classDefReducibility false in
/-- Loop `k0_t27`: what it reads stays as it is, what it writes holds something. -/
@[sl_loop] def loop27 (k0_t2 : Fin k0_t2_loop.trips) (v6 : BitVec 32) (v23 : BitVec 32) (v362 : FVec F S256x128 .fp8e4m3) (v368 : FVec F S1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t27_loop k0_t2).lb (k0_t27_loop k0_t2).ub (k0_t27_loop k0_t2).st (k0_t27_ok k0_t2) init
      (k0_t27_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v362 v368) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t27_body
    iintro ⟨H3, H16, ⟨%f13, H13⟩⟩
    sl_exec
    sl_step
    sl_close

set_option warn.classDefReducibility false in
/-- Loop `k0_t31`: what it reads stays as it is, what it writes holds something. -/
@[sl_loop] def loop31 (k0_t2 : Fin k0_t2_loop.trips) (v23 : BitVec 32) (v362 : FVec F S256x128 .fp8e4m3) (v365 : FVec F S256x128 .fp8e5m2) (v368 : FVec F S1x256 .f32) (v371 : FVec F S1x256 .f32) (v410 : FVec F S1x256 .f32) (v411 : BitVec 32) (v419 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t31_loop k0_t2).lb (k0_t31_loop k0_t2).ub (k0_t31_loop k0_t2).st (k0_t31_ok k0_t2) init
      (k0_t31_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411 v419) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t31_body
    iintro ⟨H15, ⟨%f13, H13⟩, ⟨%f19, H19⟩⟩
    sl_exec
    sl_step
    sl_close

set_option warn.classDefReducibility false in
/-- Loop `k0_t35`: what it reads stays as it is, what it writes holds something. -/
@[sl_loop] def loop35   (X18 : BufTy.Contents (Elt F) arg18.view.ty) (X19 : BufTy.Contents (Elt F) arg19.view.ty) :
    Idealize.ShloMosaic.LoopInv (M := 𝕄) Idealize.ShloMosaic.frame
      (wpE (defs₀ (F := F)) Variants.none (c : Thread nD τ) none) Set.univ
      k0_t35_loop.lb k0_t35_loop.ub k0_t35_loop.st k0_t35_ok ()
      (k0_t35_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv _ _ := iprop((arg18.view.loc (c : Thread nD τ) ↦[arg18.view.set]{fullShare} X18) ∗ (arg19.view.loc (c : Thread nD τ) ↦[arg19.view.set]{fullShare} X19) ∗ (∃ f : BufTy.Contents (Elt F) arg11.view.ty, (arg11.view.loc (c : Thread nD τ) ↦[arg11.view.set]{fullShare} f)) ∗ (∃ f : BufTy.Contents (Elt F) arg12.view.ty, (arg12.view.loc (c : Thread nD τ) ↦[arg12.view.set]{fullShare} f)))
  step k acc := by
    unfold k0_t35_body
    iintro ⟨H18, H19, ⟨%f11, H11⟩, ⟨%f12, H12⟩⟩
    sl_exec
    sl_step
    sl_close

end Cert.Proof.KernelIdeal
-- ==== Proof.S.KernelIdealLoops2.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option warn.classDefReducibility false in
/-- Loop `k0_t4`: what it reads stays as it is, what it writes holds something. -/
@[sl_loop] def loop4 (k0_t2 : Fin k0_t2_loop.trips) (v6 : BitVec 32) (v23 : BitVec 32) (v26 : FVec F S256x128 .fp8e4m3) (v37 : FVec F S1x256 .f32) (v38 : FVec F S1x256 .f32) (c0_i32_26 : BitVec 32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t4_loop k0_t2).lb (k0_t4_loop k0_t2).ub (k0_t4_loop k0_t2).st (k0_t4_ok k0_t2) init
      (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v26 v37 v38 c0_i32_26) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t4_body
    iintro ⟨H3, H16, ⟨%f13, H13⟩⟩
    sl_exec
    sl_step
    sl_close

set_option warn.classDefReducibility false in
/-- Loop `k0_t8`: what it reads stays as it is, what it writes holds something. -/
@[sl_loop] def loop8 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (v83 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t8_loop k0_t2).lb (k0_t8_loop k0_t2).ub (k0_t8_loop k0_t2).st (k0_t8_ok k0_t2) init
      (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81 v83) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t8_body
    iintro ⟨H15, ⟨%f13, H13⟩, ⟨%f19, H19⟩⟩
    sl_exec
    sl_step
    sl_close

set_option warn.classDefReducibility false in
/-- Loop `k0_t12`: what it reads stays as it is, what it writes holds something. -/
@[sl_loop] def loop12 (k0_t2 : Fin k0_t2_loop.trips) (v6 : BitVec 32) (v23 : BitVec 32) (v29 : FVec F S256x128 .fp8e5m2) (v35 : FVec F S1x256 .f32) (v110 : FVec F S1x256 .f32) (v116 : FVec F S128x256 .bf16) (v123 : BitVec 32) (v124 : FVec F S128x256 .f32) (c1_i32_59 : BitVec 32) (v137 : Vec F S1x256x128 .fp8e4m3) (v143 : Vec F S1x1x1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t12_loop k0_t2).lb (k0_t12_loop k0_t2).ub (k0_t12_loop k0_t2).st (k0_t12_ok k0_t2) init
      (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v29 v35 v110 v116 v123 v124 c1_i32_59 v137 v143) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t12_body
    iintro ⟨H3, H16, ⟨%f13, H13⟩⟩
    sl_exec
    sl_step
    sl_close

set_option warn.classDefReducibility false in
/-- Loop `k0_t16`: what it reads stays as it is, what it writes holds something. -/
@[sl_loop] def loop16 (k0_t2 : Fin k0_t2_loop.trips) (v6 : BitVec 32) (v23 : BitVec 32) (v138 : FVec F S256x128 .fp8e4m3) (v141 : FVec F S256x128 .fp8e5m2) (v144 : FVec F S1x256 .f32) (v147 : FVec F S1x256 .f32) (v201 : FVec F S1x256 .f32) (v206 : FVec F S128x256 .bf16) (c1_i32_93 : BitVec 32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t16_loop k0_t2).lb (k0_t16_loop k0_t2).ub (k0_t16_loop k0_t2).st (k0_t16_ok k0_t2) init
      (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t16_body
    iintro ⟨H15, ⟨%f13, H13⟩, ⟨%f19, H19⟩⟩
    sl_exec
    sl_step
    sl_close

set_option warn.classDefReducibility false in
/-- Loop `k0_t20`: what it reads stays as it is, what it writes holds something. -/
@[sl_loop] def loop20 (k0_t2 : Fin k0_t2_loop.trips) (v6 : BitVec 32) (v23 : BitVec 32) (v249 : Vec F S1x256x128 .fp8e4m3) (v255 : Vec F S1x1x1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t20_loop k0_t2).lb (k0_t20_loop k0_t2).ub (k0_t20_loop k0_t2).st (k0_t20_ok k0_t2) init
      (k0_t20_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v249 v255) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t20_body
    iintro ⟨H3, H16, ⟨%f13, H13⟩⟩
    sl_exec
    sl_step
    sl_close

set_option warn.classDefReducibility false in
/-- Loop `k0_t24`: what it reads stays as it is, what it writes holds something. -/
@[sl_loop] def loop24 (k0_t2 : Fin k0_t2_loop.trips) (v23 : BitVec 32) (v253 : FVec F S256x128 .fp8e5m2) (v259 : FVec F S1x256 .f32) (v269 : FVec F S1x256 .f32) (v271 : BitVec 32) (v281 : FVec F S512x256 .f32) (v285 : IVec S512x256 32) (v286 : IVec S512x256 32) (v287 : IVec S512x256 32) (v307 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t24_loop k0_t2).lb (k0_t24_loop k0_t2).ub (k0_t24_loop k0_t2).st (k0_t24_ok k0_t2) init
      (k0_t24_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287 v307) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t24_body
    iintro ⟨H15, ⟨%f13, H13⟩, ⟨%f19, H19⟩⟩
    sl_exec
    sl_step
    sl_close

set_option warn.classDefReducibility false in
/-- Loop `k0_t28`: what it reads stays as it is, what it writes holds something. -/
@[sl_loop] def loop28 (k0_t2 : Fin k0_t2_loop.trips) (v6 : BitVec 32) (v23 : BitVec 32) (v362 : FVec F S256x128 .fp8e4m3) (v368 : FVec F S1x256 .f32) (init : FVec F S1x256 .f32) (X3 : BufTy.Contents (Elt F) arg3.view.ty) (X16 : BufTy.Contents (Elt F) arg16.view.ty) :
    Idealize.ShloMosaic.LoopInv (M := 𝕄) Idealize.ShloMosaic.frame
      (wpE (defs₀ (F := F)) Variants.none (c : Thread nD τ) none) Set.univ
      (k0_t28_loop k0_t2).lb (k0_t28_loop k0_t2).ub (k0_t28_loop k0_t2).st (k0_t28_ok k0_t2) init
      (k0_t28_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v362 v368) where
  inv _ _ := iprop((arg3.view.loc (c : Thread nD τ) ↦[arg3.view.set]{fullShare} X3) ∗ (arg16.view.loc (c : Thread nD τ) ↦[arg16.view.set]{fullShare} X16) ∗ (∃ f : BufTy.Contents (Elt F) arg13.view.ty, (arg13.view.loc (c : Thread nD τ) ↦[arg13.view.set]{fullShare} f)))
  step k acc := by
    unfold k0_t28_body
    iintro ⟨H3, H16, ⟨%f13, H13⟩⟩
    sl_exec
    sl_step
    sl_close

set_option warn.classDefReducibility false in
/-- Loop `k0_t32`: what it reads stays as it is, what it writes holds something. -/
@[sl_loop] def loop32 (k0_t2 : Fin k0_t2_loop.trips) (v23 : BitVec 32) (v362 : FVec F S256x128 .fp8e4m3) (v365 : FVec F S256x128 .fp8e5m2) (v368 : FVec F S1x256 .f32) (v371 : FVec F S1x256 .f32) (v410 : FVec F S1x256 .f32) (v411 : BitVec 32) (v419 : FVec F S1x256 .f32) (init : FVec F S128x256 .f32) (X15 : BufTy.Contents (Elt F) arg15.view.ty) :
    Idealize.ShloMosaic.LoopInv (M := 𝕄) Idealize.ShloMosaic.frame
      (wpE (defs₀ (F := F)) Variants.none (c : Thread nD τ) none) Set.univ
      (k0_t32_loop k0_t2).lb (k0_t32_loop k0_t2).ub (k0_t32_loop k0_t2).st (k0_t32_ok k0_t2) init
      (k0_t32_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411 v419) where
  inv _ _ := iprop((arg15.view.loc (c : Thread nD τ) ↦[arg15.view.set]{fullShare} X15) ∗ (∃ f : BufTy.Contents (Elt F) arg13.view.ty, (arg13.view.loc (c : Thread nD τ) ↦[arg13.view.set]{fullShare} f)) ∗ (∃ f : BufTy.Contents (Elt F) arg19.view.ty, (arg19.view.loc (c : Thread nD τ) ↦[arg19.view.set]{fullShare} f)))
  step k acc := by
    unfold k0_t32_body
    iintro ⟨H15, ⟨%f13, H13⟩, ⟨%f19, H19⟩⟩
    sl_exec
    sl_step
    sl_close

end Cert.Proof.KernelIdeal
-- ==== Proof.S.KernelIdealLoops3.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option warn.classDefReducibility false in
/-- Loop `k0_t5`: what it reads stays as it is, what it writes holds something. -/
@[sl_loop] def loop5 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (init : FVec F S1x256 .f32)  :
    Idealize.ShloMosaic.LoopInv (M := 𝕄) Idealize.ShloMosaic.frame
      (wpE (defs₀ (F := F)) Variants.none (c : Thread nD τ) none) Set.univ
      (k0_t5_loop k0_t2).lb (k0_t5_loop k0_t2).ub (k0_t5_loop k0_t2).st (k0_t5_ok k0_t2) init
      (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81) where
  inv _ _ := iprop((∃ f : BufTy.Contents (Elt F) arg13.view.ty, (arg13.view.loc (c : Thread nD τ) ↦[arg13.view.set]{fullShare} f)))
  step k acc := by
    unfold k0_t5_body
    iintro ⟨⟨%f13, H13⟩⟩
    sl_exec
    sl_step
    sl_close

set_option warn.classDefReducibility false in
/-- Loop `k0_t9`: what it reads stays as it is, what it writes holds something. -/
@[sl_loop] def loop9 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (v103 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t9_loop k0_t2).lb (k0_t9_loop k0_t2).ub (k0_t9_loop k0_t2).st (k0_t9_ok k0_t2) init
      (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81 v103) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t9_body
    iintro ⟨H4, H13, H14, H17, ⟨%f18, H18⟩⟩
    sl_exec
    sl_step
    sl_close

set_option warn.classDefReducibility false in
/-- Loop `k0_t13`: what it reads stays as it is, what it writes holds something. -/
@[sl_loop] def loop13 (k0_t2 : Fin k0_t2_loop.trips) (v6 : BitVec 32) (v23 : BitVec 32) (v138 : FVec F S256x128 .fp8e4m3) (v141 : FVec F S256x128 .fp8e5m2) (v147 : FVec F S1x256 .f32) (v149 : FVec F S1x256 .f32) (v157 : FVec F S1x256 .f32) (v159 : BitVec 32) (v161 : Vec F S1x512x128 .fp8e4m3) (v165 : Vec F S512x128 .f32) (init : FVec F S1x256 .f32)  :
    Idealize.ShloMosaic.LoopInv (M := 𝕄) Idealize.ShloMosaic.frame
      (wpE (defs₀ (F := F)) Variants.none (c : Thread nD τ) none) Set.univ
      (k0_t13_loop k0_t2).lb (k0_t13_loop k0_t2).ub (k0_t13_loop k0_t2).st (k0_t13_ok k0_t2) init
      (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v147 v149 v157 v159 v161 v165) where
  inv _ _ := iprop((∃ f : BufTy.Contents (Elt F) arg13.view.ty, (arg13.view.loc (c : Thread nD τ) ↦[arg13.view.set]{fullShare} f)))
  step k acc := by
    unfold k0_t13_body
    iintro ⟨⟨%f13, H13⟩⟩
    sl_exec
    sl_step
    sl_close

set_option warn.classDefReducibility false in
/-- Loop `k0_t17`: what it reads stays as it is, what it writes holds something. -/
@[sl_loop] def loop17 (k0_t2 : Fin k0_t2_loop.trips) (v6 : BitVec 32) (v23 : BitVec 32) (v138 : FVec F S256x128 .fp8e4m3) (v141 : FVec F S256x128 .fp8e5m2) (v144 : FVec F S1x256 .f32) (v147 : FVec F S1x256 .f32) (v201 : FVec F S1x256 .f32) (v206 : FVec F S128x256 .bf16) (c1_i32_93 : BitVec 32) (v215 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t17_loop k0_t2).lb (k0_t17_loop k0_t2).ub (k0_t17_loop k0_t2).st (k0_t17_ok k0_t2) init
      (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93 v215) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t17_body
    iintro ⟨H4, H13, H14, H17, ⟨%f18, H18⟩⟩
    sl_exec
    sl_step
    sl_close

set_option warn.classDefReducibility false in
/-- Loop `k0_t21`: what it reads stays as it is, what it writes holds something. -/
@[sl_loop] def loop21 (k0_t2 : Fin k0_t2_loop.trips) (v23 : BitVec 32) (v253 : FVec F S256x128 .fp8e5m2) (v259 : FVec F S1x256 .f32) (v269 : FVec F S1x256 .f32) (v271 : BitVec 32) (v281 : FVec F S512x256 .f32) (v285 : IVec S512x256 32) (v286 : IVec S512x256 32) (v287 : IVec S512x256 32) (init : FVec F S1x256 .f32)  :
    Idealize.ShloMosaic.LoopInv (M := 𝕄) Idealize.ShloMosaic.frame
      (wpE (defs₀ (F := F)) Variants.none (c : Thread nD τ) none) Set.univ
      (k0_t21_loop k0_t2).lb (k0_t21_loop k0_t2).ub (k0_t21_loop k0_t2).st (k0_t21_ok k0_t2) init
      (k0_t21_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287) where
  inv _ _ := iprop((∃ f : BufTy.Contents (Elt F) arg13.view.ty, (arg13.view.loc (c : Thread nD τ) ↦[arg13.view.set]{fullShare} f)))
  step k acc := by
    unfold k0_t21_body
    iintro ⟨⟨%f13, H13⟩⟩
    sl_exec
    sl_step
    sl_close

set_option warn.classDefReducibility false in
/-- Loop `k0_t25`: what it reads stays as it is, what it writes holds something. -/
@[sl_loop] def loop25 (k0_t2 : Fin k0_t2_loop.trips) (v6 : BitVec 32) (v23 : BitVec 32) (v250 : FVec F S256x128 .fp8e4m3) (v253 : FVec F S256x128 .fp8e5m2) (v256 : FVec F S1x256 .f32) (v259 : FVec F S1x256 .f32) (v327 : FVec F S128x256 .f32) (v328 : FVec F S128x256 .f32) (v329 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t25_loop k0_t2).lb (k0_t25_loop k0_t2).ub (k0_t25_loop k0_t2).st (k0_t25_ok k0_t2) init
      (k0_t25_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v250 v253 v256 v259 v327 v328 v329) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t25_body
    iintro ⟨H4, H13, H14, H17, ⟨%f18, H18⟩⟩
    sl_exec
    sl_step
    sl_close

set_option warn.classDefReducibility false in
/-- Loop `k0_t29`: what it reads stays as it is, what it writes holds something. -/
@[sl_loop] def loop29 (k0_t2 : Fin k0_t2_loop.trips) (v23 : BitVec 32) (v362 : FVec F S256x128 .fp8e4m3) (v365 : FVec F S256x128 .fp8e5m2) (v368 : FVec F S1x256 .f32) (v371 : FVec F S1x256 .f32) (v410 : FVec F S1x256 .f32) (v411 : BitVec 32) (init : FVec F S1x256 .f32)  :
    Idealize.ShloMosaic.LoopInv (M := 𝕄) Idealize.ShloMosaic.frame
      (wpE (defs₀ (F := F)) Variants.none (c : Thread nD τ) none) Set.univ
      (k0_t29_loop k0_t2).lb (k0_t29_loop k0_t2).ub (k0_t29_loop k0_t2).st (k0_t29_ok k0_t2) init
      (k0_t29_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411) where
  inv _ _ := iprop((∃ f : BufTy.Contents (Elt F) arg13.view.ty, (arg13.view.loc (c : Thread nD τ) ↦[arg13.view.set]{fullShare} f)))
  step k acc := by
    unfold k0_t29_body
    iintro ⟨⟨%f13, H13⟩⟩
    sl_exec
    sl_step
    sl_close

set_option warn.classDefReducibility false in
/-- Loop `k0_t33`: what it reads stays as it is, what it writes holds something. -/
@[sl_loop] def loop33 (k0_t2 : Fin k0_t2_loop.trips) (v365 : FVec F S256x128 .fp8e5m2) (v446 : FVec F S1x256 .f32) (v452 : FVec F S128x256 .bf16) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t33_loop k0_t2).lb (k0_t33_loop k0_t2).ub (k0_t33_loop k0_t2).st (k0_t33_ok k0_t2) init
      (k0_t33_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v365 v446 v452) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t33_body
    iintro ⟨H4, H13, H14, H17, ⟨%f18, H18⟩⟩
    sl_exec
    sl_step
    sl_close

end Cert.Proof.KernelIdeal
-- ==== Proof.S.KernelIdealLoops4.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option warn.classDefReducibility false in
/-- Loop `k0_t6`: what it reads stays as it is, what it writes holds something. -/
@[sl_loop] def loop6 (k0_t2 : Fin k0_t2_loop.trips) (v23 : BitVec 32) (v26 : FVec F S256x128 .fp8e4m3) (v29 : FVec F S256x128 .fp8e5m2) (v32 : FVec F S1x256 .f32) (v35 : FVec F S1x256 .f32) (v74 : FVec F S1x256 .f32) (v76 : FVec F S1x256 .f32) (c0_i32_41 : BitVec 32) (v81 : BitVec 32) (init : FVec F S1x256 .f32)  :
    Idealize.ShloMosaic.LoopInv (M := 𝕄) Idealize.ShloMosaic.frame
      (wpE (defs₀ (F := F)) Variants.none (c : Thread nD τ) none) Set.univ
      (k0_t6_loop k0_t2).lb (k0_t6_loop k0_t2).ub (k0_t6_loop k0_t2).st (k0_t6_ok k0_t2) init
      (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81) where
  inv _ _ := iprop((∃ f : BufTy.Contents (Elt F) arg13.view.ty, (arg13.view.loc (c : Thread nD τ) ↦[arg13.view.set]{fullShare} f)))
  step k acc := by
    unfold k0_t6_body
    iintro ⟨⟨%f13, H13⟩⟩
    sl_exec
    sl_step
    sl_close

set_option warn.classDefReducibility false in
/-- Loop `k0_t10`: what it reads stays as it is, what it writes holds something. -/
@[sl_loop] def loop10 (k0_t2 : Fin k0_t2_loop.trips) (v6 : BitVec 32) (v23 : BitVec 32) (v29 : FVec F S256x128 .fp8e5m2) (v35 : FVec F S1x256 .f32) (v110 : FVec F S1x256 .f32) (v116 : FVec F S128x256 .bf16) (v123 : BitVec 32) (v124 : FVec F S128x256 .f32) (c1_i32_59 : BitVec 32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t10_loop k0_t2).lb (k0_t10_loop k0_t2).ub (k0_t10_loop k0_t2).st (k0_t10_ok k0_t2) init
      (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v29 v35 v110 v116 v123 v124 c1_i32_59) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t10_body
    iintro ⟨H4, H13, H14, H17, ⟨%f18, H18⟩⟩
    sl_exec
    sl_step
    sl_close

set_option warn.classDefReducibility false in
/-- Loop `k0_t14`: what it reads stays as it is, what it writes holds something. -/
@[sl_loop] def loop14 (k0_t2 : Fin k0_t2_loop.trips) (v6 : BitVec 32) (v23 : BitVec 32) (v138 : FVec F S256x128 .fp8e4m3) (v141 : FVec F S256x128 .fp8e5m2) (v147 : FVec F S1x256 .f32) (v149 : FVec F S1x256 .f32) (v157 : FVec F S1x256 .f32) (v159 : BitVec 32) (v161 : Vec F S1x512x128 .fp8e4m3) (v165 : Vec F S512x128 .f32) (init : FVec F S1x256 .f32)  :
    Idealize.ShloMosaic.LoopInv (M := 𝕄) Idealize.ShloMosaic.frame
      (wpE (defs₀ (F := F)) Variants.none (c : Thread nD τ) none) Set.univ
      (k0_t14_loop k0_t2).lb (k0_t14_loop k0_t2).ub (k0_t14_loop k0_t2).st (k0_t14_ok k0_t2) init
      (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v147 v149 v157 v159 v161 v165) where
  inv _ _ := iprop((∃ f : BufTy.Contents (Elt F) arg13.view.ty, (arg13.view.loc (c : Thread nD τ) ↦[arg13.view.set]{fullShare} f)))
  step k acc := by
    unfold k0_t14_body
    iintro ⟨⟨%f13, H13⟩⟩
    sl_exec
    sl_step
    sl_close

set_option warn.classDefReducibility false in
/-- Loop `k0_t18`: what it reads stays as it is, what it writes holds something. -/
@[sl_loop] def loop18 (k0_t2 : Fin k0_t2_loop.trips) (v6 : BitVec 32) (v23 : BitVec 32) (v138 : FVec F S256x128 .fp8e4m3) (v141 : FVec F S256x128 .fp8e5m2) (v144 : FVec F S1x256 .f32) (v147 : FVec F S1x256 .f32) (v201 : FVec F S1x256 .f32) (v206 : FVec F S128x256 .bf16) (c1_i32_93 : BitVec 32) (v215 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t18_loop k0_t2).lb (k0_t18_loop k0_t2).ub (k0_t18_loop k0_t2).st (k0_t18_ok k0_t2) init
      (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93 v215) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t18_body
    iintro ⟨H4, H13, H14, H17, ⟨%f18, H18⟩⟩
    sl_exec
    sl_step
    sl_close

set_option warn.classDefReducibility false in
/-- Loop `k0_t22`: what it reads stays as it is, what it writes holds something. -/
@[sl_loop] def loop22 (k0_t2 : Fin k0_t2_loop.trips) (v23 : BitVec 32) (v253 : FVec F S256x128 .fp8e5m2) (v259 : FVec F S1x256 .f32) (v269 : FVec F S1x256 .f32) (v271 : BitVec 32) (v281 : FVec F S512x256 .f32) (v285 : IVec S512x256 32) (v286 : IVec S512x256 32) (v287 : IVec S512x256 32) (init : FVec F S1x256 .f32)  :
    Idealize.ShloMosaic.LoopInv (M := 𝕄) Idealize.ShloMosaic.frame
      (wpE (defs₀ (F := F)) Variants.none (c : Thread nD τ) none) Set.univ
      (k0_t22_loop k0_t2).lb (k0_t22_loop k0_t2).ub (k0_t22_loop k0_t2).st (k0_t22_ok k0_t2) init
      (k0_t22_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287) where
  inv _ _ := iprop((∃ f : BufTy.Contents (Elt F) arg13.view.ty, (arg13.view.loc (c : Thread nD τ) ↦[arg13.view.set]{fullShare} f)))
  step k acc := by
    unfold k0_t22_body
    iintro ⟨⟨%f13, H13⟩⟩
    sl_exec
    sl_step
    sl_close

set_option warn.classDefReducibility false in
/-- Loop `k0_t26`: what it reads stays as it is, what it writes holds something. -/
@[sl_loop] def loop26 (k0_t2 : Fin k0_t2_loop.trips) (v6 : BitVec 32) (v23 : BitVec 32) (v250 : FVec F S256x128 .fp8e4m3) (v253 : FVec F S256x128 .fp8e5m2) (v256 : FVec F S1x256 .f32) (v259 : FVec F S1x256 .f32) (v327 : FVec F S128x256 .f32) (v328 : FVec F S128x256 .f32) (v329 : FVec F S128x256 .f32) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t26_loop k0_t2).lb (k0_t26_loop k0_t2).ub (k0_t26_loop k0_t2).st (k0_t26_ok k0_t2) init
      (k0_t26_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v250 v253 v256 v259 v327 v328 v329) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t26_body
    iintro ⟨H4, H13, H14, H17, ⟨%f18, H18⟩⟩
    sl_exec
    sl_step
    sl_close

set_option warn.classDefReducibility false in
/-- Loop `k0_t30`: what it reads stays as it is, what it writes holds something. -/
@[sl_loop] def loop30 (k0_t2 : Fin k0_t2_loop.trips) (v23 : BitVec 32) (v362 : FVec F S256x128 .fp8e4m3) (v365 : FVec F S256x128 .fp8e5m2) (v368 : FVec F S1x256 .f32) (v371 : FVec F S1x256 .f32) (v410 : FVec F S1x256 .f32) (v411 : BitVec 32) (init : FVec F S1x256 .f32)  :
    Idealize.ShloMosaic.LoopInv (M := 𝕄) Idealize.ShloMosaic.frame
      (wpE (defs₀ (F := F)) Variants.none (c : Thread nD τ) none) Set.univ
      (k0_t30_loop k0_t2).lb (k0_t30_loop k0_t2).ub (k0_t30_loop k0_t2).st (k0_t30_ok k0_t2) init
      (k0_t30_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411) where
  inv _ _ := iprop((∃ f : BufTy.Contents (Elt F) arg13.view.ty, (arg13.view.loc (c : Thread nD τ) ↦[arg13.view.set]{fullShare} f)))
  step k acc := by
    unfold k0_t30_body
    iintro ⟨⟨%f13, H13⟩⟩
    sl_exec
    sl_step
    sl_close

set_option warn.classDefReducibility false in
/-- Loop `k0_t34`: what it reads stays as it is, what it writes holds something. -/
@[sl_loop] def loop34 (k0_t2 : Fin k0_t2_loop.trips) (v365 : FVec F S256x128 .fp8e5m2) (v446 : FVec F S1x256 .f32) (v452 : FVec F S128x256 .bf16) (init : FVec F S128x256 .f32) (X4 : BufTy.Contents (Elt F) arg4.view.ty) (X13 : BufTy.Contents (Elt F) arg13.view.ty) (X14 : BufTy.Contents (Elt F) arg14.view.ty) (X17 : BufTy.Contents (Elt F) arg17.view.ty) :
    Idealize.ShloMosaic.LoopInv (M := 𝕄) Idealize.ShloMosaic.frame
      (wpE (defs₀ (F := F)) Variants.none (c : Thread nD τ) none) Set.univ
      (k0_t34_loop k0_t2).lb (k0_t34_loop k0_t2).ub (k0_t34_loop k0_t2).st (k0_t34_ok k0_t2) init
      (k0_t34_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v365 v446 v452) where
  inv _ _ := iprop((arg4.view.loc (c : Thread nD τ) ↦[arg4.view.set]{fullShare} X4) ∗ (arg13.view.loc (c : Thread nD τ) ↦[arg13.view.set]{fullShare} X13) ∗ (arg14.view.loc (c : Thread nD τ) ↦[arg14.view.set]{fullShare} X14) ∗ (arg17.view.loc (c : Thread nD τ) ↦[arg17.view.set]{fullShare} X17) ∗ (∃ f : BufTy.Contents (Elt F) arg18.view.ty, (arg18.view.loc (c : Thread nD τ) ↦[arg18.view.set]{fullShare} f)))
  step k acc := by
    unfold k0_t34_body
    iintro ⟨H4, H13, H14, H17, ⟨%f18, H18⟩⟩
    sl_exec
    sl_step
    sl_close

end Cert.Proof.KernelIdeal
-- ==== Proof.S.KernelIdealOuter.lean ====
module

public import proofs.«01_k».proof.Proof.S.KernelIdealLoops1
public import proofs.«01_k».proof.Proof.S.KernelIdealLoops2
public import proofs.«01_k».proof.Proof.S.KernelIdealLoops3
public import proofs.«01_k».proof.Proof.S.KernelIdealLoops4
public import Idealize.ShloMosaic.Lib.Exec
public import Idealize.ShloMosaic.Lib.Tactic
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄" => MT nD τ sig Unit (Elt F) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)
set_option maxHeartbeats 8000000

set_option warn.classDefReducibility false in
/-- Loop `k0_t2`: what it reads stays as it is, what it writes holds something. -/
@[sl_loop] def loop2   (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X14 : BufTy.Contents (Elt F) arg14.view.ty) (X15 : BufTy.Contents (Elt F) arg15.view.ty) (X16 : BufTy.Contents (Elt F) arg16.view.ty) (X17 : BufTy.Contents (Elt F) arg17.view.ty) :
    Idealize.ShloMosaic.LoopInv (M := 𝕄) Idealize.ShloMosaic.frame
      (wpE (defs₀ (F := F)) Variants.none (c : Thread nD τ) none) Set.univ
      k0_t2_loop.lb k0_t2_loop.ub k0_t2_loop.st k0_t2_ok ()
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv _ _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (∃ f : BufTy.Contents (Elt F) arg10.view.ty, (arg10.view.loc (c : Thread nD τ) ↦[arg10.view.set]{fullShare} f)) ∗ (∃ f : BufTy.Contents (Elt F) arg13.view.ty, (arg13.view.loc (c : Thread nD τ) ↦[arg13.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)))
  step k acc := by
    unfold k0_t2_body
    iintro ⟨H2, H3, H4, H5, H6, H7, H8, H9, H14, H15, H16, H17, ⟨%f10, H10⟩, ⟨%f13, H13⟩, ⟨%f18, H18⟩, ⟨%f19, H19⟩⟩
    sl_exec_parts
    sl_step
    sl_close

end Cert.Proof.KernelIdeal
-- ==== Proof.S.KernelIdealRun.lean ====
module

public import proofs.«01_k».proof.Proof.S.KernelIdealOuter
public import Idealize.ShloMosaic.Lib.Pipeline.FrameBody
public import Idealize.ShloMosaic.Lib.Exec
public import Idealize.ShloMosaic.Lib.Tactic
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the run. -/
local notation "𝕄" => MT nD τ sig Unit (Elt F) ℕ (UR sig nD τ) ℕ

section Body

variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option maxHeartbeats 4000000 in
/-- One grid point of the kernel: from its blocks owned, every other buffer at anything, it runs to its return and gives the
    blocks back as they were. -/
theorem kernelRun (x2 : Vec F S1x4096x512 .fp8e4m3) (x3 : Vec F S1x4096x128 .fp8e4m3) (x4 : Vec F S1x4096x128 .fp8e4m3) (x5 : Vec F S1x4096x512 .fp8e5m2) (x6 : Vec F S1x1x4x4096 .f32) (x7 : Vec F S1x1x1x4096 .f32) (x8 : Vec F S1x1x1x4096 .f32) (x9 : Vec F S1x1x4x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_attention_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attention_backward_eq_skeleton]; unfold cc0_attention_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf2 hf3 hf4 hf5 hf6 hf7 hf8 hf9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Body

variable (m : (ℓ : Loc nD τ sig) → Buf (Elt F) ℓ) (ρ : Dev nD → PrngReg)

/-- The three outputs: nothing here reads what the kernel leaves in them. -/
def forgets0 : Fin 11 → Bool := fun w => decide (8 ≤ w.val)

/-- The proof data: inputs keep their blocks, what the outputs hold is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The scratch and the generator register, conjunct by conjunct. -/
theorem Phi_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d)
    ∗ (∃ d, owns (c : Thread nD τ) (st0_9 t) fullShare d)
    ∗ (∃ d, owns (c : Thread nD τ) (st0_10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d)
    ∗ (∃ d, owns (c : Thread nD τ) (st0_9 t) fullShare d)
    ∗ (∃ d, owns (c : Thread nD τ) (st0_10 t) fullShare d))

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after0_0, after0_1, after0_2, after0_3, after0_4, after0_5, after0_6, after0_7]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (kernelRun c _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

/-- The pipeline's obligation, with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The launch: every execution of @main ends, with all counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as it was launched, and all counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => ⟨(Pipeline.RDat.FramePost.arr_in h.1 c 0 rfl).trans (V_main_arg0 m c), (Pipeline.RDat.FramePost.arr_in h.1 c 1 rfl).trans (V_main_arg1 m c), (Pipeline.RDat.FramePost.arr_in h.1 c 2 rfl).trans (V_main_arg2 m c), (Pipeline.RDat.FramePost.arr_in h.1 c 3 rfl).trans (V_main_arg3 m c), (Pipeline.RDat.FramePost.arr_in h.1 c 4 rfl).trans (V_main_arg4 m c), (Pipeline.RDat.FramePost.arr_in h.1 c 5 rfl).trans (V_main_arg5 m c), (Pipeline.RDat.FramePost.arr_in h.1 c 6 rfl).trans (V_main_arg6 m c), (Pipeline.RDat.FramePost.arr_in h.1 c 7 rfl).trans (V_main_arg7 m c)⟩, h.2⟩) (run_main m ρ)

end Cert.Proof.KernelIdeal
-- ==== Proof.S.Math.lean ====
/-
  The mathematics of one query row, on extended reals, with no program in it.

  A query row has its codes `q`, the codes `d` of its output gradient, the scale `a` of `q` and the scale `o` of `d`; a key
  `κ` has its codes `k κ`, `v κ` and their scales `ks κ`, `vs κ`; `see κ` says that the row may look at key `κ`. The
  definitions `k…` are what the kernel computes of the row, the definitions `r…` what the reference computes, and the
  theorems at the end equate what the two add to each of the three gradients.
-/
module

public import Idealize.ShloMosaic.Lib.Pointwise

@[expose] public section

noncomputable section

namespace Cert.Proof.Math

open Idealize.ShloMosaic
open scoped BigOperators

/-- The softmax scale, `128^(-1/2)` as a 32-bit float. -/
def SM : EReal := Ideal.ofBits .f32 0x3DB504F3#32
/-- The softmax scale divided by 256. -/
def SM8 : EReal := Ideal.ofBits .f32 0x39B504F3#32
/-- 256, the factor of the probability codes. -/
def C256 : EReal := Ideal.ofBits .f32 0x43800000#32
/-- 1/256, as a 32-bit float. -/
def I256 : EReal := Ideal.ofBits .f32 0x3B800000#32
/-- 1/256, as a bfloat16. -/
def J256 : EReal := Ideal.ofBits .bf16 0x3B80#16
/-- -448 and 448, the range of the probability codes. -/
def LO : EReal := Ideal.ofBits .f32 0xC3E00000#32
def HI : EReal := Ideal.ofBits .f32 0x43E00000#32

theorem SM_eq : SM = ((11863283 / 2 ^ 27 : ℝ) : EReal) := by
  unfold SM; simp [Ideal.ofBits, Ideal.ieee]; norm_num; rw [← EReal.coe_mul]; norm_num
theorem SM8_eq : SM8 = ((11863283 / 2 ^ 35 : ℝ) : EReal) := by
  unfold SM8; simp [Ideal.ofBits, Ideal.ieee]; norm_num; rw [← EReal.coe_mul]; norm_num
theorem C256_eq : C256 = ((256 : ℝ) : EReal) := by
  unfold C256; simp [Ideal.ofBits, Ideal.ieee]; norm_num; rw [← EReal.coe_mul]; norm_num
theorem I256_eq : I256 = ((1 / 256 : ℝ) : EReal) := by
  unfold I256; simp [Ideal.ofBits, Ideal.ieee]; norm_num; rw [← EReal.coe_mul]; norm_num
theorem J256_eq : J256 = ((1 / 256 : ℝ) : EReal) := by
  unfold J256; simp [Ideal.ofBits, Ideal.ieee]; norm_num; rw [← EReal.coe_mul]; norm_num
theorem NINF_eq : Ideal.ofBits .f32 0xFF800000#32 = (⊥ : EReal) := by
  simp [Ideal.ofBits, Ideal.ieee]

theorem SM8_split : SM8 = I256 * SM := by
  rw [SM8_eq, I256_eq, SM_eq, ← EReal.coe_mul]; norm_num
theorem C256_I256 : C256 * I256 = 1 := by
  rw [C256_eq, I256_eq, ← EReal.coe_mul]; norm_num

/-- A nonnegative finite factor goes through a finite sum. -/
theorem sum_mul_const {ι : Type*} (s : Finset ι) (f : ι → EReal) (c : EReal) (h0 : 0 ≤ c) (ht : c ≠ ⊤) :
    (∑ i ∈ s, f i) * c = ∑ i ∈ s, f i * c := by
  classical
  induction s using Finset.induction_on with
  | empty => simp
  | insert i s hi ih =>
    rw [Finset.sum_insert hi, Finset.sum_insert hi, EReal.right_distrib_of_nonneg_of_ne_top h0 ht, ih]

section Row

variable {n e : ℕ} (q d : Fin e → EReal) (a o : EReal) (k v : Fin n → Fin e → EReal) (ks vs : Fin n → EReal)
  (see : Fin n → Prop) [DecidablePred see]

/-! ## What the kernel computes -/

/-- The score of key `κ`, `-∞` where the row may not look. -/
def kS (κ : Fin n) : EReal := if see κ then (∑ j, k κ j * q j) * ks κ * (a * SM) else ⊥
/-- The largest score. -/
def kM : EReal := Finset.univ.sup (kS q a k ks see)
/-- The exponential of a score, shifted by the largest. -/
def kE (κ : Fin n) : EReal := Ideal.exp (kS q a k ks see κ - kM q a k ks see)
/-- The sum of the exponentials. -/
def kL : EReal := ∑ κ, kE q a k ks see κ
/-- 256 times the probability of a key. -/
def kP (κ : Fin n) : EReal :=
  kE q a k ks see κ * (Ideal.exp (kM q a k ks see - (kM q a k ks see + Ideal.log (kL q a k ks see))) * C256)
/-- The probability's code. -/
def kC (κ : Fin n) : EReal := min HI (max LO (kP q a k ks see κ))
/-- 256 times the row's output. -/
def kO (j : Fin e) : EReal := ∑ κ, (v κ j * vs κ) * kC q a k ks see κ
/-- The row's correction, the gradient's scale divided out. -/
def kDel : EReal := Ideal.div (∑ j, (d j * o) * (kO q a k v ks vs see j * I256)) o
/-- The score's gradient, times 256 and with the gradient's scale divided out. -/
def kDs (κ : Fin n) : EReal :=
  kP q a k ks see κ * ((∑ j, v κ j * d j) * vs κ - kDel q d a o k v ks vs see)
/-- The query's gradient. -/
def kDq (j : Fin e) : EReal := (∑ κ, (k κ j * ks κ) * kDs q d a o k v ks vs see κ) * (o * SM8)
/-- What the row adds to a key's gradient before the last factor. -/
def kDk (κ : Fin n) (j : Fin e) : EReal := (q j * (a * o)) * kDs q d a o k v ks vs see κ
/-- What the row adds to a value's gradient before the last factor. -/
def kDv (κ : Fin n) (j : Fin e) : EReal := (d j * o) * kC q a k ks see κ

/-! ## What the reference computes -/

def rS (κ : Fin n) : EReal := if see κ then (∑ j, q j * k κ j) * (a * SM) * ks κ else ⊥
def rM : EReal := Finset.univ.sup (rS q a k ks see)
/-- The shift of the log-sum-exp: the largest score where it is finite, else 0. -/
def rM' : EReal := if rM q a k ks see = ⊤ ∨ rM q a k ks see = ⊥ then 0 else rM q a k ks see
def rSum : EReal := ∑ κ, Ideal.exp (rS q a k ks see κ - rM' q a k ks see)
def rLse : EReal := Ideal.log (rSum q a k ks see) + rM' q a k ks see
def rP (κ : Fin n) : EReal := Ideal.exp (rS q a k ks see κ - rLse q a k ks see)
def rC (κ : Fin n) : EReal := min HI (max LO (rP q a k ks see κ * C256))
def rPd (κ : Fin n) : EReal := rC q a k ks see κ * J256
def rO (j : Fin e) : EReal := ∑ κ, rPd q a k ks see κ * (v κ j * vs κ)
def rDel : EReal := ∑ j, (d j * o) * rO q a k v ks vs see j
def rDs (κ : Fin n) : EReal :=
  rP q a k ks see κ * ((∑ j, d j * v κ j) * o * vs κ - rDel q d a o k v ks vs see)
def rDq (j : Fin e) : EReal := (∑ κ, (k κ j * ks κ) * rDs q d a o k v ks vs see κ) * SM
def rDk (κ : Fin n) (j : Fin e) : EReal := (q j * a) * rDs q d a o k v ks vs see κ
def rDv (κ : Fin n) (j : Fin e) : EReal := (d j * o) * rPd q a k ks see κ

/-! ## The two are equal -/

theorem rS_eq : rS q a k ks see = kS q a k ks see := by
  funext κ
  unfold rS kS
  rw [Finset.sum_congr rfl fun j _ => mul_comm (q j) (k κ j), mul_right_comm]

theorem rM_eq : rM q a k ks see = kM q a k ks see := by unfold rM kM; rw [rS_eq]

theorem kS_le (κ : Fin n) : kS q a k ks see κ ≤ kM q a k ks see := Finset.le_sup (f := kS q a k ks see) (Finset.mem_univ κ)

theorem exp_nonneg (x : EReal) : 0 ≤ Ideal.exp x := by
  induction x with
  | bot => simp
  | top => simp
  | coe r => rw [Ideal.exp_coe]; exact_mod_cast (Real.exp_pos r).le

theorem rSum_nonneg : 0 ≤ rSum q a k ks see := Finset.sum_nonneg fun κ _ => exp_nonneg _

/-- The kernel's shifted exponential is 0 at a key that the row may not look at. -/
theorem kE_masked (κ : Fin n) (h : ¬see κ) : kE q a k ks see κ = 0 := by
  unfold kE kS; rw [if_neg h, sub_eq_add_neg, EReal.bot_add, Ideal.exp_bot]
theorem kP_masked (κ : Fin n) (h : ¬see κ) : kP q a k ks see κ = 0 := by
  unfold kP; rw [kE_masked _ _ _ _ _ _ h, zero_mul]

theorem kS_masked (κ : Fin n) (h : ¬see κ) : kS q a k ks see κ = ⊥ := if_neg h

theorem sub_top (x : EReal) : x - ⊤ = ⊥ := by rw [sub_eq_add_neg, EReal.neg_top, EReal.add_bot]

/-- 256 times the reference's probability is the kernel's. -/
theorem kP_eq (κ : Fin n) : kP q a k ks see κ = rP q a k ks see κ * C256 := by
  have hle := kS_le q a k ks see
  by_cases htop : kM q a k ks see = ⊤
  · have h1 : kP q a k ks see κ = 0 := by unfold kP kE; rw [htop, sub_top, Ideal.exp_bot, zero_mul]
    have hm' : rM' q a k ks see = 0 := by unfold rM'; rw [rM_eq, if_pos (Or.inl htop)]
    have hne : (Finset.univ : Finset (Fin n)).Nonempty := ⟨κ, Finset.mem_univ κ⟩
    obtain ⟨i, _, hi⟩ := Finset.exists_mem_eq_sup _ hne (kS q a k ks see)
    have hsum : rSum q a k ks see = ⊤ := by
      refine top_le_iff.1 ?_
      have : Ideal.exp (rS q a k ks see i - rM' q a k ks see) = ⊤ := by
        rw [hm', rS_eq, ← hi, show Finset.univ.sup (kS q a k ks see) = ⊤ from htop, sub_zero, Ideal.exp_top]
      rw [← this]
      exact Finset.single_le_sum (f := fun κ => Ideal.exp (rS q a k ks see κ - rM' q a k ks see)) (fun κ _ => exp_nonneg _) (Finset.mem_univ i)
    have h2 : rP q a k ks see κ = 0 := by
      unfold rP rLse; rw [hsum, hm', Ideal.log_top, add_zero, sub_top, Ideal.exp_bot]
    rw [h1, h2, zero_mul]
  by_cases hbot : kM q a k ks see = ⊥
  · have hS : kS q a k ks see κ = ⊥ := le_bot_iff.1 (hbot ▸ hle κ)
    have h1 : kP q a k ks see κ = 0 := by
      unfold kP kE; rw [hS, sub_eq_add_neg, EReal.bot_add, Ideal.exp_bot, zero_mul]
    have h2 : rP q a k ks see κ = 0 := by
      unfold rP; rw [rS_eq, hS, sub_eq_add_neg, EReal.bot_add, Ideal.exp_bot]
    rw [h1, h2, zero_mul]
  · obtain ⟨m, hm⟩ : ∃ m : ℝ, kM q a k ks see = m := ⟨_, (EReal.coe_toReal htop hbot).symm⟩
    have hm' : rM' q a k ks see = m := by
      unfold rM'; rw [rM_eq, if_neg (by simp [htop, hbot]), hm]
    have hL : rSum q a k ks see = kL q a k ks see := by
      unfold rSum kL kE; rw [rS_eq, hm', hm]
    -- every exponential is a real
    have hE : ∀ i, ∃ r : ℝ, 0 ≤ r ∧ kE q a k ks see i = r := by
      intro i
      unfold kE
      rw [hm]
      have := hle i
      rw [hm] at this
      generalize kS q a k ks see i = s at this
      induction s with
      | bot => exact ⟨0, le_rfl, by rw [sub_eq_add_neg, EReal.bot_add, Ideal.exp_bot, EReal.coe_zero]⟩
      | top => exact absurd this (by simp)
      | coe r => exact ⟨Real.exp (r - m), (Real.exp_pos _).le, by rw [← EReal.coe_sub, Ideal.exp_coe]⟩
    choose ex hex0 hex using hE
    have hLr : kL q a k ks see = ((∑ i, ex i : ℝ) : EReal) := by
      unfold kL; rw [Finset.sum_congr rfl fun i _ => hex i]; exact (map_sum (⟨⟨fun r : ℝ => (r : EReal), EReal.coe_zero⟩, EReal.coe_add⟩ : ℝ →+ EReal) _ _).symm
    have hne : (Finset.univ : Finset (Fin n)).Nonempty := ⟨κ, Finset.mem_univ κ⟩
    obtain ⟨i, _, hi⟩ := Finset.exists_mem_eq_sup _ hne (kS q a k ks see)
    have hi1 : ex i = 1 := by
      have : kE q a k ks see i = 1 := by
        unfold kE; rw [← hi, show Finset.univ.sup (kS q a k ks see) = (m : EReal) from hm, hm, ← EReal.coe_sub, sub_self, Ideal.exp_coe, Real.exp_zero, EReal.coe_one]
      have h := hex i
      rw [this] at h
      exact_mod_cast h.symm
    have hpos : 0 < ∑ i, ex i := by
      have := Finset.single_le_sum (f := ex) (fun j _ => hex0 j) (Finset.mem_univ i)
      rw [hi1] at this; linarith
    have hlog : Ideal.log (kL q a k ks see) = ((Real.log (∑ i, ex i) : ℝ) : EReal) := by
      rw [hLr, Ideal.log_coe, if_neg (not_le.2 hpos)]
    unfold kP kE rP rLse
    rw [rS_eq, hL, hlog, hm', hm]
    have := hle κ
    rw [hm] at this
    generalize kS q a k ks see κ = s at this
    induction s with
    | bot => simp only [sub_eq_add_neg, EReal.bot_add, Ideal.exp_bot, zero_mul]
    | top => exact absurd this (by simp)
    | coe r =>
      rw [← EReal.coe_add, ← EReal.coe_add, ← EReal.coe_sub, ← EReal.coe_sub, ← EReal.coe_sub, Ideal.exp_coe, Ideal.exp_coe, Ideal.exp_coe,
        ← mul_assoc, ← EReal.coe_mul, ← Real.exp_add]
      congr 3; ring_nf

theorem kC_eq (κ : Fin n) : kC q a k ks see κ = rC q a k ks see κ := by unfold kC rC; rw [kP_eq]

theorem rPd_eq (κ : Fin n) : rPd q a k ks see κ = kC q a k ks see κ * I256 := by
  unfold rPd; rw [kC_eq, J256_eq, I256_eq]

theorem I256_nonneg : 0 ≤ I256 := by rw [I256_eq]; exact_mod_cast (by norm_num : (0:ℝ) ≤ 1 / 256)
theorem I256_ne_top : I256 ≠ ⊤ := by rw [I256_eq]; exact EReal.coe_ne_top _
theorem SM_nonneg : 0 ≤ SM := by rw [SM_eq]; exact_mod_cast (by norm_num : (0:ℝ) ≤ 11863283 / 2 ^ 27)
theorem SM_ne_top : SM ≠ ⊤ := by rw [SM_eq]; exact EReal.coe_ne_top _
theorem SM8_nonneg : 0 ≤ SM8 := by rw [SM8_eq]; exact_mod_cast (by norm_num : (0:ℝ) ≤ 11863283 / 2 ^ 35)
theorem SM8_ne_top : SM8 ≠ ⊤ := by rw [SM8_eq]; exact EReal.coe_ne_top _

theorem rO_eq (j : Fin e) : rO q a k v ks vs see j = kO q a k v ks vs see j * I256 := by
  unfold rO kO
  rw [sum_mul_const _ _ _ I256_nonneg I256_ne_top]
  refine Finset.sum_congr rfl fun κ _ => ?_
  rw [rPd_eq]; ac_rfl

/-- The score's gradient: the kernel's, with the two factors that it leaves out, is the reference's. -/
theorem rDs_eq (h0 : 0 ≤ o) (ht : o ≠ ⊤) (κ : Fin n) :
    kDs q d a o k v ks vs see κ * (o * I256) = rDs q d a o k v ks vs see κ := by
  have hdel : rDel q d a o k v ks vs see = ∑ j, (d j * o) * (kO q a k v ks vs see j * I256) := by
    unfold rDel; exact Finset.sum_congr rfl fun j _ => by rw [rO_eq]
  have hraw : (∑ j, v κ j * d j) = ∑ j, d j * v κ j := Finset.sum_congr rfl fun j _ => mul_comm _ _
  unfold kDs rDs
  rw [kP_eq, hraw]
  rcases eq_or_ne o 0 with rfl | hne
  · have hd : rDel q d a 0 k v ks vs see = 0 := by
      rw [hdel]; exact Finset.sum_eq_zero fun j _ => by rw [mul_zero, zero_mul]
    rw [hd]; simp
  · obtain ⟨x, rfl⟩ : ∃ x : ℝ, o = x := ⟨o.toReal, (EReal.coe_toReal ht (fun h => by rw [h] at h0; simp at h0)).symm⟩
    have hx : x ≠ 0 := fun h => hne (by rw [h]; rfl)
    have hk : kDel q d a x k v ks vs see * (x : EReal) = rDel q d a x k v ks vs see := by
      unfold kDel
      rw [← hdel, Ideal.div, if_neg hne, mul_assoc, ← EReal.coe_inv, ← EReal.coe_mul, inv_mul_cancel₀ hx, EReal.coe_one, mul_one]
    have hsub : ((∑ j, d j * v κ j) * vs κ - kDel q d a x k v ks vs see) * (x : EReal)
        = (∑ j, d j * v κ j) * x * vs κ - rDel q d a x k v ks vs see := by
      rw [sub_eq_add_neg, EReal.right_distrib_of_nonneg_of_ne_top h0 ht, EReal.neg_mul, hk, ← sub_eq_add_neg]
      congr 1; ac_rfl
    rw [← hsub]
    calc _ = (C256 * I256) * (rP q a k ks see κ * (((∑ j, d j * v κ j) * vs κ - kDel q d a x k v ks vs see) * (x : EReal))) := by ac_rfl
      _ = _ := by rw [C256_I256, one_mul]

/-- The query's gradient. -/
theorem kDq_eq (h0 : 0 ≤ o) (ht : o ≠ ⊤) (j : Fin e) : kDq q d a o k v ks vs see j = rDq q d a o k v ks vs see j := by
  have hoi : 0 ≤ o * I256 := mul_nonneg h0 I256_nonneg
  have hoit : o * I256 ≠ ⊤ := by
    obtain ⟨x, rfl⟩ : ∃ x : ℝ, o = x := ⟨o.toReal, (EReal.coe_toReal ht (fun h => by rw [h] at h0; simp at h0)).symm⟩
    rw [I256_eq, ← EReal.coe_mul]; exact EReal.coe_ne_top _
  unfold kDq rDq
  rw [SM8_split, ← mul_assoc, ← mul_assoc, mul_assoc _ o I256, sum_mul_const _ _ _ hoi hoit]
  refine congrArg (· * SM) (Finset.sum_congr rfl fun κ _ => ?_)
  rw [mul_assoc, rDs_eq q d a o k v ks vs see h0 ht]

/-- What the row adds to a key's gradient. -/
theorem kDk_eq (h0 : 0 ≤ o) (ht : o ≠ ⊤) (κ : Fin n) (j : Fin e) :
    kDk q d a o k v ks vs see κ j * I256 = rDk q d a o k v ks vs see κ j := by
  unfold kDk rDk
  rw [← rDs_eq q d a o k v ks vs see h0 ht]; ac_rfl

/-- What the row adds to a value's gradient. -/
theorem kDv_eq (κ : Fin n) (j : Fin e) : kDv q d a o k ks see κ j * I256 = rDv q d a o k ks see κ j := by
  unfold kDv rDv
  rw [rPd_eq]; ac_rfl

end Row

end Cert.Proof.Math
-- ==== Proof.S.Sums.lean ====
/-
  Sums and largest values over the first `512 * k` keys of 4096, and windows and stores of two-dimensional arrays read at an index.
-/
module

public import proofs.«01_k».proof.Proof.S.Math
public import Idealize.ShloMosaic.Lib.VecWindow

@[expose] public section

noncomputable section

namespace Cert.Proof

open Idealize.ShloMosaic
open scoped BigOperators

/-- The key at place `x` of block `k` of `b` keys. -/
def blk (b k n : ℕ) (h : b * (k + 1) ≤ n) (x : Fin b) : Fin n := ⟨b * k + x.val, by have := x.isLt; rw [Nat.mul_succ] at h; omega⟩

theorem blk_inj (b k n : ℕ) (h : b * (k + 1) ≤ n) : Function.Injective (blk b k n h) := fun x y e => by
  have := congrArg Fin.val e
  simp only [blk] at this
  exact Fin.ext (by omega)

/-- The sum over the first `512 * k` keys. -/
def psum (k : ℕ) (f : Fin 4096 → EReal) : EReal := ∑ κ : Fin 4096, if κ.val < 512 * k then f κ else 0
/-- The largest value over the first `512 * k` keys. -/
def psup (k : ℕ) (f : Fin 4096 → EReal) : EReal := Finset.univ.sup fun κ : Fin 4096 => if κ.val < 512 * k then f κ else ⊥

theorem psum_zero (f : Fin 4096 → EReal) : psum 0 f = 0 := Finset.sum_eq_zero fun κ _ => if_neg (by omega)
theorem psup_zero (f : Fin 4096 → EReal) : psup 0 f = ⊥ := by
  unfold psup; exact le_bot_iff.1 (Finset.sup_le fun κ _ => by rw [if_neg (by omega)])

theorem psum_succ (k : ℕ) (h : 512 * (k + 1) ≤ 4096) (f : Fin 4096 → EReal) :
    psum (k + 1) f = psum k f + ∑ x : Fin 512, f (blk 512 k 4096 h x) := by
  have e : ∀ κ : Fin 4096, (if κ.val < 512 * (k + 1) then f κ else 0)
      = (if κ.val < 512 * k then f κ else 0) + (if 512 * k ≤ κ.val ∧ κ.val < 512 * (k + 1) then f κ else 0) := fun κ => by
    by_cases h1 : κ.val < 512 * k
    · rw [if_pos h1, if_pos (by omega), if_neg (by omega), add_zero]
    · by_cases h2 : κ.val < 512 * (k + 1)
      · rw [if_neg h1, if_pos h2, if_pos ⟨by omega, h2⟩, zero_add]
      · rw [if_neg h1, if_neg h2, if_neg (by omega), zero_add]
  unfold psum
  rw [Finset.sum_congr rfl fun κ _ => e κ, Finset.sum_add_distrib]
  congr 1
  symm
  refine Fintype.sum_of_injective (blk 512 k 4096 h) (blk_inj 512 k 4096 h) _ _ (fun κ hκ => if_neg fun hh => hκ ⟨⟨κ.val - 512 * k, by omega⟩, Fin.ext ?_⟩) fun x => ?_
  · simp only [blk]; omega
  · have hx := x.isLt
    rw [if_pos]
    simp only [blk]
    omega

theorem psup_succ (k : ℕ) (h : 512 * (k + 1) ≤ 4096) (f : Fin 4096 → EReal) :
    psup (k + 1) f = max (psup k f) (Finset.fold max ⊥ (fun x : Fin 512 => f (blk 512 k 4096 h x)) Finset.univ) := by
  have e : Finset.fold max ⊥ (fun x : Fin 512 => f (blk 512 k 4096 h x)) Finset.univ = Finset.univ.sup fun x : Fin 512 => f (blk 512 k 4096 h x) := rfl
  rw [e]
  unfold psup
  apply le_antisymm
  · refine Finset.sup_le fun κ _ => ?_
    by_cases h1 : κ.val < 512 * k
    · rw [if_pos (by omega)]
      refine le_trans ?_ (le_max_left _ _)
      refine le_trans (le_of_eq ?_) (Finset.le_sup (f := fun κ : Fin 4096 => if κ.val < 512 * k then f κ else ⊥) (Finset.mem_univ κ))
      exact (if_pos h1).symm
    · by_cases h2 : κ.val < 512 * (k + 1)
      · rw [if_pos h2]
        refine le_trans ?_ (le_max_right _ _)
        refine le_trans (le_of_eq ?_) (Finset.le_sup (f := fun x : Fin 512 => f (blk 512 k 4096 h x)) (Finset.mem_univ ⟨κ.val - 512 * k, by omega⟩))
        refine congrArg f (Fin.ext ?_)
        simp only [blk]; omega
      · rw [if_neg h2]; exact bot_le
  · refine max_le (Finset.sup_le fun κ _ => ?_) (Finset.sup_le fun x _ => ?_)
    · by_cases h1 : κ.val < 512 * k
      · rw [if_pos h1]
        refine le_trans (le_of_eq ?_) (Finset.le_sup (f := fun κ : Fin 4096 => if κ.val < 512 * (k + 1) then f κ else ⊥) (Finset.mem_univ κ))
        exact (if_pos (by omega)).symm
      · rw [if_neg h1]; exact bot_le
    · refine le_trans (le_of_eq ?_) (Finset.le_sup (f := fun κ : Fin 4096 => if κ.val < 512 * (k + 1) then f κ else ⊥) (Finset.mem_univ (blk 512 k 4096 h x)))
      refine (if_pos ?_).symm
      have := x.isLt
      simp only [blk]; omega

/-- Where the terms beyond the first blocks are 0, the partial sum is the whole sum. -/
theorem psum_all (k : ℕ) (f : Fin 4096 → EReal) (h : ∀ κ : Fin 4096, 512 * k ≤ κ.val → f κ = 0) : psum k f = ∑ κ, f κ :=
  Finset.sum_congr rfl fun κ _ => by
    by_cases h1 : κ.val < 512 * k
    · exact if_pos h1
    · rw [if_neg h1, h κ (by omega)]
theorem psup_all (k : ℕ) (f : Fin 4096 → EReal) (h : ∀ κ : Fin 4096, 512 * k ≤ κ.val → f κ = ⊥) : psup k f = Finset.univ.sup f :=
  congrArg (Finset.sup Finset.univ) (funext fun κ => by
    by_cases h1 : κ.val < 512 * k
    · exact if_pos h1
    · rw [if_neg h1, h κ (by omega)])
theorem psum_congr (k : ℕ) (f g : Fin 4096 → EReal) (h : ∀ κ : Fin 4096, κ.val < 512 * k → f κ = g κ) : psum k f = psum k g :=
  Finset.sum_congr rfl fun κ _ => by
    by_cases h1 : κ.val < 512 * k
    · rw [if_pos h1, if_pos h1, h κ h1]
    · rw [if_neg h1, if_neg h1]
theorem psup_congr (k : ℕ) (f g : Fin 4096 → EReal) (h : ∀ κ : Fin 4096, κ.val < 512 * k → f κ = g κ) : psup k f = psup k g :=
  congrArg (Finset.sup Finset.univ) (funext fun κ => by
    by_cases h1 : κ.val < 512 * k
    · rw [if_pos h1, if_pos h1, h κ h1]
    · rw [if_neg h1, if_neg h1])

/-! ## Windows and stores at an index -/

section Win
variable {α : Type}

theorem window2 {m n a b : ℕ} (x : (⟨2, ![m, n]⟩ : Shape).Idx → α) (o p : ℕ) (inb : ∀ i, (![o, p] : Fin 2 → ℕ) i + (![a, b] : Fin 2 → ℕ) i ≤ (![m, n] : Fin 2 → ℕ) i)
    (r : Fin a) (c : Fin b) (hr : o + r.val < m) (hc : p + c.val < n) :
    VecWindow.window (s := ⟨2, ![m, n]⟩) x ![o, p] ![a, b] inb (ix2 r c) = x (ix2 ⟨o + r.val, hr⟩ ⟨p + c.val, hc⟩) := by
  unfold VecWindow.window
  refine congrArg x (funext fun i => Fin.ext ?_)
  match i with
  | ⟨0, _⟩ => show o + 1 * r.val = _; rw [one_mul]; rfl
  | ⟨1, _⟩ => show p + 1 * c.val = _; rw [one_mul]; rfl

theorem window3 {m n q a b d : ℕ} (x : (⟨3, ![m, n, q]⟩ : Shape).Idx → α) (o p s : ℕ)
    (inb : ∀ i, (![o, p, s] : Fin 3 → ℕ) i + (![a, b, d] : Fin 3 → ℕ) i ≤ (![m, n, q] : Fin 3 → ℕ) i)
    (r : Fin a) (c : Fin b) (e : Fin d) (hr : o + r.val < m) (hc : p + c.val < n) (he : s + e.val < q) :
    VecWindow.window (s := ⟨3, ![m, n, q]⟩) x ![o, p, s] ![a, b, d] inb (ix3 r c e) = x (ix3 ⟨o + r.val, hr⟩ ⟨p + c.val, hc⟩ ⟨s + e.val, he⟩) := by
  unfold VecWindow.window
  refine congrArg x (funext fun i => Fin.ext ?_)
  match i with
  | ⟨0, _⟩ => show o + 1 * r.val = _; rw [one_mul]; rfl
  | ⟨1, _⟩ => show p + 1 * c.val = _; rw [one_mul]; rfl
  | ⟨2, _⟩ => show s + 1 * e.val = _; rw [one_mul]; rfl

theorem window4 {m n q u a b d w : ℕ} (x : (⟨4, ![m, n, q, u]⟩ : Shape).Idx → α) (o p s t : ℕ)
    (inb : ∀ i, (![o, p, s, t] : Fin 4 → ℕ) i + (![a, b, d, w] : Fin 4 → ℕ) i ≤ (![m, n, q, u] : Fin 4 → ℕ) i)
    (r : Fin a) (c : Fin b) (e : Fin d) (f : Fin w) (hr : o + r.val < m) (hc : p + c.val < n) (he : s + e.val < q) (hf : t + f.val < u) :
    VecWindow.window (s := ⟨4, ![m, n, q, u]⟩) x ![o, p, s, t] ![a, b, d, w] inb (ix4 r c e f)
      = x (ix4 ⟨o + r.val, hr⟩ ⟨p + c.val, hc⟩ ⟨s + e.val, he⟩ ⟨t + f.val, hf⟩) := by
  unfold VecWindow.window
  refine congrArg x (funext fun i => Fin.ext ?_)
  match i with
  | ⟨0, _⟩ => show o + 1 * r.val = _; rw [one_mul]; rfl
  | ⟨1, _⟩ => show p + 1 * c.val = _; rw [one_mul]; rfl
  | ⟨2, _⟩ => show s + 1 * e.val = _; rw [one_mul]; rfl
  | ⟨3, _⟩ => show t + 1 * f.val = _; rw [one_mul]; rfl

/-- Inside the window stored, a store reads as its payload. -/
theorem put2_in {m n a b : ℕ} (x : (⟨2, ![m, n]⟩ : Shape).Idx → α) (o p : ℕ) (w : (⟨2, ![a, b]⟩ : Shape).Idx → α) (r : Fin m) (c : Fin n)
    (h : o ≤ r.val ∧ r.val < o + a) (h' : p ≤ c.val ∧ c.val < p + b) :
    VecWindow.put (s := ⟨2, ![m, n]⟩) x ![o, p] ![a, b] w (ix2 r c) = w (ix2 ⟨r.val - o, by omega⟩ ⟨c.val - p, by omega⟩) := by
  unfold VecWindow.put
  rw [dif_pos (show ∀ i : Fin 2, _ from fun i => by
    match i with
    | ⟨0, _⟩ => exact h
    | ⟨1, _⟩ => exact h')]
  refine congrArg w (funext fun i => Fin.ext ?_)
  match i with
  | ⟨0, _⟩ => rfl
  | ⟨1, _⟩ => rfl

/-- Outside it, as what was there. -/
theorem put2_out {m n a b : ℕ} (x : (⟨2, ![m, n]⟩ : Shape).Idx → α) (o p : ℕ) (w : (⟨2, ![a, b]⟩ : Shape).Idx → α) (r : Fin m) (c : Fin n)
    (h : ¬((o ≤ r.val ∧ r.val < o + a) ∧ (p ≤ c.val ∧ c.val < p + b))) :
    VecWindow.put (s := ⟨2, ![m, n]⟩) x ![o, p] ![a, b] w (ix2 r c) = x (ix2 r c) := by
  unfold VecWindow.put
  exact dif_neg fun hh => h ⟨hh 0, hh 1⟩

theorem put3_in {m n q a b d : ℕ} (x : (⟨3, ![m, n, q]⟩ : Shape).Idx → α) (o p s : ℕ) (w : (⟨3, ![a, b, d]⟩ : Shape).Idx → α) (r : Fin m) (c : Fin n) (e : Fin q)
    (h : o ≤ r.val ∧ r.val < o + a) (h' : p ≤ c.val ∧ c.val < p + b) (h'' : s ≤ e.val ∧ e.val < s + d) :
    VecWindow.put (s := ⟨3, ![m, n, q]⟩) x ![o, p, s] ![a, b, d] w (ix3 r c e)
      = w (ix3 ⟨r.val - o, by omega⟩ ⟨c.val - p, by omega⟩ ⟨e.val - s, by omega⟩) := by
  unfold VecWindow.put
  rw [dif_pos (show ∀ i : Fin 3, _ from fun i => by
    match i with
    | ⟨0, _⟩ => exact h
    | ⟨1, _⟩ => exact h'
    | ⟨2, _⟩ => exact h'')]
  refine congrArg w (funext fun i => Fin.ext ?_)
  match i with
  | ⟨0, _⟩ => rfl
  | ⟨1, _⟩ => rfl
  | ⟨2, _⟩ => rfl

theorem put3_out {m n q a b d : ℕ} (x : (⟨3, ![m, n, q]⟩ : Shape).Idx → α) (o p s : ℕ) (w : (⟨3, ![a, b, d]⟩ : Shape).Idx → α) (r : Fin m) (c : Fin n) (e : Fin q)
    (h : ¬((o ≤ r.val ∧ r.val < o + a) ∧ (p ≤ c.val ∧ c.val < p + b) ∧ (s ≤ e.val ∧ e.val < s + d))) :
    VecWindow.put (s := ⟨3, ![m, n, q]⟩) x ![o, p, s] ![a, b, d] w (ix3 r c e) = x (ix3 r c e) := by
  unfold VecWindow.put
  exact dif_neg fun hh => h ⟨hh 0, hh 1, hh 2⟩

end Win

end Cert.Proof
-- ==== Proof.S.Facts.lean ====
/-
  What the loops over the key blocks do to the score array, the accumulators and the carried vector: four relations between the state
  at the start of a loop and the state after `k` blocks, each with its step.
-/
module

public import proofs.«01_k».proof.Proof.S.Sums
public import proofs.«01_k».proof.Proof.Gen.KernelIdeal.Skeleton
public import Idealize.ShloMosaic.Lib.Pointwise

@[expose] public section

set_option maxRecDepth 8192

noncomputable section

namespace Cert.Proof

open Cert.KernelIdeal Cert.KernelIdeal.Gen
open Idealize.ShloMosaic Idealize.ShloMosaic.VecWindow
open scoped BigOperators
open Cert.Proof.Math

/-- What an array holds when a loop begins (`k = 0`): the equation `atStart k f = atStart k z` says that `f` is `z` there and nothing later. -/
def atStart {α : Type} : ℕ → α → Option α
  | 0, x => some x
  | _ + 1, _ => none

/-- A column scale of the 128-wide copies, at a lane of a 256-wide row block. -/
def colv {n : ℕ} (K : (⟨2, ![n, 128]⟩ : Shape).Idx → EReal) (κ : Fin n) (l : Fin 256) : EReal :=
  if h : l.val < 128 then K (ix2 κ ⟨l.val, h⟩) else K (ix2 κ ⟨l.val - 128, by have := l.isLt; omega⟩)

/-- A score of one key and one query lane. -/
def sc (K3 : Vec Ideal S1x4096x128 .fp8e4m3) (K16 : Vec Ideal S4096x128 .f32) (v26 : FVec Ideal S256x128 .fp8e4m3) (v37 : FVec Ideal S1x256 .f32)
    (κ : Fin 4096) (l : Fin 256) : EReal :=
  ((∑ x : Fin 128, K3 (ix3 0 κ x) * v26 (ix2 l x)) * colv K16 κ l) * v37 (ix2 0 l)

/-- A code of a probability, clipped to the range of the codes. -/
def cl (p : EReal) : EReal := min HI (max LO p)

/-- The gradient of one score over the scale of the row's output gradient. -/
def dsv (K4 : Vec Ideal S1x4096x128 .fp8e4m3) (K17 : Vec Ideal S4096x128 .f32) (K13 : Vec Ideal S4096x256 .f32) (v29 : FVec Ideal S256x128 .fp8e5m2) (v110 : FVec Ideal S1x256 .f32)
    (κ : Fin 4096) (l : Fin 256) : EReal :=
  K13 (ix2 κ l) * ((∑ x : Fin 128, K4 (ix3 0 κ x) * v29 (ix2 l x)) * colv K17 κ l - v110 (ix2 0 l))

abbrev V13 := Vec Ideal S4096x256 .f32
abbrev VT := Vec Ideal S128x4096 .f32
abbrev W1 := FVec Ideal S1x256 .f32
abbrev W128 := FVec Ideal S128x256 .f32

/-- After `k` blocks of the scores: the first `512 * k` rows hold the scores, the carried row their largest values. -/
structure FA (K3 : Vec Ideal S1x4096x128 .fp8e4m3) (K16 : Vec Ideal S4096x128 .f32) (v26 : FVec Ideal S256x128 .fp8e4m3) (v37 : FVec Ideal S1x256 .f32)
    (k : ℕ) (s s0 : V13 × W1) : Prop where
  lo : ∀ (κ : Fin 4096) (l : Fin 256), κ.val < 512 * k → s.1 (ix2 κ l) = sc K3 K16 v26 v37 κ l
  hi : ∀ (κ : Fin 4096) (l : Fin 256), 512 * k ≤ κ.val → s.1 (ix2 κ l) = s0.1 (ix2 κ l)
  acc : ∀ l : Fin 256, s.2 (ix2 0 l) = max (s0.2 (ix2 0 l)) (psup k fun κ => sc K3 K16 v26 v37 κ l)

/-- After `k` blocks of the exponentials. -/
structure FB (v74 : W1) (k : ℕ) (s s0 : V13 × W1) : Prop where
  lo : ∀ (κ : Fin 4096) (l : Fin 256), κ.val < 512 * k → s.1 (ix2 κ l) = Ideal.exp (s0.1 (ix2 κ l) - v74 (ix2 0 l))
  hi : ∀ (κ : Fin 4096) (l : Fin 256), 512 * k ≤ κ.val → s.1 (ix2 κ l) = s0.1 (ix2 κ l)
  acc : ∀ l : Fin 256, s.2 (ix2 0 l) = s0.2 (ix2 0 l) + psum k fun κ => Ideal.exp (s0.1 (ix2 κ l) - v74 (ix2 0 l))

/-- After `k` blocks of the probabilities: their codes' products with the output gradients and with the values. -/
structure FC (K15 : Vec Ideal S128x4096 .bf16) (dot : FVec Ideal S128x256 .bf16) (gain : W1) (k : ℕ) (s s0 : V13 × VT × W128) : Prop where
  lo : ∀ (κ : Fin 4096) (l : Fin 256), κ.val < 512 * k → s.1 (ix2 κ l) = s0.1 (ix2 κ l) * gain (ix2 0 l)
  hi : ∀ (κ : Fin 4096) (l : Fin 256), 512 * k ≤ κ.val → s.1 (ix2 κ l) = s0.1 (ix2 κ l)
  tlo : ∀ (j : Fin 128) (κ : Fin 4096), κ.val < 512 * k → s.2.1 (ix2 j κ) = s0.2.1 (ix2 j κ)
    + ∑ l : Fin 256, dot (ix2 j l) * cl (s0.1 (ix2 κ l) * gain (ix2 0 l))
  thi : ∀ (j : Fin 128) (κ : Fin 4096), 512 * k ≤ κ.val → s.2.1 (ix2 j κ) = s0.2.1 (ix2 j κ)
  acc : ∀ (j : Fin 128) (l : Fin 256), s.2.2 (ix2 j l) = s0.2.2 (ix2 j l)
    + psum k fun κ => K15 (ix2 j κ) * cl (s0.1 (ix2 κ l) * gain (ix2 0 l))

/-- After `k` blocks of the gradients: the products of the score gradients with the queries and with the keys. -/
structure FD (K4 : Vec Ideal S1x4096x128 .fp8e4m3) (K17 : Vec Ideal S4096x128 .f32) (K13 : Vec Ideal S4096x256 .f32) (K14 : Vec Ideal S128x4096 .bf16)
    (v29 : FVec Ideal S256x128 .fp8e5m2) (v110 : W1) (v116 : FVec Ideal S128x256 .bf16) (k : ℕ) (s s0 : VT × W128) : Prop where
  tlo : ∀ (j : Fin 128) (κ : Fin 4096), κ.val < 512 * k → s.1 (ix2 j κ) = s0.1 (ix2 j κ)
    + ∑ l : Fin 256, v116 (ix2 j l) * dsv K4 K17 K13 v29 v110 κ l
  thi : ∀ (j : Fin 128) (κ : Fin 4096), 512 * k ≤ κ.val → s.1 (ix2 j κ) = s0.1 (ix2 j κ)
  acc : ∀ (j : Fin 128) (l : Fin 256), s.2 (ix2 j l) = s0.2 (ix2 j l) + psum k fun κ => K14 (ix2 j κ) * dsv K4 K17 K13 v29 v110 κ l

section Init
variable (K3 : Vec Ideal S1x4096x128 .fp8e4m3) (K4 : Vec Ideal S1x4096x128 .fp8e4m3) (K13 : Vec Ideal S4096x256 .f32) (K14 K15 : Vec Ideal S128x4096 .bf16) (K16 K17 : Vec Ideal S4096x128 .f32)
  (v26 : FVec Ideal S256x128 .fp8e4m3) (v29 : FVec Ideal S256x128 .fp8e5m2) (v35 v37 v74 v83 v110 : W1) (v116 dot : FVec Ideal S128x256 .bf16) (gain : W1)

@[refl] theorem FA.init (s : V13 × W1) : FA K3 K16 v26 v37 0 s s :=
  ⟨fun κ _ h => absurd h (by omega), fun _ _ _ => rfl, fun l => by rw [psup_zero]; exact (max_eq_left bot_le).symm⟩
@[refl] theorem FB.init (s : V13 × W1) : FB v74 0 s s :=
  ⟨fun κ _ h => absurd h (by omega), fun _ _ _ => rfl, fun l => by rw [psum_zero, add_zero]⟩
@[refl] theorem FC.init (s : V13 × VT × W128) : FC K15 dot gain 0 s s :=
  ⟨fun κ _ h => absurd h (by omega), fun _ _ _ => rfl, fun _ κ h => absurd h (by omega), fun _ _ _ => rfl, fun j l => by rw [psum_zero, add_zero]⟩
@[refl] theorem FD.init (s : VT × W128) : FD K4 K17 K13 K14 v29 v110 v116 0 s s :=
  ⟨fun _ κ h => absurd h (by omega), fun _ _ _ => rfl, fun j l => by rw [psum_zero, add_zero]⟩
end Init

/-! ## The payloads at an index -/

theorem pay24_at (v26 : FVec Ideal S256x128 .fp8e4m3) (v37 : W1) (v475 : Vec Ideal S1x512x128 .fp8e4m3) (v479 : Vec Ideal S512x128 .f32) (a : Fin 512) (b : Fin 256) :
    k0_pay24 (F := Ideal) v26 v37 v475 v479 (ix2 a b) = ((∑ x : Fin 128, v475 (ix3 0 a x) * v26 (ix2 b x)) * colv v479 a b) * v37 (ix2 0 b) := by
  pointwise [k0_pay24]
  rfl

theorem pay25_at (v26 : FVec Ideal S256x128 .fp8e4m3) (v37 : W1) (v475 : Vec Ideal S1x512x128 .fp8e4m3) (v479 : Vec Ideal S512x128 .f32) (a : Fin 512) (b : Fin 256) :
    k0_pay25 (F := Ideal) v26 v37 v475 v479 (ix2 a b) = k0_pay24 (F := Ideal) v26 v37 v475 v479 (ix2 a b) := by
  pointwise [k0_pay25]

theorem pay26_at (v26 : FVec Ideal S256x128 .fp8e4m3) (v37 acc : W1) (v475 : Vec Ideal S1x512x128 .fp8e4m3) (v479 : Vec Ideal S512x128 .f32) (b : Fin 256) :
    k0_pay26 (F := Ideal) v26 v37 acc v475 v479 (ix2 0 b)
      = max (acc (ix2 0 b)) (Finset.fold max ⊥ (fun x : Fin 512 => k0_pay24 (F := Ideal) v26 v37 v475 v479 (ix2 x b)) Finset.univ) := by
  pointwise [k0_pay26]
  rw [← NINF_eq]

theorem pay35_at (v74 : W1) (v475 : Vec Ideal S512x256 .f32) (a : Fin 512) (b : Fin 256) :
    k0_pay35 (F := Ideal) v74 v475 (ix2 a b) = Ideal.exp (v475 (ix2 a b) - v74 (ix2 0 b)) := by
  pointwise [k0_pay35, k0_pay34]

theorem pay36_at (v74 acc : W1) (v475 : Vec Ideal S512x256 .f32) (b : Fin 256) :
    k0_pay36 (F := Ideal) v74 acc v475 (ix2 0 b) = acc (ix2 0 b) + ∑ x : Fin 512, Ideal.exp (v475 (ix2 x b) - v74 (ix2 0 b)) := by
  pointwise [k0_pay36, k0_pay34]

theorem pay89_at (gain : W1) (v475 : Vec Ideal S512x256 .f32) (a : Fin 512) (b : Fin 256) :
    k0_pay89 (F := Ideal) gain v475 (ix2 a b) = v475 (ix2 a b) * gain (ix2 0 b) := by
  pointwise [k0_pay89, k0_pay88]

theorem pay90_at (gain : W1) (v475 : Vec Ideal S512x256 .f32) (a : Fin 512) (b : Fin 256) :
    k0_pay90 (F := Ideal) gain v475 (ix2 a b) = cl (v475 (ix2 a b) * gain (ix2 0 b)) := by
  pointwise [k0_pay90, k0_pay88]
  rfl

theorem pay91_at (gain : W1) (dot : FVec Ideal S128x256 .bf16) (v475 : Vec Ideal S512x256 .f32) (v488 : Vec Ideal S128x512 .f32) (a : Fin 128) (b : Fin 512) :
    k0_pay91 (F := Ideal) gain dot v475 v488 (ix2 a b)
      = v488 (ix2 a b) + ∑ x : Fin 256, dot (ix2 a x) * k0_pay90 (F := Ideal) gain v475 (ix2 b x) := by
  pointwise [k0_pay91]

theorem pay92_at (gain : W1) (acc : W128) (v475 : Vec Ideal S512x256 .f32) (v496 : Vec Ideal S128x512 .bf16) (a : Fin 128) (b : Fin 256) :
    k0_pay92 (F := Ideal) gain acc v475 v496 (ix2 a b)
      = acc (ix2 a b) + ∑ x : Fin 512, v496 (ix2 a x) * k0_pay90 (F := Ideal) gain v475 (ix2 x b) := by
  pointwise [k0_pay92]

theorem pay59_at (v29 : FVec Ideal S256x128 .fp8e5m2) (v110 : W1) (v475 : Vec Ideal S1x512x128 .fp8e4m3) (v479 : Vec Ideal S512x128 .f32) (v483 : Vec Ideal S512x256 .f32) (a : Fin 512) (b : Fin 256) :
    k0_pay59 (F := Ideal) v29 v110 v475 v479 v483 (ix2 a b)
      = v483 (ix2 a b) * ((∑ x : Fin 128, v475 (ix3 0 a x) * v29 (ix2 b x)) * colv v479 a b - v110 (ix2 0 b)) := by
  pointwise [k0_pay59]
  rfl

theorem pay60_at (v29 : FVec Ideal S256x128 .fp8e5m2) (v110 : W1) (v116 : FVec Ideal S128x256 .bf16) (v475 : Vec Ideal S1x512x128 .fp8e4m3) (v479 : Vec Ideal S512x128 .f32) (v483 : Vec Ideal S512x256 .f32)
    (v489 : Vec Ideal S128x512 .f32) (a : Fin 128) (b : Fin 512) :
    k0_pay60 (F := Ideal) v29 v110 v116 v475 v479 v483 v489 (ix2 a b)
      = v489 (ix2 a b) + ∑ x : Fin 256, v116 (ix2 a x) * k0_pay59 (F := Ideal) v29 v110 v475 v479 v483 (ix2 b x) := by
  pointwise [k0_pay60]

theorem pay61_at (v29 : FVec Ideal S256x128 .fp8e5m2) (v110 : W1) (acc : W128) (v475 : Vec Ideal S1x512x128 .fp8e4m3) (v479 : Vec Ideal S512x128 .f32) (v483 : Vec Ideal S512x256 .f32)
    (v497 : Vec Ideal S128x512 .bf16) (a : Fin 128) (b : Fin 256) :
    k0_pay61 (F := Ideal) v29 v110 acc v475 v479 v483 v497 (ix2 a b)
      = acc (ix2 a b) + ∑ x : Fin 512, v497 (ix2 a x) * k0_pay59 (F := Ideal) v29 v110 v475 v479 v483 (ix2 x b) := by
  pointwise [k0_pay61]

end Cert.Proof
-- ==== Proof.S.Steps.lean ====
/-
  One more block of each loop over the key blocks: the relation after `k` blocks, and the stores of block `k`, give the relation after `k + 1`.
-/
module

public import proofs.«01_k».proof.Proof.S.Facts

@[expose] public section

set_option maxRecDepth 8192

noncomputable section

namespace Cert.Proof

open Cert.KernelIdeal Cert.KernelIdeal.Gen
open Idealize.ShloMosaic Idealize.ShloMosaic.VecWindow
open scoped BigOperators
open Cert.Proof.Math

variable {K3 K4 : Vec Ideal S1x4096x128 .fp8e4m3} {K13 : Vec Ideal S4096x256 .f32} {K14 K15 : Vec Ideal S128x4096 .bf16} {K16 K17 : Vec Ideal S4096x128 .f32}
  {v26 : FVec Ideal S256x128 .fp8e4m3} {v29 : FVec Ideal S256x128 .fp8e5m2} {v35 v37 v74 v83 v110 : W1} {v116 dot : FVec Ideal S128x256 .bf16} {gain : W1}
  {E : V13} {T : VT} {a1 : W1} {a2 : W128} {k : ℕ}

theorem colv_window (K : Vec Ideal S4096x128 .f32) (k : ℕ) (hk : 512 * (k + 1) ≤ 4096) (inb : ∀ i, (![512 * k, 0] : Fin 2 → ℕ) i + S512x128.size i ≤ S4096x128.size i)
    (x : Fin 512) (l : Fin 256) : colv (n := 512) (window K ![512 * k, 0] S512x128.size inb) x l = colv K (blk 512 k 4096 hk x) l := by
  unfold colv
  have hx := x.isLt
  by_cases h : l.val < 128
  · rw [dif_pos h, dif_pos h]
    refine (window2 K (512 * k) 0 inb x ⟨l.val, h⟩ (by omega) (by show 0 + l.val < 128; omega)).trans ?_
    exact congrArg K (congrArg (ix2 _) (Fin.ext (Nat.zero_add _)))
  · rw [dif_neg h, dif_neg h]
    have := l.isLt
    refine (window2 K (512 * k) 0 inb x ⟨l.val - 128, by omega⟩ (by omega) (by show 0 + (l.val - 128) < 128; omega)).trans ?_
    exact congrArg K (congrArg (ix2 _) (Fin.ext (Nat.zero_add _)))

theorem win3 (K : Vec Ideal S1x4096x128 .fp8e4m3) (k : ℕ) (hk : 512 * (k + 1) ≤ 4096) (inb : ∀ i, (![0, 512 * k, 0] : Fin 3 → ℕ) i + S1x512x128.size i ≤ S1x4096x128.size i)
    (x : Fin 512) (j : Fin 128) : window K ![0, 512 * k, 0] S1x512x128.size inb (ix3 0 x j) = K (ix3 0 (blk 512 k 4096 hk x) j) := by
  have hx := x.isLt
  refine (window3 K 0 (512 * k) 0 inb 0 x j (by decide) (by omega) (by have := j.isLt; omega)).trans ?_
  have e : (⟨0 + j.val, by have := j.isLt; omega⟩ : Fin 128) = j := Fin.ext (Nat.zero_add _)
  exact congrArg (fun z => K (ix3 0 (blk 512 k 4096 hk x) z)) e

theorem win13 (K : V13) (k : ℕ) (hk : 512 * (k + 1) ≤ 4096) (inb : ∀ i, (![512 * k, 0] : Fin 2 → ℕ) i + S512x256.size i ≤ S4096x256.size i)
    (x : Fin 512) (l : Fin 256) : window K ![512 * k, 0] S512x256.size inb (ix2 x l) = K (ix2 (blk 512 k 4096 hk x) l) := by
  have hx := x.isLt
  refine (window2 K (512 * k) 0 inb x l (by omega) (by have := l.isLt; omega)).trans ?_
  refine congrArg K (congrArg (ix2 _) (Fin.ext (Nat.zero_add _)))

theorem winT {e : EltTy} (K : Vec Ideal S128x4096 e) (k : ℕ) (hk : 512 * (k + 1) ≤ 4096) (inb : ∀ i, (![0, 512 * k] : Fin 2 → ℕ) i + S128x512.size i ≤ S128x4096.size i)
    (j : Fin 128) (x : Fin 512) : window K ![0, 512 * k] S128x512.size inb (ix2 j x) = K (ix2 j (blk 512 k 4096 hk x)) := by
  have hx := x.isLt
  refine (window2 K 0 (512 * k) inb j x (by have := j.isLt; omega) (by omega)).trans ?_
  refine congrArg K (congrArg (fun z => ix2 z _) (Fin.ext (Nat.zero_add _)))

/-- A store into block `k` of the score array. -/
theorem put13 (K : V13) (k : ℕ) (hk : 512 * (k + 1) ≤ 4096) (w : Vec Ideal S512x256 .f32) (κ : Fin 4096) (l : Fin 256) :
    (∀ x, κ = blk 512 k 4096 hk x → put K ![512 * k, 0] S512x256.size w (ix2 κ l) = w (ix2 x l)) ∧
    ((κ.val < 512 * k ∨ 512 * (k + 1) ≤ κ.val) → put K ![512 * k, 0] S512x256.size w (ix2 κ l) = K (ix2 κ l)) := by
  have hl := l.isLt
  constructor
  · rintro x rfl
    have hx := x.isLt
    refine (put2_in (a := 512) (b := 256) K (512 * k) 0 w _ l (by simp only [blk]; omega) (by omega)).trans ?_
    refine congrArg w ?_
    congr 1
    exact Fin.ext (by simp only [blk]; omega)
  · intro h
    exact put2_out (a := 512) (b := 256) K (512 * k) 0 w _ l (by omega)

/-- A store into block `k` of a transposed accumulator. -/
theorem putT (K : VT) (k : ℕ) (hk : 512 * (k + 1) ≤ 4096) (w : Vec Ideal S128x512 .f32) (j : Fin 128) (κ : Fin 4096) :
    (∀ x, κ = blk 512 k 4096 hk x → put K ![0, 512 * k] S128x512.size w (ix2 j κ) = w (ix2 j x)) ∧
    ((κ.val < 512 * k ∨ 512 * (k + 1) ≤ κ.val) → put K ![0, 512 * k] S128x512.size w (ix2 j κ) = K (ix2 j κ)) := by
  have hl := j.isLt
  constructor
  · rintro x rfl
    have hx := x.isLt
    refine (put2_in (a := 128) (b := 512) K 0 (512 * k) w j _ (by omega) (by simp only [blk]; omega)).trans ?_
    refine congrArg w ?_
    congr 1
    exact Fin.ext (by simp only [blk]; omega)
  · intro h
    exact put2_out (a := 128) (b := 512) K 0 (512 * k) w j _ (by omega)

theorem in_blk (k : ℕ) (hk : 512 * (k + 1) ≤ 4096) (κ : Fin 4096) (h : κ.val < 512 * (k + 1)) : κ.val < 512 * k ∨ ∃ x, κ = blk 512 k 4096 hk x := by
  by_cases h1 : κ.val < 512 * k
  · exact .inl h1
  · exact .inr ⟨⟨κ.val - 512 * k, by omega⟩, Fin.ext (by simp only [blk]; omega)⟩

/-- A score of block `k` is the payload's entry. -/
theorem sc_blk (hk : 512 * (k + 1) ≤ 4096) (i3 i16) (x : Fin 512) (l : Fin 256) :
    k0_pay24 (F := Ideal) v26 v37 (window K3 ![0, 512 * k, 0] S1x512x128.size i3) (window K16 ![512 * k, 0] S512x128.size i16) (ix2 x l)
      = sc K3 K16 v26 v37 (blk 512 k 4096 hk x) l := by
  rw [pay24_at]
  unfold sc
  rw [colv_window K16 k hk i16 x l]
  congr 2
  exact Finset.sum_congr rfl fun j _ => by rw [win3 K3 k hk i3 x j]

theorem FA.step (hk : 512 * (k + 1) ≤ 4096) {s0} (h : FA K3 K16 v26 v37 k (E, a1) s0) (i3 i16) :
    FA K3 K16 v26 v37 (k + 1)
      (put E ![512 * k, 0] S512x256.size (k0_pay25 (F := Ideal) v26 v37 (window K3 ![0, 512 * k, 0] S1x512x128.size i3) (window K16 ![512 * k, 0] S512x128.size i16)),
       k0_pay26 (F := Ideal) v26 v37 a1 (window K3 ![0, 512 * k, 0] S1x512x128.size i3) (window K16 ![512 * k, 0] S512x128.size i16)) s0 where
  lo κ l hκ := by
    rcases in_blk k hk κ hκ with h1 | ⟨x, rfl⟩
    · exact ((put13 E k hk _ κ l).2 (.inl h1)).trans (h.lo κ l h1)
    · exact ((put13 E k hk _ _ l).1 x rfl).trans ((pay25_at _ _ _ _ _ _).trans (sc_blk hk i3 i16 x l))
  hi κ l hκ := ((put13 E k hk _ κ l).2 (.inr hκ)).trans (h.hi κ l (by omega))
  acc l := by
    refine (pay26_at _ _ _ _ _ _).trans ?_
    have ha := h.acc l
    dsimp only at ha
    rw [ha, psup_succ k hk, max_assoc]
    congr 2
    exact congrArg (fun f => Finset.fold max ⊥ f Finset.univ) (funext fun x => sc_blk hk i3 i16 x l)

theorem FB.step (hk : 512 * (k + 1) ≤ 4096) {s0} (h : FB v74 k (E, a1) s0) (i) :
    FB v74 (k + 1) (put E ![512 * k, 0] S512x256.size (k0_pay35 (F := Ideal) v74 (window E ![512 * k, 0] S512x256.size i)),
      k0_pay36 (F := Ideal) v74 a1 (window E ![512 * k, 0] S512x256.size i)) s0 where
  lo κ l hκ := by
    rcases in_blk k hk κ hκ with h1 | ⟨x, rfl⟩
    · exact ((put13 E k hk _ κ l).2 (.inl h1)).trans (h.lo κ l h1)
    · refine ((put13 E k hk _ _ l).1 x rfl).trans ((pay35_at _ _ _ _).trans ?_)
      rw [win13 E k hk i x l]
      exact congrArg (fun z => Ideal.exp (z - _)) (h.hi _ l (Nat.le_add_right _ _))
  hi κ l hκ := ((put13 E k hk _ κ l).2 (.inr hκ)).trans (h.hi κ l (by omega))
  acc l := by
    refine (pay36_at _ _ _ _).trans ?_
    have ha := h.acc l
    dsimp only at ha
    rw [ha, psum_succ k hk, add_assoc]
    congr 2
    refine Finset.sum_congr rfl fun x _ => ?_
    rw [win13 E k hk i x l]
    exact congrArg (fun z => Ideal.exp (z - _)) (h.hi _ l (Nat.le_add_right _ _))

theorem FC.step (hk : 512 * (k + 1) ≤ 4096) {s0} (h : FC K15 dot gain k (E, T, a2) s0) (i i19 i15) :
    FC K15 dot gain (k + 1) (put E ![512 * k, 0] S512x256.size (k0_pay89 (F := Ideal) gain (window E ![512 * k, 0] S512x256.size i)),
      put T ![0, 512 * k] S128x512.size (k0_pay91 (F := Ideal) gain dot (window E ![512 * k, 0] S512x256.size i) (window T ![0, 512 * k] S128x512.size i19)),
      k0_pay92 (F := Ideal) gain a2 (window E ![512 * k, 0] S512x256.size i) (window K15 ![0, 512 * k] S128x512.size i15)) s0 where
  lo κ l hκ := by
    rcases in_blk k hk κ hκ with h1 | ⟨x, rfl⟩
    · exact ((put13 E k hk _ κ l).2 (.inl h1)).trans (h.lo κ l h1)
    · refine ((put13 E k hk _ _ l).1 x rfl).trans ((pay89_at _ _ _ _).trans ?_)
      rw [win13 E k hk i x l]
      exact congrArg (fun z => z * _) (h.hi _ l (Nat.le_add_right _ _))
  hi κ l hκ := ((put13 E k hk _ κ l).2 (.inr hκ)).trans (h.hi κ l (by omega))
  tlo j κ hκ := by
    rcases in_blk k hk κ hκ with h1 | ⟨x, rfl⟩
    · exact ((putT T k hk _ j κ).2 (.inl h1)).trans (h.tlo j κ h1)
    · refine ((putT T k hk _ j _).1 x rfl).trans ((pay91_at _ _ _ _ _ _).trans ?_)
      rw [winT T k hk i19 j x]
      refine congrArg₂ (· + ·) (h.thi j _ (Nat.le_add_right _ _)) (Finset.sum_congr rfl fun l _ => ?_)
      rw [pay90_at, win13 E k hk i x l]
      exact congrArg (fun z => _ * cl (z * _)) (h.hi _ l (Nat.le_add_right _ _))
  thi j κ hκ := ((putT T k hk _ j κ).2 (.inr hκ)).trans (h.thi j κ (by omega))
  acc j l := by
    refine (pay92_at _ _ _ _ _ _).trans ?_
    have ha := h.acc j l
    dsimp only at ha
    rw [ha, psum_succ k hk, add_assoc]
    congr 2
    refine Finset.sum_congr rfl fun x _ => ?_
    rw [pay90_at, win13 E k hk i x l, winT K15 k hk i15 j x]
    exact congrArg (fun z => _ * cl (z * _)) (h.hi _ l (Nat.le_add_right _ _))

/-- A score gradient of block `k` is the payload's entry. -/
theorem dsv_blk (hk : 512 * (k + 1) ≤ 4096) (i4 i17 i13) (x : Fin 512) (l : Fin 256) :
    k0_pay59 (F := Ideal) v29 v110 (window K4 ![0, 512 * k, 0] S1x512x128.size i4) (window K17 ![512 * k, 0] S512x128.size i17) (window K13 ![512 * k, 0] S512x256.size i13) (ix2 x l)
      = dsv K4 K17 K13 v29 v110 (blk 512 k 4096 hk x) l := by
  rw [pay59_at]
  unfold dsv
  rw [colv_window K17 k hk i17 x l, win13 K13 k hk i13 x l]
  congr 3
  exact Finset.sum_congr rfl fun j _ => by rw [win3 K4 k hk i4 x j]

theorem FD.step (hk : 512 * (k + 1) ≤ 4096) {s0} (h : FD K4 K17 K13 K14 v29 v110 v116 k (T, a2) s0) (i4 i17 i13 i18 i14) :
    FD K4 K17 K13 K14 v29 v110 v116 (k + 1) (put T ![0, 512 * k] S128x512.size (k0_pay60 (F := Ideal) v29 v110 v116 (window K4 ![0, 512 * k, 0] S1x512x128.size i4)
        (window K17 ![512 * k, 0] S512x128.size i17) (window K13 ![512 * k, 0] S512x256.size i13) (window T ![0, 512 * k] S128x512.size i18)),
      k0_pay61 (F := Ideal) v29 v110 a2 (window K4 ![0, 512 * k, 0] S1x512x128.size i4)
        (window K17 ![512 * k, 0] S512x128.size i17) (window K13 ![512 * k, 0] S512x256.size i13) (window K14 ![0, 512 * k] S128x512.size i14)) s0 where
  tlo j κ hκ := by
    rcases in_blk k hk κ hκ with h1 | ⟨x, rfl⟩
    · exact ((putT T k hk _ j κ).2 (.inl h1)).trans (h.tlo j κ h1)
    · refine ((putT T k hk _ j _).1 x rfl).trans ((pay60_at _ _ _ _ _ _ _ _ _).trans ?_)
      rw [winT T k hk i18 j x]
      refine congrArg₂ (· + ·) (h.thi j _ (Nat.le_add_right _ _)) (Finset.sum_congr rfl fun l _ => ?_)
      rw [dsv_blk hk i4 i17 i13 x l]
  thi j κ hκ := ((putT T k hk _ j κ).2 (.inr hκ)).trans (h.thi j κ (by omega))
  acc j l := by
    refine (pay61_at _ _ _ _ _ _ _ _ _).trans ?_
    have ha := h.acc j l
    dsimp only at ha
    rw [ha, psum_succ k hk, add_assoc]
    congr 2
    refine Finset.sum_congr rfl fun x _ => ?_
    rw [dsv_blk hk i4 i17 i13 x l, winT K14 k hk i14 j x]

end Cert.Proof
-- ==== Proof.S.Head.lean ====
/-
  One head of one row block: from what its four loops over the key blocks leave, what the head adds to the key and value gradients, and the
  query gradients it writes.
-/
module

public import proofs.«01_k».proof.Proof.S.Steps

@[expose] public section

set_option maxRecDepth 8192

noncomputable section

namespace Cert.Proof

open Cert.KernelIdeal Cert.KernelIdeal.Gen
open Idealize.ShloMosaic Idealize.ShloMosaic.VecWindow
open scoped BigOperators
open Cert.Proof.Math

theorem toInt_ofNat (m : ℕ) (h : m < 2 ^ 31) : (BitVec.ofNat 32 m).toInt = m := by
  rw [BitVec.toInt_eq_toNat_of_lt (by rw [BitVec.toNat_ofNat]; omega), BitVec.toNat_ofNat]; omega

theorem sge_ofNat (m n : ℕ) (hm : m < 2 ^ 31) (hn : n < 2 ^ 31) :
    Scalar.cmpi .sge (BitVec.ofNat 32 m) (BitVec.ofNat 32 n) = BitVec.ofBool (decide (n ≤ m)) := by
  show BitVec.ofBool (BitVec.sle (BitVec.ofNat 32 n) (BitVec.ofNat 32 m)) = _
  unfold BitVec.sle
  rw [toInt_ofNat m hm, toInt_ofNat n hn]
  congr 1
  exact decide_eq_decide.2 (by omega)

/-- The mask of the block on the diagonal: key `512 * n + x` is seen by row `256 * t + l` if it is not later. -/
theorem mask_at (t n : ℕ) (ht : t < 16) (hn : n < 8) (x : ℕ) (l : ℕ) (hx : x < 512) (hl : l < 256) :
    Scalar.cmpi .sge (Scalar.addi (BitVec.ofNat 32 (256 * t)) (BitVec.ofNat 32 l)) (Scalar.addi (Scalar.muli (BitVec.ofNat 32 n) 512#32) (BitVec.ofNat 32 x))
      = BitVec.ofBool (decide (512 * n + x ≤ 256 * t + l)) := by
  have e1 : Scalar.addi (BitVec.ofNat 32 (256 * t)) (BitVec.ofNat 32 l) = BitVec.ofNat 32 (256 * t + l) := (BitVec.ofNat_add _ _).symm
  have e2 : Scalar.addi (Scalar.muli (BitVec.ofNat 32 n) 512#32) (BitVec.ofNat 32 x) = BitVec.ofNat 32 (512 * n + x) := by
    show BitVec.ofNat 32 n * BitVec.ofNat 32 512 + BitVec.ofNat 32 x = _
    rw [← BitVec.ofNat_mul, ← BitVec.ofNat_add, Nat.mul_comm]
  rw [e1, e2, sge_ofNat _ _ (by omega) (by omega)]

theorem select_ofBool {α : Type} (p : Prop) [Decidable p] (x y : α) : Scalar.select (BitVec.ofBool (decide p)) x y = if p then x else y := by
  by_cases h : p
  · rw [decide_eq_true h, if_pos h]; rfl
  · rw [decide_eq_false h, if_neg h]; rfl

variable {K3 K4 : Vec Ideal S1x4096x128 .fp8e4m3} {K14 K15 : Vec Ideal S128x4096 .bf16} {K16 K17 : Vec Ideal S4096x128 .f32}
  {v26 : FVec Ideal S256x128 .fp8e4m3} {v29 : FVec Ideal S256x128 .fp8e5m2} {v32 v35 v37 : W1}
  {E0 E1 E2 E3 : V13} {T18 U18 T19 U19 : VT} {a1 v83 : W1} {v103 v125 : W128} {t : ℕ}

theorem pay30_at (v6 v23 : BitVec 32) (w3 : Vec Ideal S1x512x128 .fp8e4m3) (w16 : Vec Ideal S512x128 .f32) (a : Fin 512) (b : Fin 256) :
    k0_pay30 (F := Ideal) v6 v23 v26 v37 w3 w16 (ix2 a b)
      = Scalar.select (Scalar.cmpi .sge (Scalar.addi v6 (BitVec.ofNat 32 b.val)) (Scalar.addi (Scalar.muli v23 512#32) (BitVec.ofNat 32 a.val)))
          (k0_pay24 (F := Ideal) v26 v37 w3 w16 (ix2 a b)) ⊥ := by
  rw [pay24_at, ← NINF_eq]
  pointwise [k0_pay30]
  rfl

/-- The masked tile's entry: the score where the row may look, else `-∞`. -/
theorem tile_at (ht : t < 16) (hk : 512 * (t / 2 + 1) ≤ 4096) (i3 i16) (x : Fin 512) (l : Fin 256) :
    k0_pay30 (F := Ideal) (BitVec.ofNat 32 (256 * t)) (BitVec.ofNat 32 (t / 2)) v26 v37
        (window K3 ![0, 512 * (t / 2), 0] S1x512x128.size i3) (window K16 ![512 * (t / 2), 0] S512x128.size i16) (ix2 x l)
      = if (blk 512 (t / 2) 4096 hk x).val ≤ 256 * t + l.val then sc K3 K16 v26 v37 (blk 512 (t / 2) 4096 hk x) l else ⊥ := by
  rw [pay30_at, mask_at t (t / 2) ht (by omega) x.val l.val x.isLt l.isLt, select_ofBool, sc_blk hk i3 i16 x l]
  rfl

theorem pay31_at (v6 v23 : BitVec 32) (w3 : Vec Ideal S1x512x128 .fp8e4m3) (w16 : Vec Ideal S512x128 .f32) (a : Fin 512) (b : Fin 256) :
    k0_pay31 (F := Ideal) v6 v23 v26 v37 w3 w16 (ix2 a b) = k0_pay30 (F := Ideal) v6 v23 v26 v37 w3 w16 (ix2 a b) := by
  pointwise [k0_pay31]

theorem pay32_at (v6 v23 : BitVec 32) (w3 : Vec Ideal S1x512x128 .fp8e4m3) (w16 : Vec Ideal S512x128 .f32) (b : Fin 256) :
    k0_pay32 (F := Ideal) v6 v23 v26 v37 a1 w3 w16 (ix2 0 b)
      = max (a1 (ix2 0 b)) (Finset.fold max ⊥ (fun x : Fin 512 => k0_pay30 (F := Ideal) v6 v23 v26 v37 w3 w16 (ix2 x b)) Finset.univ) := by
  rw [← NINF_eq]
  pointwise [k0_pay32]

theorem pay40_at (v74 : W1) (b : Fin 256) :
    k0_pay40 (F := Ideal) v74 v83 (ix2 0 b) = Ideal.exp (v74 (ix2 0 b) - (v74 (ix2 0 b) + Ideal.log (v83 (ix2 0 b)))) * C256 := by
  pointwise [k0_pay40]
  rfl

theorem pay41_at (a : Fin 128) (b : Fin 256) : k0_pay41 (F := Ideal) v29 v35 (ix2 a b) = v29 (ix2 b a) * v35 (ix2 0 b) := by
  pointwise [k0_pay41]

theorem pay53_at (b : Fin 256) :
    k0_pay53 (F := Ideal) v29 v35 v103 (ix2 0 b) = Ideal.div (∑ x : Fin 128, (v29 (ix2 b x) * v35 (ix2 0 b)) * (v103 (ix2 x b) * I256)) (v35 (ix2 0 b)) := by
  pointwise [k0_pay53, k0_pay41]
  rfl

theorem pay54_at (a : Fin 128) (b : Fin 256) : k0_pay54 (F := Ideal) v26 v32 v35 (ix2 a b) = v26 (ix2 b a) * (v32 (ix2 0 b) * v35 (ix2 0 b)) := by
  pointwise [k0_pay54]

theorem pay62_at (a : Fin 256) (b : Fin 128) : k0_pay62 (F := Ideal) v35 v125 (ix3 0 a b) = v125 (ix2 b a) * (v35 (ix2 0 a) * SM8) := by
  pointwise [k0_pay62]
  rfl

theorem pay23_at (b : Fin 256) : k0_pay23 (F := Ideal) (ix2 0 b) = ⊥ := by
  rw [← NINF_eq]; rfl
theorem pay33_at (b : Fin 256) : k0_pay33 (F := Ideal) (ix2 0 b) = 0 := by
  pointwise [k0_pay33]
theorem pay42_at (a : Fin 128) (b : Fin 256) : k0_pay42 (F := Ideal) (ix2 a b) = 0 := by
  pointwise [k0_pay42]
theorem pay55_at (a : Fin 128) (b : Fin 256) : k0_pay55 (F := Ideal) (ix2 a b) = 0 := by
  pointwise [k0_pay55]

/-- What the first loop leaves: the keys' and values' dequantised copies and their scales, one key to a row. -/
structure Prep (K3 K4 : Vec Ideal S1x4096x128 .fp8e4m3) (K7 K8 : Vec Ideal S1x1x1x4096 .f32) (K14 K15 : Vec Ideal S128x4096 .bf16) (K16 K17 : Vec Ideal S4096x128 .f32) : Prop where
  kt : ∀ (j : Fin 128) (κ : Fin 4096), K14 (ix2 j κ) = K3 (ix3 0 κ j) * K7 (ix4 0 0 0 κ)
  vt : ∀ (j : Fin 128) (κ : Fin 4096), K15 (ix2 j κ) = K4 (ix3 0 κ j) * K8 (ix4 0 0 0 κ)
  ks : ∀ (κ : Fin 4096) (x : Fin 128), K16 (ix2 κ x) = K7 (ix4 0 0 0 κ)
  vs : ∀ (κ : Fin 4096) (x : Fin 128), K17 (ix2 κ x) = K8 (ix4 0 0 0 κ)

theorem colv_eq (K : Vec Ideal S4096x128 .f32) (f : Fin 4096 → EReal) (h : ∀ κ x, K (ix2 κ x) = f κ) (κ : Fin 4096) (l : Fin 256) : colv K κ l = f κ := by
  unfold colv
  by_cases h1 : l.val < 128
  · rw [dif_pos h1, h]
  · rw [dif_neg h1, h]

variable {K7 K8 : Vec Ideal S1x1x1x4096 .f32}

/-- The keys a row sees. -/
abbrev see (t : ℕ) (l : Fin 256) : Fin 4096 → Prop := fun κ => κ.val ≤ 256 * t + l.val

section Head
variable (P : Prep K3 K4 K7 K8 K14 K15 K16 K17) (ht : t < 16) (h37 : ∀ l, v37 (ix2 0 l) = v32 (ix2 0 l) * SM)
  (i3 : ∀ i, (![0, 512 * (t / 2), 0] : Fin 3 → ℕ) i + S1x512x128.size i ≤ S1x4096x128.size i)
  (i16 : ∀ i, (![512 * (t / 2), 0] : Fin 2 → ℕ) i + S512x128.size i ≤ S4096x128.size i)

include P h37 in
theorem sc_eq (κ : Fin 4096) (l : Fin 256) (h : see t l κ) : sc K3 K16 v26 v37 κ l = kS (fun j : Fin 128 => v26 (ix2 l j)) (v32 (ix2 0 l)) (fun (κ : Fin 4096) (j : Fin 128) => K3 (ix3 0 κ j)) (fun κ : Fin 4096 => K7 (ix4 0 0 0 κ)) (see t l) κ := by
  unfold sc kS
  rw [if_pos h, colv_eq K16 _ P.ks, h37]

include P ht h37 in
/-- The score array after the masked tile. -/
theorem head_S (hA : FA K3 K16 v26 v37 (t / 2) (E1, a1) (E0, k0_pay23 (F := Ideal))) (κ : Fin 4096) (l : Fin 256) (hκ : κ.val < 512 * (t / 2 + 1)) :
    (put E1 ![512 * (t / 2), 0] S512x256.size (k0_pay31 (F := Ideal) (BitVec.ofNat 32 (256 * t)) (BitVec.ofNat 32 (t / 2)) v26 v37 (window K3 ![0, 512 * (t / 2), 0] S1x512x128.size i3) (window K16 ![512 * (t / 2), 0] S512x128.size i16))) (ix2 κ l) = kS (fun j : Fin 128 => v26 (ix2 l j)) (v32 (ix2 0 l)) (fun (κ : Fin 4096) (j : Fin 128) => K3 (ix3 0 κ j)) (fun κ : Fin 4096 => K7 (ix4 0 0 0 κ)) (see t l) κ := by
  have hk : 512 * (t / 2 + 1) ≤ 4096 := by omega
  rcases in_blk (t / 2) hk κ hκ with h1 | ⟨x, rfl⟩
  · refine ((put13 E1 (t / 2) hk _ κ l).2 (.inl h1)).trans ((hA.lo κ l h1).trans ?_)
    exact sc_eq P h37 κ l (by show κ.val ≤ 256 * t + l.val; omega)
  · refine ((put13 E1 (t / 2) hk _ _ l).1 x rfl).trans ((pay31_at _ _ _ _ _ _).trans ((tile_at ht hk i3 i16 x l).trans ?_))
    by_cases h : see t l (blk 512 (t / 2) 4096 hk x)
    · rw [if_pos h]; exact sc_eq P h37 _ l h
    · rw [if_neg h]; exact (if_neg h).symm

include P ht h37 in
/-- The largest score. -/
theorem head_M (hA : FA K3 K16 v26 v37 (t / 2) (E1, a1) (E0, k0_pay23 (F := Ideal))) (l : Fin 256) :
    (k0_pay32 (F := Ideal) (BitVec.ofNat 32 (256 * t)) (BitVec.ofNat 32 (t / 2)) v26 v37 a1 (window K3 ![0, 512 * (t / 2), 0] S1x512x128.size i3) (window K16 ![512 * (t / 2), 0] S512x128.size i16)) (ix2 0 l) = kM (fun j : Fin 128 => v26 (ix2 l j)) (v32 (ix2 0 l)) (fun (κ : Fin 4096) (j : Fin 128) => K3 (ix3 0 κ j)) (fun κ : Fin 4096 => K7 (ix4 0 0 0 κ)) (see t l) := by
  have hk : 512 * (t / 2 + 1) ≤ 4096 := by omega
  rw [pay32_at]
  have ha := hA.acc l
  dsimp only at ha
  rw [ha, pay23_at, bot_sup_eq]
  unfold kM
  rw [← psup_all (t / 2 + 1) _ fun κ hκ => kS_masked _ _ _ _ _ κ (by show ¬(κ.val ≤ 256 * t + l.val); omega), psup_succ (t / 2) hk]
  congr 1
  · exact psup_congr _ _ _ fun κ hκ => sc_eq P h37 κ l (by show κ.val ≤ 256 * t + l.val; omega)
  · refine congrArg (fun f => Finset.fold max ⊥ f Finset.univ) (funext fun x => (tile_at ht hk i3 i16 x l).trans ?_)
    by_cases h : see t l (blk 512 (t / 2) 4096 hk x)
    · rw [if_pos h]; exact sc_eq P h37 _ l h
    · rw [if_neg h]; exact (if_neg h).symm

variable (hA : FA K3 K16 v26 v37 (t / 2) (E1, a1) (E0, k0_pay23 (F := Ideal)))
  (hB : FB (k0_pay32 (F := Ideal) (BitVec.ofNat 32 (256 * t)) (BitVec.ofNat 32 (t / 2)) v26 v37 a1 (window K3 ![0, 512 * (t / 2), 0] S1x512x128.size i3) (window K16 ![512 * (t / 2), 0] S512x128.size i16)) (t / 2 + 1) (E2, v83) ((put E1 ![512 * (t / 2), 0] S512x256.size (k0_pay31 (F := Ideal) (BitVec.ofNat 32 (256 * t)) (BitVec.ofNat 32 (t / 2)) v26 v37 (window K3 ![0, 512 * (t / 2), 0] S1x512x128.size i3) (window K16 ![512 * (t / 2), 0] S512x128.size i16))), k0_pay33 (F := Ideal)))

include P ht h37 hA hB in
theorem head_E (κ : Fin 4096) (l : Fin 256) (hκ : κ.val < 512 * (t / 2 + 1)) : E2 (ix2 κ l) = kE (fun j : Fin 128 => v26 (ix2 l j)) (v32 (ix2 0 l)) (fun (κ : Fin 4096) (j : Fin 128) => K3 (ix3 0 κ j)) (fun κ : Fin 4096 => K7 (ix4 0 0 0 κ)) (see t l) κ := by
  refine (hB.lo κ l hκ).trans ?_
  dsimp only
  rw [head_S P ht h37 i3 i16 hA κ l hκ, head_M P ht h37 i3 i16 hA l]
  rfl

include P ht h37 hA hB in
theorem head_L (l : Fin 256) : v83 (ix2 0 l) = kL (fun j : Fin 128 => v26 (ix2 l j)) (v32 (ix2 0 l)) (fun (κ : Fin 4096) (j : Fin 128) => K3 (ix3 0 κ j)) (fun κ : Fin 4096 => K7 (ix4 0 0 0 κ)) (see t l) := by
  refine (hB.acc l).trans ?_
  dsimp only
  rw [pay33_at, zero_add]
  unfold kL
  rw [← psum_all (t / 2 + 1) _ fun κ hκ => kE_masked _ _ _ _ _ κ (by show ¬(κ.val ≤ 256 * t + l.val); omega)]
  refine psum_congr _ _ _ fun κ hκ => ?_
  rw [head_S P ht h37 i3 i16 hA κ l hκ, head_M P ht h37 i3 i16 hA l]
  rfl

include P ht h37 hA hB in
theorem head_P (κ : Fin 4096) (l : Fin 256) (hκ : κ.val < 512 * (t / 2 + 1)) :
    E2 (ix2 κ l) * k0_pay40 (F := Ideal) (k0_pay32 (F := Ideal) (BitVec.ofNat 32 (256 * t)) (BitVec.ofNat 32 (t / 2)) v26 v37 a1 (window K3 ![0, 512 * (t / 2), 0] S1x512x128.size i3) (window K16 ![512 * (t / 2), 0] S512x128.size i16)) v83 (ix2 0 l) = kP (fun j : Fin 128 => v26 (ix2 l j)) (v32 (ix2 0 l)) (fun (κ : Fin 4096) (j : Fin 128) => K3 (ix3 0 κ j)) (fun κ : Fin 4096 => K7 (ix4 0 0 0 κ)) (see t l) κ := by
  rw [pay40_at, head_E P ht h37 i3 i16 hA hB κ l hκ, head_L P ht h37 i3 i16 hA hB l, head_M P ht h37 i3 i16 hA l]
  rfl

variable (hC : FC K15 (k0_pay41 (F := Ideal) v29 v35) (k0_pay40 (F := Ideal) (k0_pay32 (F := Ideal) (BitVec.ofNat 32 (256 * t)) (BitVec.ofNat 32 (t / 2)) v26 v37 a1 (window K3 ![0, 512 * (t / 2), 0] S1x512x128.size i3) (window K16 ![512 * (t / 2), 0] S512x128.size i16)) v83) (t / 2 + 1) (E3, T19, v103) (E2, U19, k0_pay42 (F := Ideal)))
  (hD : FD K4 K17 E3 K14 v29 (k0_pay53 (F := Ideal) v29 v35 v103) (k0_pay54 (F := Ideal) v26 v32 v35) (t / 2 + 1) (T18, v125) (U18, k0_pay55 (F := Ideal)))

theorem LO_eq : LO = ((-448 : ℝ) : EReal) := by
  unfold LO; simp [Ideal.ofBits, Ideal.ieee]; norm_num; rw [← EReal.coe_mul]; norm_num
theorem HI_eq : HI = ((448 : ℝ) : EReal) := by
  unfold HI; simp [Ideal.ofBits, Ideal.ieee]; norm_num; rw [← EReal.coe_mul]; norm_num
theorem cl_zero : cl 0 = 0 := by
  have hl : LO ≤ 0 := by rw [LO_eq]; exact_mod_cast (by norm_num : (-448 : ℝ) ≤ 0)
  have hh : (0 : EReal) ≤ HI := by rw [HI_eq]; exact_mod_cast (by norm_num : (0 : ℝ) ≤ 448)
  unfold cl
  rw [max_eq_right hl, min_eq_right hh]

theorem kC_masked (κ : Fin 4096) (l : Fin 256) (h : ¬see t l κ) : kC (fun j : Fin 128 => v26 (ix2 l j)) (v32 (ix2 0 l)) (fun (κ : Fin 4096) (j : Fin 128) => K3 (ix3 0 κ j)) (fun κ : Fin 4096 => K7 (ix4 0 0 0 κ)) (see t l) κ = 0 := by
  unfold kC; rw [kP_masked _ _ _ _ _ κ h]; exact cl_zero
theorem kDs_masked (κ : Fin 4096) (l : Fin 256) (h : ¬see t l κ) : kDs (fun j : Fin 128 => v26 (ix2 l j)) (fun j : Fin 128 => v29 (ix2 l j)) (v32 (ix2 0 l)) (v35 (ix2 0 l)) (fun (κ : Fin 4096) (j : Fin 128) => K3 (ix3 0 κ j)) (fun (κ : Fin 4096) (j : Fin 128) => K4 (ix3 0 κ j)) (fun κ : Fin 4096 => K7 (ix4 0 0 0 κ)) (fun κ : Fin 4096 => K8 (ix4 0 0 0 κ)) (see t l) κ = 0 := by
  unfold kDs; rw [kP_masked _ _ _ _ _ κ h, zero_mul]

include P ht h37 hA hB hC in
/-- The value gradients: what the head adds. -/
theorem head_dv (j : Fin 128) (κ : Fin 4096) :
    T19 (ix2 j κ) = U19 (ix2 j κ) + ∑ l : Fin 256, kDv (fun j : Fin 128 => v26 (ix2 l j)) (fun j : Fin 128 => v29 (ix2 l j)) (v32 (ix2 0 l)) (v35 (ix2 0 l)) (fun (κ : Fin 4096) (j : Fin 128) => K3 (ix3 0 κ j)) (fun κ : Fin 4096 => K7 (ix4 0 0 0 κ)) (see t l) κ j := by
  by_cases hκ : κ.val < 512 * (t / 2 + 1)
  · refine (hC.tlo j κ hκ).trans ?_
    dsimp only
    congr 1
    refine Finset.sum_congr rfl fun l _ => ?_
    rw [head_P P ht h37 i3 i16 hA hB κ l hκ, pay41_at]
    rfl
  · refine (hC.thi j κ (by omega)).trans ?_
    dsimp only
    rw [Finset.sum_eq_zero, add_zero]
    intro l _
    unfold kDv
    rw [kC_masked κ l (by show ¬(κ.val ≤ 256 * t + l.val); have := l.isLt; omega), mul_zero]

include P ht h37 hA hB hC in
theorem head_O (j : Fin 128) (l : Fin 256) : v103 (ix2 j l) = kO (fun j : Fin 128 => v26 (ix2 l j)) (v32 (ix2 0 l)) (fun (κ : Fin 4096) (j : Fin 128) => K3 (ix3 0 κ j)) (fun (κ : Fin 4096) (j : Fin 128) => K4 (ix3 0 κ j)) (fun κ : Fin 4096 => K7 (ix4 0 0 0 κ)) (fun κ : Fin 4096 => K8 (ix4 0 0 0 κ)) (see t l) j := by
  refine (hC.acc j l).trans ?_
  dsimp only
  rw [pay42_at, zero_add]
  unfold kO
  rw [← psum_all (t / 2 + 1) _ fun κ hκ => by
    rw [kC_masked κ l (by show ¬(κ.val ≤ 256 * t + l.val); have := l.isLt; omega), mul_zero]]
  refine psum_congr _ _ _ fun κ hκ => ?_
  rw [head_P P ht h37 i3 i16 hA hB κ l hκ, P.vt]
  rfl

include P ht h37 hA hB hC in
theorem head_Ds (κ : Fin 4096) (l : Fin 256) (hκ : κ.val < 512 * (t / 2 + 1)) :
    dsv K4 K17 E3 v29 (k0_pay53 (F := Ideal) v29 v35 v103) κ l = kDs (fun j : Fin 128 => v26 (ix2 l j)) (fun j : Fin 128 => v29 (ix2 l j)) (v32 (ix2 0 l)) (v35 (ix2 0 l)) (fun (κ : Fin 4096) (j : Fin 128) => K3 (ix3 0 κ j)) (fun (κ : Fin 4096) (j : Fin 128) => K4 (ix3 0 κ j)) (fun κ : Fin 4096 => K7 (ix4 0 0 0 κ)) (fun κ : Fin 4096 => K8 (ix4 0 0 0 κ)) (see t l) κ := by
  have e3 := hC.lo κ l hκ
  dsimp only at e3
  unfold dsv kDs kDel
  rw [e3, head_P P ht h37 i3 i16 hA hB κ l hκ, colv_eq K17 _ P.vs, pay53_at]
  simp only [head_O P ht h37 i3 i16 hA hB hC _ l]

include P ht h37 hA hB hC hD in
/-- The key gradients: what the head adds. -/
theorem head_dk (j : Fin 128) (κ : Fin 4096) :
    T18 (ix2 j κ) = U18 (ix2 j κ) + ∑ l : Fin 256, kDk (fun j : Fin 128 => v26 (ix2 l j)) (fun j : Fin 128 => v29 (ix2 l j)) (v32 (ix2 0 l)) (v35 (ix2 0 l)) (fun (κ : Fin 4096) (j : Fin 128) => K3 (ix3 0 κ j)) (fun (κ : Fin 4096) (j : Fin 128) => K4 (ix3 0 κ j)) (fun κ : Fin 4096 => K7 (ix4 0 0 0 κ)) (fun κ : Fin 4096 => K8 (ix4 0 0 0 κ)) (see t l) κ j := by
  by_cases hκ : κ.val < 512 * (t / 2 + 1)
  · refine (hD.tlo j κ hκ).trans ?_
    dsimp only
    congr 1
    refine Finset.sum_congr rfl fun l _ => ?_
    rw [head_Ds P ht h37 i3 i16 hA hB hC κ l hκ, pay54_at]
    rfl
  · refine (hD.thi j κ (by omega)).trans ?_
    dsimp only
    rw [Finset.sum_eq_zero, add_zero]
    intro l _
    unfold kDk
    rw [kDs_masked κ l (by show ¬(κ.val ≤ 256 * t + l.val); have := l.isLt; omega), mul_zero]

include P ht h37 hA hB hC hD in
/-- The query gradients. -/
theorem head_dq (l : Fin 256) (j : Fin 128) :
    k0_pay62 (F := Ideal) v35 v125 (ix3 0 l j) = kDq (fun j : Fin 128 => v26 (ix2 l j)) (fun j : Fin 128 => v29 (ix2 l j)) (v32 (ix2 0 l)) (v35 (ix2 0 l)) (fun (κ : Fin 4096) (j : Fin 128) => K3 (ix3 0 κ j)) (fun (κ : Fin 4096) (j : Fin 128) => K4 (ix3 0 κ j)) (fun κ : Fin 4096 => K7 (ix4 0 0 0 κ)) (fun κ : Fin 4096 => K8 (ix4 0 0 0 κ)) (see t l) j := by
  rw [pay62_at]
  have e := hD.acc j l
  dsimp only at e
  rw [e, pay55_at, zero_add]
  unfold kDq
  rw [← psum_all (t / 2 + 1) _ fun κ hκ => by
    rw [kDs_masked κ l (by show ¬(κ.val ≤ 256 * t + l.val); have := l.isLt; omega), mul_zero]]
  congr 1
  refine psum_congr _ _ _ fun κ hκ => ?_
  rw [head_Ds P ht h37 i3 i16 hA hB hC κ l hκ, P.kt]

end Head
end Cert.Proof
-- ==== Proof.S.Rows.lean ====
/-
  What the kernel computes, row by row: the operands of one launch, the rows' shares of the gradients, and what the arrays hold after `k`
  blocks of 256 rows.
-/
module

public import proofs.«01_k».proof.Proof.S.Head

@[expose] public section

set_option maxRecDepth 8192

noncomputable section

namespace Cert.Proof

open Cert.KernelIdeal Cert.KernelIdeal.Gen
open Idealize.ShloMosaic Idealize.ShloMosaic.VecWindow
open scoped BigOperators
open Cert.Proof.Math

/-- The operands of one launch: codes of the queries, keys, values and output gradients, and their scales. -/
structure Ops where
  q : Vec Ideal S1x4096x512 .fp8e4m3
  k : Vec Ideal S1x4096x128 .fp8e4m3
  v : Vec Ideal S1x4096x128 .fp8e4m3
  d : Vec Ideal S1x4096x512 .fp8e5m2
  qs : Vec Ideal S1x1x4x4096 .f32
  ks : Vec Ideal S1x1x1x4096 .f32
  vs : Vec Ideal S1x1x1x4096 .f32
  ds : Vec Ideal S1x1x4x4096 .f32

/-- The place of lane `j` of head `g` in a row of 512. -/
def col (g : Fin 4) (j : Fin 128) : Fin 512 := ⟨128 * g.val + j.val, by have := g.isLt; have := j.isLt; omega⟩

namespace Ops
variable (I : Ops)

/-- What row `r` of head `g` adds to key `κ`'s gradient. -/
def dk (g : Fin 4) (r κ : Fin 4096) (j : Fin 128) : EReal :=
  kDk (fun j : Fin 128 => I.q (ix3 0 r (col g j))) (fun j : Fin 128 => I.d (ix3 0 r (col g j))) (I.qs (ix4 0 0 g r)) (I.ds (ix4 0 0 g r))
    (fun (κ : Fin 4096) (j : Fin 128) => I.k (ix3 0 κ j)) (fun (κ : Fin 4096) (j : Fin 128) => I.v (ix3 0 κ j))
    (fun κ : Fin 4096 => I.ks (ix4 0 0 0 κ)) (fun κ : Fin 4096 => I.vs (ix4 0 0 0 κ)) (fun κ : Fin 4096 => κ.val ≤ r.val) κ j
/-- What row `r` of head `g` adds to value `κ`'s gradient. -/
def dv (g : Fin 4) (r κ : Fin 4096) (j : Fin 128) : EReal :=
  kDv (fun j : Fin 128 => I.q (ix3 0 r (col g j))) (fun j : Fin 128 => I.d (ix3 0 r (col g j))) (I.qs (ix4 0 0 g r)) (I.ds (ix4 0 0 g r))
    (fun (κ : Fin 4096) (j : Fin 128) => I.k (ix3 0 κ j))
    (fun κ : Fin 4096 => I.ks (ix4 0 0 0 κ)) (fun κ : Fin 4096 => κ.val ≤ r.val) κ j
/-- The query gradient of row `r` of head `g`. -/
def dq (g : Fin 4) (r : Fin 4096) (j : Fin 128) : EReal :=
  kDq (fun j : Fin 128 => I.q (ix3 0 r (col g j))) (fun j : Fin 128 => I.d (ix3 0 r (col g j))) (I.qs (ix4 0 0 g r)) (I.ds (ix4 0 0 g r))
    (fun (κ : Fin 4096) (j : Fin 128) => I.k (ix3 0 κ j)) (fun (κ : Fin 4096) (j : Fin 128) => I.v (ix3 0 κ j))
    (fun κ : Fin 4096 => I.ks (ix4 0 0 0 κ)) (fun κ : Fin 4096 => I.vs (ix4 0 0 0 κ)) (fun κ : Fin 4096 => κ.val ≤ r.val) j
end Ops

/-- Row `l` of block `t` of 256 rows. -/
def row (t : ℕ) (ht : t < 16) (l : Fin 256) : Fin 4096 := ⟨256 * t + l.val, by have := l.isLt; omega⟩

/-- The sum over the first `256 * k` rows. -/
def rsum (k : ℕ) (f : Fin 4096 → EReal) : EReal := ∑ r : Fin 4096, if r.val < 256 * k then f r else 0
theorem rsum_zero (f : Fin 4096 → EReal) : rsum 0 f = 0 := Finset.sum_eq_zero fun r _ => if_neg (by omega)
theorem rsum_all (f : Fin 4096 → EReal) : rsum 16 f = ∑ r, f r := Finset.sum_congr rfl fun r _ => if_pos (by have := r.isLt; omega)
theorem rsum_succ (k : ℕ) (h : k < 16) (f : Fin 4096 → EReal) : rsum (k + 1) f = rsum k f + ∑ l : Fin 256, f (row k h l) := by
  have e : ∀ r : Fin 4096, (if r.val < 256 * (k + 1) then f r else 0)
      = (if r.val < 256 * k then f r else 0) + (if 256 * k ≤ r.val ∧ r.val < 256 * (k + 1) then f r else 0) := fun r => by
    by_cases h1 : r.val < 256 * k
    · rw [if_pos h1, if_pos (by omega), if_neg (by omega), add_zero]
    · by_cases h2 : r.val < 256 * (k + 1)
      · rw [if_neg h1, if_pos h2, if_pos ⟨by omega, h2⟩, zero_add]
      · rw [if_neg h1, if_neg h2, if_neg (by omega), zero_add]
  unfold rsum
  rw [Finset.sum_congr rfl fun r _ => e r, Finset.sum_add_distrib]
  congr 1
  symm
  refine Fintype.sum_of_injective (row k h) (fun x y e => Fin.ext (by have := congrArg Fin.val e; simp only [row] at this; omega)) _ _
    (fun r hr => if_neg fun hh => hr ⟨⟨r.val - 256 * k, by omega⟩, Fin.ext ?_⟩) fun x => ?_
  · simp only [row]; omega
  · have hx := x.isLt
    exact (if_pos (by simp only [row]; omega)).symm

abbrev V10 := Vec Ideal S1x4096x512 .bf16

/-- After `k` blocks of rows. -/
structure FO' (I : Ops) (k : ℕ) (s z : V10 × VT × VT) : Prop where
  dq : ∀ (r : Fin 4096) (g : Fin 4) (j : Fin 128), s.1 (ix3 0 r (col g j)) = if r.val < 256 * k then I.dq g r j else z.1 (ix3 0 r (col g j))
  dk : ∀ (j : Fin 128) (κ : Fin 4096), s.2.1 (ix2 j κ) = z.2.1 (ix2 j κ) + rsum k fun r => ∑ g, I.dk g r κ j
  dv : ∀ (j : Fin 128) (κ : Fin 4096), s.2.2 (ix2 j κ) = z.2.2 (ix2 j κ) + rsum k fun r => ∑ g, I.dv g r κ j

/-- After `k` blocks of rows, where the dequantised copies are in place. -/
def FO (I : Ops) (K14 K15 : Vec Ideal S128x4096 .bf16) (K16 K17 : Vec Ideal S4096x128 .f32) (k : ℕ) (s z : V10 × VT × VT) : Prop :=
  Prep I.k I.v I.ks I.vs K14 K15 K16 K17 → FO' I k s z

@[refl] theorem FO.init (I : Ops) (K14 K15 : Vec Ideal S128x4096 .bf16) (K16 K17 : Vec Ideal S4096x128 .f32) (s : V10 × VT × VT) : FO I K14 K15 K16 K17 0 s s :=
  fun _ => ⟨fun r g j => (if_neg (by omega)).symm, fun j κ => by rw [rsum_zero, add_zero], fun j κ => by rw [rsum_zero, add_zero]⟩

/-! ## The loads of a row block -/

theorem pay18_at (w : Vec Ideal S1x256x128 .fp8e4m3) (l : Fin 256) (j : Fin 128) : k0_pay18 (F := Ideal) w (ix2 l j) = w (ix3 0 l j) := by
  pointwise [k0_pay18]
theorem pay19_at (w : Vec Ideal S1x256x128 .fp8e5m2) (l : Fin 256) (j : Fin 128) : k0_pay19 (F := Ideal) w (ix2 l j) = w (ix3 0 l j) := by
  pointwise [k0_pay19]
theorem pay20_at (w : Vec Ideal S1x1x1x256 .f32) (l : Fin 256) : k0_pay20 (F := Ideal) w (ix2 0 l) = w (ix4 0 0 0 l) := by
  pointwise [k0_pay20]
theorem pay21_at (w : Vec Ideal S1x1x1x256 .f32) (l : Fin 256) : k0_pay21 (F := Ideal) w (ix2 0 l) = w (ix4 0 0 0 l) := by
  pointwise [k0_pay21]
theorem pay22_at (w : Vec Ideal S1x1x1x256 .f32) (l : Fin 256) : k0_pay22 (F := Ideal) w (ix2 0 l) = k0_pay20 (F := Ideal) w (ix2 0 l) * SM := by
  pointwise [k0_pay22]
  rfl

theorem winQ {e : EltTy} (K : Vec Ideal S1x4096x512 e) (t : ℕ) (ht : t < 16) (g : Fin 4) (c : ℕ) (hc : c = 128 * g.val)
    (inb : ∀ i, (![0, 256 * t, c] : Fin 3 → ℕ) i + S1x256x128.size i ≤ S1x4096x512.size i) (l : Fin 256) (j : Fin 128) :
    window K ![0, 256 * t, c] S1x256x128.size inb (ix3 0 l j) = K (ix3 0 (row t ht l) (col g j)) := by
  subst hc
  exact window3 K 0 (256 * t) (128 * g.val) inb 0 l j (by decide) (row t ht l).isLt (col g j).isLt

theorem winS (K : Vec Ideal S1x1x4x4096 .f32) (t : ℕ) (ht : t < 16) (g : Fin 4) (c : ℕ) (hc : c = g.val)
    (inb : ∀ i, (![0, 0, c, 256 * t] : Fin 4 → ℕ) i + S1x1x1x256.size i ≤ S1x1x4x4096.size i) (l : Fin 256) :
    window K ![0, 0, c, 256 * t] S1x1x1x256.size inb (ix4 0 0 0 l) = K (ix4 0 0 g (row t ht l)) := by
  subst hc
  exact window4 K 0 0 g.val (256 * t) inb 0 0 0 l (by decide) (by decide) (by have := g.isLt; simp) (row t ht l).isLt

variable {I : Ops} {K14 K15 : Vec Ideal S128x4096 .bf16} {K16 K17 : Vec Ideal S4096x128 .f32}
  {E0 E1 E1' E2 E3 : V13} {T18 U18 T19 U19 : VT} {a1 v83 : W1} {v103 v125 : W128} {t : ℕ}

/-- One head of one row block: what it adds to the key and value gradients, and the query gradients it writes. -/
theorem head_rows (g : Fin 4) (ht : t < 16) (c c' : ℕ) (hc : c = 128 * g.val) (hc' : c' = g.val)
    (P : Prep I.k I.v I.ks I.vs K14 K15 K16 K17)
    {w2 : Vec Ideal S1x256x128 .fp8e4m3} {w5 : Vec Ideal S1x256x128 .fp8e5m2} {w6 w9 : Vec Ideal S1x1x1x256 .f32}
    {w3 : Vec Ideal S1x512x128 .fp8e4m3} {w16 : Vec Ideal S512x128 .f32} {iq iq' is is' i3 i16}
    (e2 : w2 = window I.q ![0, 256 * t, c] S1x256x128.size iq)
    (e5 : w5 = window I.d ![0, 256 * t, c] S1x256x128.size iq')
    (e6 : w6 = window I.qs ![0, 0, c', 256 * t] S1x1x1x256.size is)
    (e9 : w9 = window I.ds ![0, 0, c', 256 * t] S1x1x1x256.size is')
    (e3 : w3 = window I.k ![0, 512 * (t / 2), 0] S1x512x128.size i3)
    (e16 : w16 = window K16 ![512 * (t / 2), 0] S512x128.size i16)
    {b6 b23 : BitVec 32} (hb6 : b6 = BitVec.ofNat 32 (256 * t)) (hb23 : b23 = BitVec.ofNat 32 (t / 2))
    {n3 n5 n7 n9 : ℕ} (h3 : n3 = t / 2) (h5 : n5 = t / 2 + 1) (h7 : n7 = t / 2 + 1) (h9 : n9 = t / 2 + 1)
    (hE : E1' = put E1 ![512 * (t / 2), 0] S512x256.size (k0_pay31 (F := Ideal) b6 b23 (k0_pay18 (F := Ideal) w2) (k0_pay22 (F := Ideal) w6) w3 w16))
    (hA : FA I.k K16 (k0_pay18 (F := Ideal) w2) (k0_pay22 (F := Ideal) w6) n3 (E1, a1) (E0, k0_pay23 (F := Ideal)))
    (hB : FB (k0_pay32 (F := Ideal) b6 b23 (k0_pay18 (F := Ideal) w2) (k0_pay22 (F := Ideal) w6) a1 w3 w16) n5 (E2, v83) (E1', k0_pay33 (F := Ideal)))
    (hC : FC K15 (k0_pay41 (F := Ideal) (k0_pay19 (F := Ideal) w5) (k0_pay21 (F := Ideal) w9))
      (k0_pay40 (F := Ideal) (k0_pay32 (F := Ideal) b6 b23 (k0_pay18 (F := Ideal) w2) (k0_pay22 (F := Ideal) w6) a1 w3 w16) v83) n7 (E3, T19, v103) (E2, U19, k0_pay42 (F := Ideal)))
    (hD : FD I.v K17 E3 K14 (k0_pay19 (F := Ideal) w5) (k0_pay53 (F := Ideal) (k0_pay19 (F := Ideal) w5) (k0_pay21 (F := Ideal) w9) v103)
      (k0_pay54 (F := Ideal) (k0_pay18 (F := Ideal) w2) (k0_pay20 (F := Ideal) w6) (k0_pay21 (F := Ideal) w9)) n9 (T18, v125) (U18, k0_pay55 (F := Ideal))) :
    (∀ (j : Fin 128) (κ : Fin 4096), T18 (ix2 j κ) = U18 (ix2 j κ) + ∑ l : Fin 256, I.dk g (row t ht l) κ j)
    ∧ (∀ (j : Fin 128) (κ : Fin 4096), T19 (ix2 j κ) = U19 (ix2 j κ) + ∑ l : Fin 256, I.dv g (row t ht l) κ j)
    ∧ (∀ (l : Fin 256) (j : Fin 128), k0_pay62 (F := Ideal) (k0_pay21 (F := Ideal) w9) v125 (ix3 0 l j) = I.dq g (row t ht l) j) := by
  subst h3 h5 h7 h9 hb6 hb23 hE e3 e16
  have h37 : ∀ l, k0_pay22 (F := Ideal) w6 (ix2 0 l) = k0_pay20 (F := Ideal) w6 (ix2 0 l) * SM := fun l => pay22_at w6 l
  have q2 : ∀ (l : Fin 256) (j : Fin 128), k0_pay18 (F := Ideal) w2 (ix2 l j) = I.q (ix3 0 (row t ht l) (col g j)) := fun l j => by
    rw [pay18_at, e2, winQ I.q t ht g c hc]
  have q5 : ∀ (l : Fin 256) (j : Fin 128), k0_pay19 (F := Ideal) w5 (ix2 l j) = I.d (ix3 0 (row t ht l) (col g j)) := fun l j => by
    rw [pay19_at, e5, winQ I.d t ht g c hc]
  have q6 : ∀ l : Fin 256, k0_pay20 (F := Ideal) w6 (ix2 0 l) = I.qs (ix4 0 0 g (row t ht l)) := fun l => by
    rw [pay20_at, e6, winS I.qs t ht g c' hc']
  have q9 : ∀ l : Fin 256, k0_pay21 (F := Ideal) w9 (ix2 0 l) = I.ds (ix4 0 0 g (row t ht l)) := fun l => by
    rw [pay21_at, e9, winS I.ds t ht g c' hc']
  refine ⟨fun j κ => ?_, fun j κ => ?_, fun l j => ?_⟩
  · rw [head_dk P ht h37 i3 i16 hA hB hC hD j κ]
    simp only [q2, q5, q6, q9]
    rfl
  · rw [head_dv P ht h37 i3 i16 hA hB hC j κ]
    simp only [q2, q5, q6, q9]
    rfl
  · rw [head_dq P ht h37 i3 i16 hA hB hC hD l j]
    simp only [q2, q5, q6, q9]
    rfl

/-! ## One more block of rows -/

theorem put10 (K : V10) (t : ℕ) (ht : t < 16) (g' : Fin 4) (c : ℕ) (hc : c = 128 * g'.val) (w : Vec Ideal S1x256x128 .bf16) (r : Fin 4096) (g : Fin 4) (j : Fin 128) :
    (∀ l, r = row t ht l → g = g' → put K ![0, 256 * t, c] S1x256x128.size w (ix3 0 r (col g j)) = w (ix3 0 l j)) ∧
    ((g ≠ g' ∨ r.val < 256 * t ∨ 256 * (t + 1) ≤ r.val) → put K ![0, 256 * t, c] S1x256x128.size w (ix3 0 r (col g j)) = K (ix3 0 r (col g j))) := by
  have hj := j.isLt
  subst hc
  constructor
  · rintro l rfl rfl
    have hl := l.isLt
    refine (put3_in (a := 1) (b := 256) (d := 128) K 0 (256 * t) (128 * g.val) w 0 _ _ (by decide) (by simp only [row]; omega) (by simp only [col]; omega)).trans ?_
    refine congrArg w ?_
    congr 1
    · exact Fin.ext (by simp only [row]; omega)
    · exact Fin.ext (by simp only [col]; omega)
  · intro h
    refine put3_out (a := 1) (b := 256) (d := 128) K 0 (256 * t) (128 * g'.val) w 0 _ _ ?_
    rintro ⟨_, h1, h2⟩
    rcases h with h | h | h
    · exact h (Fin.ext (by simp only [col] at h2; omega))
    · omega
    · omega

theorem FO.step {k : ℕ} (hk : k < 16) {s z : V10 × VT × VT} (h : FO' I k s z) {w0 w1 w2 w3 : Vec Ideal S1x256x128 .bf16} {A1 A2 A3 A4 B1 B2 B3 B4 : VT}
    (h0 : (∀ (j : Fin 128) (κ : Fin 4096), A1 (ix2 j κ) = s.2.1 (ix2 j κ) + ∑ l : Fin 256, I.dk 0 (row k hk l) κ j)
      ∧ (∀ (j : Fin 128) (κ : Fin 4096), B1 (ix2 j κ) = s.2.2 (ix2 j κ) + ∑ l : Fin 256, I.dv 0 (row k hk l) κ j)
      ∧ (∀ (l : Fin 256) (j : Fin 128), w0 (ix3 0 l j) = I.dq 0 (row k hk l) j))
    (h1 : (∀ (j : Fin 128) (κ : Fin 4096), A2 (ix2 j κ) = A1 (ix2 j κ) + ∑ l : Fin 256, I.dk 1 (row k hk l) κ j)
      ∧ (∀ (j : Fin 128) (κ : Fin 4096), B2 (ix2 j κ) = B1 (ix2 j κ) + ∑ l : Fin 256, I.dv 1 (row k hk l) κ j)
      ∧ (∀ (l : Fin 256) (j : Fin 128), w1 (ix3 0 l j) = I.dq 1 (row k hk l) j))
    (h2 : (∀ (j : Fin 128) (κ : Fin 4096), A3 (ix2 j κ) = A2 (ix2 j κ) + ∑ l : Fin 256, I.dk 2 (row k hk l) κ j)
      ∧ (∀ (j : Fin 128) (κ : Fin 4096), B3 (ix2 j κ) = B2 (ix2 j κ) + ∑ l : Fin 256, I.dv 2 (row k hk l) κ j)
      ∧ (∀ (l : Fin 256) (j : Fin 128), w2 (ix3 0 l j) = I.dq 2 (row k hk l) j))
    (h3 : (∀ (j : Fin 128) (κ : Fin 4096), A4 (ix2 j κ) = A3 (ix2 j κ) + ∑ l : Fin 256, I.dk 3 (row k hk l) κ j)
      ∧ (∀ (j : Fin 128) (κ : Fin 4096), B4 (ix2 j κ) = B3 (ix2 j κ) + ∑ l : Fin 256, I.dv 3 (row k hk l) κ j)
      ∧ (∀ (l : Fin 256) (j : Fin 128), w3 (ix3 0 l j) = I.dq 3 (row k hk l) j)) :
    FO' I (k + 1) (put (put (put (put s.1 ![0, 256 * k, 0] S1x256x128.size w0) ![0, 256 * k, 128] S1x256x128.size w1)
      ![0, 256 * k, 256] S1x256x128.size w2) ![0, 256 * k, 384] S1x256x128.size w3, A4, B4) z where
  dk j κ := by
    show A4 (ix2 j κ) = _
    rw [h3.1, h2.1, h1.1, h0.1, h.dk, rsum_succ k hk]
    simp only [Fin.sum_univ_four, Finset.sum_add_distrib, add_assoc]
  dv j κ := by
    show B4 (ix2 j κ) = _
    rw [h3.2.1, h2.2.1, h1.2.1, h0.2.1, h.dv, rsum_succ k hk]
    simp only [Fin.sum_univ_four, Finset.sum_add_distrib, add_assoc]
  dq r g j := by
    by_cases hr : 256 * k ≤ r.val ∧ r.val < 256 * (k + 1)
    · obtain ⟨l, rfl⟩ : ∃ l, r = row k hk l := ⟨⟨r.val - 256 * k, by omega⟩, Fin.ext (by simp only [row]; omega)⟩
      rw [if_pos hr.2]
      have P0 := fun g j => put10 s.1 k hk 0 0 rfl w0 (row k hk l) g j
      have P1 := fun K g j => put10 K k hk 1 128 rfl w1 (row k hk l) g j
      have P2 := fun K g j => put10 K k hk 2 256 rfl w2 (row k hk l) g j
      have P3 := fun K g j => put10 K k hk 3 384 rfl w3 (row k hk l) g j
      match g with
      | 0 =>
        refine ((P3 _ _ _).2 (.inl (by decide))).trans (((P2 _ _ _).2 (.inl (by decide))).trans (((P1 _ _ _).2 (.inl (by decide))).trans (((P0 _ _).1 l rfl rfl).trans ?_)))
        exact h0.2.2 l j
      | 1 =>
        refine ((P3 _ _ _).2 (.inl (by decide))).trans (((P2 _ _ _).2 (.inl (by decide))).trans (((P1 _ _ _).1 l rfl rfl).trans ?_))
        exact h1.2.2 l j
      | 2 =>
        refine ((P3 _ _ _).2 (.inl (by decide))).trans (((P2 _ _ _).1 l rfl rfl).trans ?_)
        exact h2.2.2 l j
      | 3 =>
        refine ((P3 _ _ _).1 l rfl rfl).trans ?_
        exact h3.2.2 l j
    · have hr' : r.val < 256 * k ∨ 256 * (k + 1) ≤ r.val := by omega
      refine ((put10 _ k hk 3 384 rfl w3 r g j).2 (.inr hr')).trans (((put10 _ k hk 2 256 rfl w2 r g j).2 (.inr hr')).trans
        (((put10 _ k hk 1 128 rfl w1 r g j).2 (.inr hr')).trans (((put10 _ k hk 0 0 rfl w0 r g j).2 (.inr hr')).trans ?_)))
      rw [h.dq]
      by_cases h1 : r.val < 256 * k
      · rw [if_pos h1, if_pos (by omega)]
      · rw [if_neg h1, if_neg (by omega)]

end Cert.Proof
-- ==== Proof.S.Ends.lean ====
/-
  The first loop, which fills the dequantised copies and clears the accumulators, and the last one, which writes the key and value gradients:
  what the arrays hold after `k` blocks of 128 keys, each with its step.
-/
module

public import proofs.«01_k».proof.Proof.S.Rows

@[expose] public section

set_option maxRecDepth 8192

noncomputable section

namespace Cert.Proof

open Cert.KernelIdeal Cert.KernelIdeal.Gen
open Idealize.ShloMosaic Idealize.ShloMosaic.VecWindow
open scoped BigOperators
open Cert.Proof.Math

theorem in_blk' (k : ℕ) (hk : 128 * (k + 1) ≤ 4096) (κ : Fin 4096) (h : κ.val < 128 * (k + 1)) : κ.val < 128 * k ∨ ∃ x, κ = blk 128 k 4096 hk x := by
  by_cases h1 : κ.val < 128 * k
  · exact .inl h1
  · exact .inr ⟨⟨κ.val - 128 * k, by omega⟩, Fin.ext (by simp only [blk]; omega)⟩

section Win
variable {e : EltTy} (k : ℕ) (hk : 128 * (k + 1) ≤ 4096)

theorem winA3 (K : Vec Ideal S1x4096x128 e) (inb : ∀ i, (![0, 128 * k, 0] : Fin 3 → ℕ) i + S1x128x128.size i ≤ S1x4096x128.size i)
    (x : Fin 128) (j : Fin 128) : window K ![0, 128 * k, 0] S1x128x128.size inb (ix3 0 x j) = K (ix3 0 (blk 128 k 4096 hk x) j) := by
  have hx := x.isLt
  refine (window3 K 0 (128 * k) 0 inb 0 x j (by decide) (by omega) (by have := j.isLt; omega)).trans ?_
  have e : (⟨0 + j.val, by have := j.isLt; omega⟩ : Fin 128) = j := Fin.ext (Nat.zero_add _)
  exact congrArg (fun z => K (ix3 0 (blk 128 k 4096 hk x) z)) e
theorem winA7 (K : Vec Ideal S1x1x1x4096 .f32) (inb : ∀ i, (![0, 0, 0, 128 * k] : Fin 4 → ℕ) i + S1x1x1x128.size i ≤ S1x1x1x4096.size i)
    (x : Fin 128) : window K ![0, 0, 0, 128 * k] S1x1x1x128.size inb (ix4 0 0 0 x) = K (ix4 0 0 0 (blk 128 k 4096 hk x)) := by
  have hx := x.isLt
  exact window4 K 0 0 0 (128 * k) inb 0 0 0 x (by decide) (by decide) (by decide) (by omega)
theorem winAT (K : Vec Ideal S128x4096 e) (inb : ∀ i, (![0, 128 * k] : Fin 2 → ℕ) i + S128x128.size i ≤ S128x4096.size i)
    (j : Fin 128) (x : Fin 128) : window K ![0, 128 * k] S128x128.size inb (ix2 j x) = K (ix2 j (blk 128 k 4096 hk x)) := by
  have hx := x.isLt
  refine (window2 K 0 (128 * k) inb j x (by have := j.isLt; omega) (by omega)).trans ?_
  exact congrArg K (congrArg (fun z => ix2 z _) (Fin.ext (Nat.zero_add _)))

theorem putAT (K : Vec Ideal S128x4096 e) (w : Vec Ideal S128x128 e) (j : Fin 128) (κ : Fin 4096) :
    (∀ x, κ = blk 128 k 4096 hk x → put K ![0, 128 * k] S128x128.size w (ix2 j κ) = w (ix2 j x)) ∧
    (κ.val < 128 * k → put K ![0, 128 * k] S128x128.size w (ix2 j κ) = K (ix2 j κ)) := by
  have hj := j.isLt
  constructor
  · rintro x rfl
    have hx := x.isLt
    refine (put2_in (a := 128) (b := 128) K 0 (128 * k) w j _ (by omega) (by simp only [blk]; omega)).trans ?_
    refine congrArg w ?_
    congr 1
    exact Fin.ext (by simp only [blk]; omega)
  · intro h
    exact put2_out (a := 128) (b := 128) K 0 (128 * k) w j _ (by omega)
theorem putA16 (K : Vec Ideal S4096x128 e) (w : Vec Ideal S128x128 e) (κ : Fin 4096) (j : Fin 128) :
    (∀ x, κ = blk 128 k 4096 hk x → put K ![128 * k, 0] S128x128.size w (ix2 κ j) = w (ix2 x j)) ∧
    (κ.val < 128 * k → put K ![128 * k, 0] S128x128.size w (ix2 κ j) = K (ix2 κ j)) := by
  have hj := j.isLt
  constructor
  · rintro x rfl
    have hx := x.isLt
    refine (put2_in (a := 128) (b := 128) K (128 * k) 0 w _ j (by simp only [blk]; omega) (by omega)).trans ?_
    refine congrArg w ?_
    congr 1
    exact Fin.ext (by simp only [blk]; omega)
  · intro h
    exact put2_out (a := 128) (b := 128) K (128 * k) 0 w _ j (by omega)
theorem putA3 (K : Vec Ideal S1x4096x128 e) (w : Vec Ideal S1x128x128 e) (κ : Fin 4096) (j : Fin 128) :
    (∀ x, κ = blk 128 k 4096 hk x → put K ![0, 128 * k, 0] S1x128x128.size w (ix3 0 κ j) = w (ix3 0 x j)) ∧
    (κ.val < 128 * k → put K ![0, 128 * k, 0] S1x128x128.size w (ix3 0 κ j) = K (ix3 0 κ j)) := by
  have hj := j.isLt
  constructor
  · rintro x rfl
    have hx := x.isLt
    refine (put3_in (a := 1) (b := 128) (d := 128) K 0 (128 * k) 0 w 0 _ j (by decide) (by simp only [blk]; omega) (by omega)).trans ?_
    refine congrArg w ?_
    congr 1
    exact Fin.ext (by simp only [blk]; omega)
  · intro h
    refine put3_out (a := 1) (b := 128) (d := 128) K 0 (128 * k) 0 w 0 _ j ?_
    rintro ⟨_, h1, _⟩
    omega
end Win

/-! ## The first loop -/

theorem pay15_at (v8 : Vec Ideal S1x1x1x128 .f32) (v14 : Vec Ideal S1x128x128 .fp8e4m3) (a b : Fin 128) :
    k0_pay15 (F := Ideal) v8 v14 (ix2 a b) = v14 (ix3 0 b a) * v8 (ix4 0 0 0 b) := by
  pointwise [k0_pay15, k0_pay13]
theorem pay16_at (v8 : Vec Ideal S1x1x1x128 .f32) (v14 : Vec Ideal S1x128x128 .fp8e4m3) (a b : Fin 128) :
    k0_pay16 (F := Ideal) v8 v14 (ix2 a b) = v14 (ix3 0 b a) * v8 (ix4 0 0 0 b) := by
  pointwise [k0_pay16, k0_pay14]
theorem pay17_at (v8 : Vec Ideal S1x1x1x128 .f32) (a b : Fin 128) : k0_pay17 (F := Ideal) v8 (ix2 a b) = v8 (ix4 0 0 0 a) := by
  pointwise [k0_pay17, k0_pay13]
theorem pay1_at (v8 : Vec Ideal S1x1x1x128 .f32) (a b : Fin 128) : k0_pay1 (F := Ideal) (k0_pay14 (F := Ideal) v8) (ix2 a b) = v8 (ix4 0 0 0 a) := by
  pointwise [k0_pay1, k0_pay14]
theorem pay2_at (a b : Fin 128) : k0_pay2 (F := Ideal) (ix2 a b) = 0 := by
  pointwise [k0_pay2]
theorem pay3_at (a b : Fin 128) : k0_pay3 (F := Ideal) (ix2 a b) = 0 := by
  pointwise [k0_pay3]

abbrev VTb := Vec Ideal S128x4096 .bf16
abbrev VS := Vec Ideal S4096x128 .f32

/-- After `k` blocks of 128 keys (`s'` is the same state again). -/
structure PF (K3 K4 : Vec Ideal S1x4096x128 .fp8e4m3) (K7 K8 : Vec Ideal S1x1x1x4096 .f32) (k : ℕ) (s s' : VTb × VTb × VS × VS × VT × VT) : Prop where
  kt : ∀ (j : Fin 128) (κ : Fin 4096), κ.val < 128 * k → s.1 (ix2 j κ) = K3 (ix3 0 κ j) * K7 (ix4 0 0 0 κ)
  vt : ∀ (j : Fin 128) (κ : Fin 4096), κ.val < 128 * k → s.2.1 (ix2 j κ) = K4 (ix3 0 κ j) * K8 (ix4 0 0 0 κ)
  ks : ∀ (κ : Fin 4096) (x : Fin 128), κ.val < 128 * k → s.2.2.1 (ix2 κ x) = K7 (ix4 0 0 0 κ)
  vs : ∀ (κ : Fin 4096) (x : Fin 128), κ.val < 128 * k → s.2.2.2.1 (ix2 κ x) = K8 (ix4 0 0 0 κ)
  zk : ∀ (j : Fin 128) (κ : Fin 4096), κ.val < 128 * k → s.2.2.2.2.1 (ix2 j κ) = 0
  zv : ∀ (j : Fin 128) (κ : Fin 4096), κ.val < 128 * k → s.2.2.2.2.2 (ix2 j κ) = 0

variable {K3 K4 : Vec Ideal S1x4096x128 .fp8e4m3} {K7 K8 : Vec Ideal S1x1x1x4096 .f32} {k : ℕ}

@[refl] theorem PF.init (s : VTb × VTb × VS × VS × VT × VT) : PF K3 K4 K7 K8 0 s s := by
  constructor <;> intro _ _ h <;> exact absurd h (by omega)

theorem PF.prep {s s'} (h : PF K3 K4 K7 K8 32 s s') : Prep K3 K4 K7 K8 s.1 s.2.1 s.2.2.1 s.2.2.2.1 where
  kt j κ := h.kt j κ κ.isLt
  vt j κ := h.vt j κ κ.isLt
  ks κ x := h.ks κ x κ.isLt
  vs κ x := h.vs κ x κ.isLt

theorem PF.step (hk : 128 * (k + 1) ≤ 4096) {A14 A15 : VTb} {A16 A17 : VS} {A18 A19 : VT} {s'} (h : PF K3 K4 K7 K8 k (A14, A15, A16, A17, A18, A19) s') (i3 i4 i7 i8) (t) :
    PF K3 K4 K7 K8 (k + 1)
      (put A14 ![0, 128 * k] S128x128.size (k0_pay15 (F := Ideal) (window K7 ![0, 0, 0, 128 * k] S1x1x1x128.size i7) (window K3 ![0, 128 * k, 0] S1x128x128.size i3)),
       put A15 ![0, 128 * k] S128x128.size (k0_pay16 (F := Ideal) (window K8 ![0, 0, 0, 128 * k] S1x1x1x128.size i8) (window K4 ![0, 128 * k, 0] S1x128x128.size i4)),
       put A16 ![128 * k, 0] S128x128.size (k0_pay17 (F := Ideal) (window K7 ![0, 0, 0, 128 * k] S1x1x1x128.size i7)),
       put A17 ![128 * k, 0] S128x128.size (k0_pay1 (F := Ideal) (k0_pay14 (F := Ideal) (window K8 ![0, 0, 0, 128 * k] S1x1x1x128.size i8))),
       put A18 ![0, 128 * k] S128x128.size (k0_pay2 (F := Ideal)),
       put A19 ![0, 128 * k] S128x128.size (k0_pay3 (F := Ideal))) t where
  kt j κ hκ := by
    rcases in_blk' k hk κ hκ with h1 | ⟨x, rfl⟩
    · exact ((putAT k hk A14 _ j κ).2 h1).trans (h.kt j κ h1)
    · refine ((putAT k hk A14 _ j _).1 x rfl).trans ((pay15_at _ _ _ _).trans ?_)
      rw [winA3 k hk K3 i3, winA7 k hk K7 i7]
  vt j κ hκ := by
    rcases in_blk' k hk κ hκ with h1 | ⟨x, rfl⟩
    · exact ((putAT k hk A15 _ j κ).2 h1).trans (h.vt j κ h1)
    · refine ((putAT k hk A15 _ j _).1 x rfl).trans ((pay16_at _ _ _ _).trans ?_)
      rw [winA3 k hk K4 i4, winA7 k hk K8 i8]
  ks κ j hκ := by
    rcases in_blk' k hk κ hκ with h1 | ⟨x, rfl⟩
    · exact ((putA16 k hk A16 _ κ j).2 h1).trans (h.ks κ j h1)
    · exact ((putA16 k hk A16 _ _ j).1 x rfl).trans ((pay17_at _ _ _).trans (winA7 k hk K7 i7 x))
  vs κ j hκ := by
    rcases in_blk' k hk κ hκ with h1 | ⟨x, rfl⟩
    · exact ((putA16 k hk A17 _ κ j).2 h1).trans (h.vs κ j h1)
    · exact ((putA16 k hk A17 _ _ j).1 x rfl).trans ((pay1_at _ _ _).trans (winA7 k hk K8 i8 x))
  zk j κ hκ := by
    rcases in_blk' k hk κ hκ with h1 | ⟨x, rfl⟩
    · exact ((putAT k hk A18 _ j κ).2 h1).trans (h.zk j κ h1)
    · exact ((putAT k hk A18 _ j _).1 x rfl).trans (pay2_at _ _)
  zv j κ hκ := by
    rcases in_blk' k hk κ hκ with h1 | ⟨x, rfl⟩
    · exact ((putAT k hk A19 _ j κ).2 h1).trans (h.zv j κ h1)
    · exact ((putAT k hk A19 _ j _).1 x rfl).trans (pay3_at _ _)

/-! ## The last loop -/

theorem pay11_at (v8 : Vec Ideal S128x128 .f32) (a b : Fin 128) : k0_pay11 (F := Ideal) v8 (ix3 0 a b) = v8 (ix2 b a) * SM8 := by
  pointwise [k0_pay11]
  rfl
theorem pay12_at (v8 : Vec Ideal S128x128 .f32) (a b : Fin 128) : k0_pay12 (F := Ideal) v8 (ix3 0 a b) = v8 (ix2 b a) * I256 := by
  pointwise [k0_pay12]
  rfl

abbrev V11 := Vec Ideal S1x4096x128 .bf16

/-- After `k` blocks of 128 keys (`s'` is the same state again). -/
structure QF (T18 T19 : VT) (k : ℕ) (s s' : V11 × V11) : Prop where
  dk : ∀ (κ : Fin 4096) (j : Fin 128), κ.val < 128 * k → s.1 (ix3 0 κ j) = T18 (ix2 j κ) * SM8
  dv : ∀ (κ : Fin 4096) (j : Fin 128), κ.val < 128 * k → s.2 (ix3 0 κ j) = T19 (ix2 j κ) * I256

variable {T18 T19 : VT}
@[refl] theorem QF.init (s : V11 × V11) : QF T18 T19 0 s s := by
  constructor <;> intro _ _ h <;> exact absurd h (by omega)

theorem QF.step (hk : 128 * (k + 1) ≤ 4096) {A11 A12 : V11} {s'} (h : QF T18 T19 k (A11, A12) s') (i8 i9) (t) :
    QF T18 T19 (k + 1)
      (put A11 ![0, 128 * k, 0] S1x128x128.size (k0_pay11 (F := Ideal) (window T18 ![0, 128 * k] S128x128.size i8)),
       put A12 ![0, 128 * k, 0] S1x128x128.size (k0_pay12 (F := Ideal) (window T19 ![0, 128 * k] S128x128.size i9))) t where
  dk κ j hκ := by
    rcases in_blk' k hk κ hκ with h1 | ⟨x, rfl⟩
    · exact ((putA3 k hk A11 _ κ j).2 h1).trans (h.dk κ j h1)
    · refine ((putA3 k hk A11 _ _ j).1 x rfl).trans ((pay11_at _ _ _).trans ?_)
      rw [winAT k hk T18 i8]
  dv κ j hκ := by
    rcases in_blk' k hk κ hκ with h1 | ⟨x, rfl⟩
    · exact ((putA3 k hk A12 _ κ j).2 h1).trans (h.dv κ j h1)
    · refine ((putA3 k hk A12 _ _ j).1 x rfl).trans ((pay12_at _ _ _).trans ?_)
      rw [winAT k hk T19 i9]

end Cert.Proof
-- ==== Proof.S.EndLoops.lean ====
/-
  The first and the last loop of the kernel.
-/
module

public import proofs.«01_k».proof.Proof.S.Ends
public import Idealize.ShloMosaic.Lib.LoopRemainder
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the run. -/
local notation "𝕄" => MT nD τ sig Unit (Elt Ideal) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)
theorem trips1 : k0_t1_loop.trips = 32 := by decide
theorem lt1 (k : Fin k0_t1_loop.trips) : k.val < 32 := by have h := k.isLt; have e := trips1; omega
theorem trips35 : k0_t35_loop.trips = 32 := by decide
theorem lt35 (k : Fin k0_t35_loop.trips) : k.val < 32 := by have h := k.isLt; have e := trips35; omega
theorem off1 : ∀ k : Fin k0_t1_loop.trips, k0_off1 k = ![0, 0, 0, 128 * k.val] := by decide
theorem off2 : ∀ k : Fin k0_t1_loop.trips, k0_off2 k = ![0, 128 * k.val, 0] := by decide
theorem off3 : ∀ k : Fin k0_t1_loop.trips, k0_off3 k = ![0, 128 * k.val] := by decide
theorem off4 : ∀ k : Fin k0_t1_loop.trips, k0_off4 k = ![128 * k.val, 0] := by decide
theorem off96 : ∀ k : Fin k0_t35_loop.trips, k0_off96 k = ![0, 128 * k.val] := by decide
theorem off97 : ∀ k : Fin k0_t35_loop.trips, k0_off97 k = ![0, 128 * k.val, 0] := by decide

set_option warn.classDefReducibility false in
/-- The loop that fills the dequantised copies and clears the accumulators. -/
@[sl_loop] def vloop1 (X3 : BufTy.Contents (Elt Ideal) arg3.view.ty) (X4 : BufTy.Contents (Elt Ideal) arg4.view.ty) (X7 : BufTy.Contents (Elt Ideal) arg7.view.ty) (X8 : BufTy.Contents (Elt Ideal) arg8.view.ty) :
    Idealize.ShloMosaic.LoopInv (M := 𝕄) Idealize.ShloMosaic.frame
      (wpE (defs₀ (F := Ideal)) Variants.none (c : Thread nD τ) none) Set.univ
      k0_t1_loop.lb k0_t1_loop.ub k0_t1_loop.st k0_t1_ok ()
      (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv k _ := iprop((arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7) ∗ (arg8.view.loc (c : Thread nD τ) ↦[arg8.view.set]{fullShare} X8) ∗ (∃ f14 : BufTy.Contents (Elt Ideal) arg14.view.ty, ∃ f15 : BufTy.Contents (Elt Ideal) arg15.view.ty, ∃ f16 : BufTy.Contents (Elt Ideal) arg16.view.ty, ∃ f17 : BufTy.Contents (Elt Ideal) arg17.view.ty, ∃ f18 : BufTy.Contents (Elt Ideal) arg18.view.ty, ∃ f19 : BufTy.Contents (Elt Ideal) arg19.view.ty, (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ ⌜PF (arg3.view.read (Elt Ideal) X3) (arg4.view.read (Elt Ideal) X4) (arg7.view.read (Elt Ideal) X7) (arg8.view.read (Elt Ideal) X8) k ((arg14.view.read (Elt Ideal) f14), (arg15.view.read (Elt Ideal) f15), (arg16.view.read (Elt Ideal) f16), (arg17.view.read (Elt Ideal) f17), (arg18.view.read (Elt Ideal) f18), (arg19.view.read (Elt Ideal) f19)) ((arg14.view.read (Elt Ideal) f14), (arg15.view.read (Elt Ideal) f15), (arg16.view.read (Elt Ideal) f16), (arg17.view.read (Elt Ideal) f17), (arg18.view.read (Elt Ideal) f18), (arg19.view.read (Elt Ideal) f19))⌝))
  step k acc := by
    have hk : 128 * (k.val + 1) ≤ 4096 := by have := lt1 k; omega
    unfold k0_t1_body
    iintro ⟨H3, H4, H7, H8, ⟨%f14, %f15, %f16, %f17, %f18, %f19, H14, H15, H16, H17, H18, H19, %h⟩⟩
    sl_exec_parts
    sl_step
    isplitl [H3]
    · iexact H3
    isplitl [H4]
    · iexact H4
    isplitl [H7]
    · iexact H7
    isplitl [H8]
    · iexact H8
    iexists _
    iexists _
    iexists _
    iexists _
    iexists _
    iexists _
    isplitl [H14]
    · iexact H14
    isplitl [H15]
    · iexact H15
    isplitl [H16]
    · iexact H16
    isplitl [H17]
    · iexact H17
    isplitl [H18]
    · iexact H18
    isplitl [H19]
    · iexact H19
    ipureintro
    rw [View.read_writes_cons_put arg14.view f14 _ _ [] (off3 k), View.writes_nil]
    rw [View.read_writes_cons_put arg15.view f15 _ _ [] (off3 k), View.writes_nil]
    rw [View.read_writes_cons_put arg16.view f16 _ _ [] (off4 k), View.writes_nil]
    rw [View.read_writes_cons_put arg17.view f17 _ _ [] (off4 k), View.writes_nil]
    rw [View.read_writes_cons_put arg18.view f18 _ _ [] (off3 k), View.writes_nil]
    rw [View.read_writes_cons_put arg19.view f19 _ _ [] (off3 k), View.writes_nil]
    have hs := PF.step hk h (off2 k ▸ k0_off2_inb k) (off2 k ▸ k0_off2_inb k) (off1 k ▸ k0_off1_inb k) (off1 k ▸ k0_off1_inb k)
    simp only [← View.readAt_unit arg3.view X3 (k0_off2_inb k) (off2 k) (off2 k ▸ k0_off2_inb k), ← View.readAt_unit arg4.view X4 (k0_off2_inb k) (off2 k) (off2 k ▸ k0_off2_inb k), ← View.readAt_unit arg7.view X7 (k0_off1_inb k) (off1 k) (off1 k ▸ k0_off1_inb k), ← View.readAt_unit arg8.view X8 (k0_off1_inb k) (off1 k) (off1 k ▸ k0_off1_inb k)] at hs
    exact hs _

set_option warn.classDefReducibility false in
/-- The loop that writes the key and value gradients. -/
@[sl_loop] def vloop35 (X18 : BufTy.Contents (Elt Ideal) arg18.view.ty) (X19 : BufTy.Contents (Elt Ideal) arg19.view.ty) :
    Idealize.ShloMosaic.LoopInv (M := 𝕄) Idealize.ShloMosaic.frame
      (wpE (defs₀ (F := Ideal)) Variants.none (c : Thread nD τ) none) Set.univ
      k0_t35_loop.lb k0_t35_loop.ub k0_t35_loop.st k0_t35_ok ()
      (k0_t35_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv k _ := iprop((arg18.view.loc (c : Thread nD τ) ↦[arg18.view.set]{fullShare} X18) ∗ (arg19.view.loc (c : Thread nD τ) ↦[arg19.view.set]{fullShare} X19) ∗ (∃ f11 : BufTy.Contents (Elt Ideal) arg11.view.ty, ∃ f12 : BufTy.Contents (Elt Ideal) arg12.view.ty, (arg11.view.loc (c : Thread nD τ) ↦[arg11.view.set]{fullShare} f11) ∗ (arg12.view.loc (c : Thread nD τ) ↦[arg12.view.set]{fullShare} f12) ∗ ⌜QF (arg18.view.read (Elt Ideal) X18) (arg19.view.read (Elt Ideal) X19) k ((arg11.view.read (Elt Ideal) f11), (arg12.view.read (Elt Ideal) f12)) ((arg11.view.read (Elt Ideal) f11), (arg12.view.read (Elt Ideal) f12))⌝))
  step k acc := by
    have hk : 128 * (k.val + 1) ≤ 4096 := by have := lt35 k; omega
    unfold k0_t35_body
    iintro ⟨H18, H19, ⟨%f11, %f12, H11, H12, %h⟩⟩
    sl_exec_parts
    sl_step
    isplitl [H18]
    · iexact H18
    isplitl [H19]
    · iexact H19
    iexists _
    iexists _
    isplitl [H11]
    · iexact H11
    isplitl [H12]
    · iexact H12
    ipureintro
    rw [View.read_writes_cons_put arg11.view f11 _ _ [] (off97 k), View.writes_nil]
    rw [View.read_writes_cons_put arg12.view f12 _ _ [] (off97 k), View.writes_nil]
    have hs := QF.step hk h (off96 k ▸ k0_off96_inb k) (off96 k ▸ k0_off96_inb k)
    simp only [← View.readAt_unit arg18.view X18 (k0_off96_inb k) (off96 k) (off96 k ▸ k0_off96_inb k), ← View.readAt_unit arg19.view X19 (k0_off96_inb k) (off96 k) (off96 k ▸ k0_off96_inb k)] at hs
    exact hs _

end Cert.Proof.Val
-- ==== Proof.S.Offs.lean ====
/-
  The offsets of key block `n`.
-/
module

public import proofs.«01_k».proof.Proof.Gen.KernelIdeal.Skeleton
public import proofs.«01_k».proof.Proof.Gen.KernelIdeal.Frame
public import proofs.«01_k».proof.Proof.S.Steps
public import Idealize.ShloMosaic.Lib.LoopRemainder
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem off_blk : ∀ n : ℕ, n < 8 → (![(Scalar.indexCast (Scalar.muli (Scf.iv 0#32 1#32 n) 512#32)).toNat, 0] : Fin 2 → ℕ) = ![512 * n, 0] := by decide
theorem offT_blk : ∀ n : ℕ, n < 8 → (![0, (Scalar.indexCast (Scalar.muli (Scf.iv 0#32 1#32 n) 512#32)).toNat] : Fin 2 → ℕ) = ![0, 512 * n] := by decide
theorem off3_blk : ∀ n : ℕ, n < 8 → (![0, (Scalar.indexCast (Scalar.muli (Scf.iv 0#32 1#32 n) 512#32)).toNat, 0] : Fin 3 → ℕ) = ![0, 512 * n, 0] := by decide

end Cert.Proof.Val
-- ==== Proof.S.LoopA.lean ====
/-
  The loops over the key blocks: scores.
-/
module

public import proofs.«01_k».proof.Proof.Gen.KernelIdeal.Skeleton
public import proofs.«01_k».proof.Proof.Gen.KernelIdeal.Frame
public import proofs.«01_k».proof.Proof.S.Steps
public import Idealize.ShloMosaic.Lib.LoopRemainder
public import proofs.«01_k».proof.Proof.S.Offs
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the run. -/
local notation "𝕄" => MT nD τ sig Unit (Elt Ideal) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

theorem trips3 : ∀ t2 : Fin k0_t2_loop.trips, (k0_t3_loop t2).trips = t2.val / 2 := by decide
theorem lt3 (t2 : Fin k0_t2_loop.trips) (k : Fin (k0_t3_loop t2).trips) : k.val < 8 := by
  have h := k.isLt
  have h2 := t2.isLt
  have e : k0_t2_loop.trips = 16 := by decide
  have := trips3 t2
  omega
theorem off7 (t2 : Fin k0_t2_loop.trips) (k : Fin (k0_t3_loop t2).trips) : k0_off7 t2 k = ![0, 512 * k.val, 0] := off3_blk k.val (lt3 t2 k)
theorem off9 (t2 : Fin k0_t2_loop.trips) (k : Fin (k0_t3_loop t2).trips) : k0_off9 t2 k = ![512 * k.val, 0] := off_blk k.val (lt3 t2 k)
theorem off8 (t2 : Fin k0_t2_loop.trips) (k : Fin (k0_t3_loop t2).trips) : k0_off8 t2 k = ![512 * k.val, 0] := off_blk k.val (lt3 t2 k)

set_option warn.classDefReducibility false in
/-- Loop `k0_t3`, over the key blocks of the scores. -/
@[sl_loop] def vloop3 (k0_t2 : Fin k0_t2_loop.trips) (v6 : BitVec 32) (v23 : BitVec 32) (v26 : FVec Ideal S256x128 .fp8e4m3) (v37 : FVec Ideal S1x256 .f32) (v38 : FVec Ideal S1x256 .f32) (c0_i32_26 : BitVec 32) (init : FVec Ideal S1x256 .f32) (X3 : BufTy.Contents (Elt Ideal) arg3.view.ty) (X16 : BufTy.Contents (Elt Ideal) arg16.view.ty) (z13 : BufTy.Contents (Elt Ideal) arg13.view.ty) :
    Idealize.ShloMosaic.LoopInv (M := 𝕄) Idealize.ShloMosaic.frame
      (wpE (defs₀ (F := Ideal)) Variants.none (c : Thread nD τ) none) Set.univ
      (k0_t3_loop k0_t2).lb (k0_t3_loop k0_t2).ub (k0_t3_loop k0_t2).st (k0_t3_ok k0_t2) init
      (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v26 v37 v38 c0_i32_26) where
  inv k acc := iprop((arg3.view.loc (c : Thread nD τ) ↦[arg3.view.set]{fullShare} X3) ∗ (arg16.view.loc (c : Thread nD τ) ↦[arg16.view.set]{fullShare} X16) ∗ (∃ f13 : BufTy.Contents (Elt Ideal) arg13.view.ty, (arg13.view.loc (c : Thread nD τ) ↦[arg13.view.set]{fullShare} f13) ∗ ⌜atStart k f13 = atStart k z13⌝ ∗ ⌜FA (arg3.view.read (Elt Ideal) X3) (arg16.view.read (Elt Ideal) X16) v26 v37 k (arg13.view.read (Elt Ideal) f13, acc) (arg13.view.read (Elt Ideal) z13, init)⌝))
  step k acc := by
    have hk : 512 * (k.val + 1) ≤ 4096 := by have := lt3 k0_t2 k; omega
    unfold k0_t3_body
    iintro ⟨H3, H16, ⟨%f13, H13, %e13, %h⟩⟩
    sl_exec
    sl_step
    isplitl [H3]
    · iexact H3
    isplitl [H16]
    · iexact H16
    iexists _
    isplitl [H13]
    · iexact H13
    isplitr
    · ipureintro; rfl
    ipureintro
    rw [View.read_writes_cons_put arg13.view f13 _ _ [] (off9 k0_t2 k), View.writes_nil]
    simp only [View.readAt_unit arg3.view _ _ (off7 k0_t2 k) (off7 k0_t2 k ▸ k0_off7_inb k0_t2 k), View.readAt_unit arg16.view _ _ (off8 k0_t2 k) (off8 k0_t2 k ▸ k0_off8_inb k0_t2 k)]
    exact FA.step hk h _ _

theorem trips11 : ∀ t2 : Fin k0_t2_loop.trips, (k0_t11_loop t2).trips = t2.val / 2 := by decide
theorem lt11 (t2 : Fin k0_t2_loop.trips) (k : Fin (k0_t11_loop t2).trips) : k.val < 8 := by
  have h := k.isLt
  have h2 := t2.isLt
  have e : k0_t2_loop.trips = 16 := by decide
  have := trips11 t2
  omega
theorem off32 (t2 : Fin k0_t2_loop.trips) (k : Fin (k0_t11_loop t2).trips) : k0_off32 t2 k = ![0, 512 * k.val, 0] := off3_blk k.val (lt11 t2 k)
theorem off34 (t2 : Fin k0_t2_loop.trips) (k : Fin (k0_t11_loop t2).trips) : k0_off34 t2 k = ![512 * k.val, 0] := off_blk k.val (lt11 t2 k)
theorem off33 (t2 : Fin k0_t2_loop.trips) (k : Fin (k0_t11_loop t2).trips) : k0_off33 t2 k = ![512 * k.val, 0] := off_blk k.val (lt11 t2 k)

set_option warn.classDefReducibility false in
/-- Loop `k0_t11`, over the key blocks of the scores. -/
@[sl_loop] def vloop11 (k0_t2 : Fin k0_t2_loop.trips) (v6 : BitVec 32) (v23 : BitVec 32) (v29 : FVec Ideal S256x128 .fp8e5m2) (v35 : FVec Ideal S1x256 .f32) (v110 : FVec Ideal S1x256 .f32) (v116 : FVec Ideal S128x256 .bf16) (v123 : BitVec 32) (v124 : FVec Ideal S128x256 .f32) (c1_i32_59 : BitVec 32) (v137 : Vec Ideal S1x256x128 .fp8e4m3) (v143 : Vec Ideal S1x1x1x256 .f32) (init : FVec Ideal S1x256 .f32) (X3 : BufTy.Contents (Elt Ideal) arg3.view.ty) (X16 : BufTy.Contents (Elt Ideal) arg16.view.ty) (z13 : BufTy.Contents (Elt Ideal) arg13.view.ty) :
    Idealize.ShloMosaic.LoopInv (M := 𝕄) Idealize.ShloMosaic.frame
      (wpE (defs₀ (F := Ideal)) Variants.none (c : Thread nD τ) none) Set.univ
      (k0_t11_loop k0_t2).lb (k0_t11_loop k0_t2).ub (k0_t11_loop k0_t2).st (k0_t11_ok k0_t2) init
      (k0_t11_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v29 v35 v110 v116 v123 v124 c1_i32_59 v137 v143) where
  inv k acc := iprop((arg3.view.loc (c : Thread nD τ) ↦[arg3.view.set]{fullShare} X3) ∗ (arg16.view.loc (c : Thread nD τ) ↦[arg16.view.set]{fullShare} X16) ∗ (∃ f13 : BufTy.Contents (Elt Ideal) arg13.view.ty, (arg13.view.loc (c : Thread nD τ) ↦[arg13.view.set]{fullShare} f13) ∗ ⌜atStart k f13 = atStart k z13⌝ ∗ ⌜FA (arg3.view.read (Elt Ideal) X3) (arg16.view.read (Elt Ideal) X16) (k0_pay63 v137) (k0_pay67 v143) k (arg13.view.read (Elt Ideal) f13, acc) (arg13.view.read (Elt Ideal) z13, init)⌝))
  step k acc := by
    have hk : 512 * (k.val + 1) ≤ 4096 := by have := lt11 k0_t2 k; omega
    unfold k0_t11_body
    iintro ⟨H3, H16, ⟨%f13, H13, %e13, %h⟩⟩
    sl_exec
    sl_step
    isplitl [H3]
    · iexact H3
    isplitl [H16]
    · iexact H16
    iexists _
    isplitl [H13]
    · iexact H13
    isplitr
    · ipureintro; rfl
    ipureintro
    rw [View.read_writes_cons_put arg13.view f13 _ _ [] (off34 k0_t2 k), View.writes_nil]
    simp only [View.readAt_unit arg3.view _ _ (off32 k0_t2 k) (off32 k0_t2 k ▸ k0_off32_inb k0_t2 k), View.readAt_unit arg16.view _ _ (off33 k0_t2 k) (off33 k0_t2 k ▸ k0_off33_inb k0_t2 k)]
    exact FA.step hk h _ _

theorem trips19 : ∀ t2 : Fin k0_t2_loop.trips, (k0_t19_loop t2).trips = t2.val / 2 := by decide
theorem lt19 (t2 : Fin k0_t2_loop.trips) (k : Fin (k0_t19_loop t2).trips) : k.val < 8 := by
  have h := k.isLt
  have h2 := t2.isLt
  have e : k0_t2_loop.trips = 16 := by decide
  have := trips19 t2
  omega
theorem off54 (t2 : Fin k0_t2_loop.trips) (k : Fin (k0_t19_loop t2).trips) : k0_off54 t2 k = ![0, 512 * k.val, 0] := off3_blk k.val (lt19 t2 k)
theorem off56 (t2 : Fin k0_t2_loop.trips) (k : Fin (k0_t19_loop t2).trips) : k0_off56 t2 k = ![512 * k.val, 0] := off_blk k.val (lt19 t2 k)
theorem off55 (t2 : Fin k0_t2_loop.trips) (k : Fin (k0_t19_loop t2).trips) : k0_off55 t2 k = ![512 * k.val, 0] := off_blk k.val (lt19 t2 k)

set_option warn.classDefReducibility false in
/-- Loop `k0_t19`, over the key blocks of the scores. -/
@[sl_loop] def vloop19 (k0_t2 : Fin k0_t2_loop.trips) (v6 : BitVec 32) (v23 : BitVec 32) (v249 : Vec Ideal S1x256x128 .fp8e4m3) (v255 : Vec Ideal S1x1x1x256 .f32) (init : FVec Ideal S1x256 .f32) (X3 : BufTy.Contents (Elt Ideal) arg3.view.ty) (X16 : BufTy.Contents (Elt Ideal) arg16.view.ty) (z13 : BufTy.Contents (Elt Ideal) arg13.view.ty) :
    Idealize.ShloMosaic.LoopInv (M := 𝕄) Idealize.ShloMosaic.frame
      (wpE (defs₀ (F := Ideal)) Variants.none (c : Thread nD τ) none) Set.univ
      (k0_t19_loop k0_t2).lb (k0_t19_loop k0_t2).ub (k0_t19_loop k0_t2).st (k0_t19_ok k0_t2) init
      (k0_t19_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v249 v255) where
  inv k acc := iprop((arg3.view.loc (c : Thread nD τ) ↦[arg3.view.set]{fullShare} X3) ∗ (arg16.view.loc (c : Thread nD τ) ↦[arg16.view.set]{fullShare} X16) ∗ (∃ f13 : BufTy.Contents (Elt Ideal) arg13.view.ty, (arg13.view.loc (c : Thread nD τ) ↦[arg13.view.set]{fullShare} f13) ∗ ⌜atStart k f13 = atStart k z13⌝ ∗ ⌜FA (arg3.view.read (Elt Ideal) X3) (arg16.view.read (Elt Ideal) X16) (k0_pay108 v249) (k0_pay112 v255) k (arg13.view.read (Elt Ideal) f13, acc) (arg13.view.read (Elt Ideal) z13, init)⌝))
  step k acc := by
    have hk : 512 * (k.val + 1) ≤ 4096 := by have := lt19 k0_t2 k; omega
    unfold k0_t19_body
    iintro ⟨H3, H16, ⟨%f13, H13, %e13, %h⟩⟩
    sl_exec
    sl_step
    isplitl [H3]
    · iexact H3
    isplitl [H16]
    · iexact H16
    iexists _
    isplitl [H13]
    · iexact H13
    isplitr
    · ipureintro; rfl
    ipureintro
    rw [View.read_writes_cons_put arg13.view f13 _ _ [] (off56 k0_t2 k), View.writes_nil]
    simp only [View.readAt_unit arg3.view _ _ (off54 k0_t2 k) (off54 k0_t2 k ▸ k0_off54_inb k0_t2 k), View.readAt_unit arg16.view _ _ (off55 k0_t2 k) (off55 k0_t2 k ▸ k0_off55_inb k0_t2 k)]
    exact FA.step hk h _ _

theorem trips27 : ∀ t2 : Fin k0_t2_loop.trips, (k0_t27_loop t2).trips = t2.val / 2 := by decide
theorem lt27 (t2 : Fin k0_t2_loop.trips) (k : Fin (k0_t27_loop t2).trips) : k.val < 8 := by
  have h := k.isLt
  have h2 := t2.isLt
  have e : k0_t2_loop.trips = 16 := by decide
  have := trips27 t2
  omega
theorem off76 (t2 : Fin k0_t2_loop.trips) (k : Fin (k0_t27_loop t2).trips) : k0_off76 t2 k = ![0, 512 * k.val, 0] := off3_blk k.val (lt27 t2 k)
theorem off78 (t2 : Fin k0_t2_loop.trips) (k : Fin (k0_t27_loop t2).trips) : k0_off78 t2 k = ![512 * k.val, 0] := off_blk k.val (lt27 t2 k)
theorem off77 (t2 : Fin k0_t2_loop.trips) (k : Fin (k0_t27_loop t2).trips) : k0_off77 t2 k = ![512 * k.val, 0] := off_blk k.val (lt27 t2 k)

set_option warn.classDefReducibility false in
/-- Loop `k0_t27`, over the key blocks of the scores. -/
@[sl_loop] def vloop27 (k0_t2 : Fin k0_t2_loop.trips) (v6 : BitVec 32) (v23 : BitVec 32) (v362 : FVec Ideal S256x128 .fp8e4m3) (v368 : FVec Ideal S1x256 .f32) (init : FVec Ideal S1x256 .f32) (X3 : BufTy.Contents (Elt Ideal) arg3.view.ty) (X16 : BufTy.Contents (Elt Ideal) arg16.view.ty) (z13 : BufTy.Contents (Elt Ideal) arg13.view.ty) :
    Idealize.ShloMosaic.LoopInv (M := 𝕄) Idealize.ShloMosaic.frame
      (wpE (defs₀ (F := Ideal)) Variants.none (c : Thread nD τ) none) Set.univ
      (k0_t27_loop k0_t2).lb (k0_t27_loop k0_t2).ub (k0_t27_loop k0_t2).st (k0_t27_ok k0_t2) init
      (k0_t27_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v362 v368) where
  inv k acc := iprop((arg3.view.loc (c : Thread nD τ) ↦[arg3.view.set]{fullShare} X3) ∗ (arg16.view.loc (c : Thread nD τ) ↦[arg16.view.set]{fullShare} X16) ∗ (∃ f13 : BufTy.Contents (Elt Ideal) arg13.view.ty, (arg13.view.loc (c : Thread nD τ) ↦[arg13.view.set]{fullShare} f13) ∗ ⌜atStart k f13 = atStart k z13⌝ ∗ ⌜FA (arg3.view.read (Elt Ideal) X3) (arg16.view.read (Elt Ideal) X16) v362 (k0_pay162 v368) k (arg13.view.read (Elt Ideal) f13, acc) (arg13.view.read (Elt Ideal) z13, init)⌝))
  step k acc := by
    have hk : 512 * (k.val + 1) ≤ 4096 := by have := lt27 k0_t2 k; omega
    unfold k0_t27_body
    iintro ⟨H3, H16, ⟨%f13, H13, %e13, %h⟩⟩
    sl_exec
    sl_step
    isplitl [H3]
    · iexact H3
    isplitl [H16]
    · iexact H16
    iexists _
    isplitl [H13]
    · iexact H13
    isplitr
    · ipureintro; rfl
    ipureintro
    rw [View.read_writes_cons_put arg13.view f13 _ _ [] (off78 k0_t2 k), View.writes_nil]
    simp only [View.readAt_unit arg3.view _ _ (off76 k0_t2 k) (off76 k0_t2 k ▸ k0_off76_inb k0_t2 k), View.readAt_unit arg16.view _ _ (off77 k0_t2 k) (off77 k0_t2 k ▸ k0_off77_inb k0_t2 k)]
    exact FA.step hk h _ _

end Cert.Proof.Val
-- ==== Proof.S.LoopB.lean ====
/-
  The loops over the key blocks: exponentials.
-/
module

public import proofs.«01_k».proof.Proof.Gen.KernelIdeal.Skeleton
public import proofs.«01_k».proof.Proof.Gen.KernelIdeal.Frame
public import proofs.«01_k».proof.Proof.S.Steps
public import Idealize.ShloMosaic.Lib.LoopRemainder
public import proofs.«01_k».proof.Proof.S.Offs
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the run. -/
local notation "𝕄" => MT nD τ sig Unit (Elt Ideal) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

theorem trips5 : ∀ t2 : Fin k0_t2_loop.trips, (k0_t5_loop t2).trips = t2.val / 2 + 1 := by decide
theorem lt5 (t2 : Fin k0_t2_loop.trips) (k : Fin (k0_t5_loop t2).trips) : k.val < 8 := by
  have h := k.isLt
  have h2 := t2.isLt
  have e : k0_t2_loop.trips = 16 := by decide
  have := trips5 t2
  omega
theorem off16 (t2 : Fin k0_t2_loop.trips) (k : Fin (k0_t5_loop t2).trips) : k0_off16 t2 k = ![512 * k.val, 0] := off_blk k.val (lt5 t2 k)

set_option warn.classDefReducibility false in
/-- Loop `k0_t5`, over the key blocks of the exponentials. -/
@[sl_loop] def vloop5 (k0_t2 : Fin k0_t2_loop.trips) (v23 : BitVec 32) (v26 : FVec Ideal S256x128 .fp8e4m3) (v29 : FVec Ideal S256x128 .fp8e5m2) (v32 : FVec Ideal S1x256 .f32) (v35 : FVec Ideal S1x256 .f32) (v74 : FVec Ideal S1x256 .f32) (v76 : FVec Ideal S1x256 .f32) (c0_i32_41 : BitVec 32) (v81 : BitVec 32) (init : FVec Ideal S1x256 .f32)  (z13 : BufTy.Contents (Elt Ideal) arg13.view.ty) :
    Idealize.ShloMosaic.LoopInv (M := 𝕄) Idealize.ShloMosaic.frame
      (wpE (defs₀ (F := Ideal)) Variants.none (c : Thread nD τ) none) Set.univ
      (k0_t5_loop k0_t2).lb (k0_t5_loop k0_t2).ub (k0_t5_loop k0_t2).st (k0_t5_ok k0_t2) init
      (k0_t5_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81) where
  inv k acc := iprop((∃ f13 : BufTy.Contents (Elt Ideal) arg13.view.ty, (arg13.view.loc (c : Thread nD τ) ↦[arg13.view.set]{fullShare} f13) ∗ ⌜atStart k f13 = atStart k z13⌝ ∗ ⌜FB  v74 k (arg13.view.read (Elt Ideal) f13, acc) (arg13.view.read (Elt Ideal) z13, init)⌝))
  step k acc := by
    have hk : 512 * (k.val + 1) ≤ 4096 := by have := lt5 k0_t2 k; omega
    unfold k0_t5_body
    iintro ⟨%f13, H13, %e13, %h⟩
    sl_exec
    sl_step
    iexists _
    isplitl [H13]
    · iexact H13
    isplitr
    · ipureintro; rfl
    ipureintro
    rw [View.read_writes_cons_put arg13.view f13 _ _ [] (off16 k0_t2 k), View.writes_nil]
    simp only [View.readAt_unit arg13.view _ _ (off16 k0_t2 k) (off16 k0_t2 k ▸ k0_off16_inb k0_t2 k)]
    exact FB.step hk h _

theorem trips13 : ∀ t2 : Fin k0_t2_loop.trips, (k0_t13_loop t2).trips = t2.val / 2 + 1 := by decide
theorem lt13 (t2 : Fin k0_t2_loop.trips) (k : Fin (k0_t13_loop t2).trips) : k.val < 8 := by
  have h := k.isLt
  have h2 := t2.isLt
  have e : k0_t2_loop.trips = 16 := by decide
  have := trips13 t2
  omega
theorem off38 (t2 : Fin k0_t2_loop.trips) (k : Fin (k0_t13_loop t2).trips) : k0_off38 t2 k = ![512 * k.val, 0] := off_blk k.val (lt13 t2 k)

set_option warn.classDefReducibility false in
/-- Loop `k0_t13`, over the key blocks of the exponentials. -/
@[sl_loop] def vloop13 (k0_t2 : Fin k0_t2_loop.trips) (v6 : BitVec 32) (v23 : BitVec 32) (v138 : FVec Ideal S256x128 .fp8e4m3) (v141 : FVec Ideal S256x128 .fp8e5m2) (v147 : FVec Ideal S1x256 .f32) (v149 : FVec Ideal S1x256 .f32) (v157 : FVec Ideal S1x256 .f32) (v159 : BitVec 32) (v161 : Vec Ideal S1x512x128 .fp8e4m3) (v165 : Vec Ideal S512x128 .f32) (init : FVec Ideal S1x256 .f32)  (z13 : BufTy.Contents (Elt Ideal) arg13.view.ty) :
    Idealize.ShloMosaic.LoopInv (M := 𝕄) Idealize.ShloMosaic.frame
      (wpE (defs₀ (F := Ideal)) Variants.none (c : Thread nD τ) none) Set.univ
      (k0_t13_loop k0_t2).lb (k0_t13_loop k0_t2).ub (k0_t13_loop k0_t2).st (k0_t13_ok k0_t2) init
      (k0_t13_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v147 v149 v157 v159 v161 v165) where
  inv k acc := iprop((∃ f13 : BufTy.Contents (Elt Ideal) arg13.view.ty, (arg13.view.loc (c : Thread nD τ) ↦[arg13.view.set]{fullShare} f13) ∗ ⌜atStart k f13 = atStart k z13⌝ ∗ ⌜FB  (k0_pay77 v6 v23 v138 v149 v157 v161 v165) k (arg13.view.read (Elt Ideal) f13, acc) (arg13.view.read (Elt Ideal) z13, init)⌝))
  step k acc := by
    have hk : 512 * (k.val + 1) ≤ 4096 := by have := lt13 k0_t2 k; omega
    unfold k0_t13_body
    iintro ⟨%f13, H13, %e13, %h⟩
    sl_exec
    sl_step
    iexists _
    isplitl [H13]
    · iexact H13
    isplitr
    · ipureintro; rfl
    ipureintro
    rw [View.read_writes_cons_put arg13.view f13 _ _ [] (off38 k0_t2 k), View.writes_nil]
    simp only [View.readAt_unit arg13.view _ _ (off38 k0_t2 k) (off38 k0_t2 k ▸ k0_off38_inb k0_t2 k)]
    exact FB.step hk h _

theorem trips21 : ∀ t2 : Fin k0_t2_loop.trips, (k0_t21_loop t2).trips = t2.val / 2 + 1 := by decide
theorem lt21 (t2 : Fin k0_t2_loop.trips) (k : Fin (k0_t21_loop t2).trips) : k.val < 8 := by
  have h := k.isLt
  have h2 := t2.isLt
  have e : k0_t2_loop.trips = 16 := by decide
  have := trips21 t2
  omega
theorem off60 (t2 : Fin k0_t2_loop.trips) (k : Fin (k0_t21_loop t2).trips) : k0_off60 t2 k = ![512 * k.val, 0] := off_blk k.val (lt21 t2 k)

set_option warn.classDefReducibility false in
/-- Loop `k0_t21`, over the key blocks of the exponentials. -/
@[sl_loop] def vloop21 (k0_t2 : Fin k0_t2_loop.trips) (v23 : BitVec 32) (v253 : FVec Ideal S256x128 .fp8e5m2) (v259 : FVec Ideal S1x256 .f32) (v269 : FVec Ideal S1x256 .f32) (v271 : BitVec 32) (v281 : FVec Ideal S512x256 .f32) (v285 : IVec S512x256 32) (v286 : IVec S512x256 32) (v287 : IVec S512x256 32) (init : FVec Ideal S1x256 .f32)  (z13 : BufTy.Contents (Elt Ideal) arg13.view.ty) :
    Idealize.ShloMosaic.LoopInv (M := 𝕄) Idealize.ShloMosaic.frame
      (wpE (defs₀ (F := Ideal)) Variants.none (c : Thread nD τ) none) Set.univ
      (k0_t21_loop k0_t2).lb (k0_t21_loop k0_t2).ub (k0_t21_loop k0_t2).st (k0_t21_ok k0_t2) init
      (k0_t21_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287) where
  inv k acc := iprop((∃ f13 : BufTy.Contents (Elt Ideal) arg13.view.ty, (arg13.view.loc (c : Thread nD τ) ↦[arg13.view.set]{fullShare} f13) ∗ ⌜atStart k f13 = atStart k z13⌝ ∗ ⌜FB  (k0_pay125 v269 v281 v285 v286 v287) k (arg13.view.read (Elt Ideal) f13, acc) (arg13.view.read (Elt Ideal) z13, init)⌝))
  step k acc := by
    have hk : 512 * (k.val + 1) ≤ 4096 := by have := lt21 k0_t2 k; omega
    unfold k0_t21_body
    iintro ⟨%f13, H13, %e13, %h⟩
    sl_exec
    sl_step
    iexists _
    isplitl [H13]
    · iexact H13
    isplitr
    · ipureintro; rfl
    ipureintro
    rw [View.read_writes_cons_put arg13.view f13 _ _ [] (off60 k0_t2 k), View.writes_nil]
    simp only [View.readAt_unit arg13.view _ _ (off60 k0_t2 k) (off60 k0_t2 k ▸ k0_off60_inb k0_t2 k)]
    exact FB.step hk h _

theorem trips29 : ∀ t2 : Fin k0_t2_loop.trips, (k0_t29_loop t2).trips = t2.val / 2 + 1 := by decide
theorem lt29 (t2 : Fin k0_t2_loop.trips) (k : Fin (k0_t29_loop t2).trips) : k.val < 8 := by
  have h := k.isLt
  have h2 := t2.isLt
  have e : k0_t2_loop.trips = 16 := by decide
  have := trips29 t2
  omega
theorem off82 (t2 : Fin k0_t2_loop.trips) (k : Fin (k0_t29_loop t2).trips) : k0_off82 t2 k = ![512 * k.val, 0] := off_blk k.val (lt29 t2 k)

set_option warn.classDefReducibility false in
/-- Loop `k0_t29`, over the key blocks of the exponentials. -/
@[sl_loop] def vloop29 (k0_t2 : Fin k0_t2_loop.trips) (v23 : BitVec 32) (v362 : FVec Ideal S256x128 .fp8e4m3) (v365 : FVec Ideal S256x128 .fp8e5m2) (v368 : FVec Ideal S1x256 .f32) (v371 : FVec Ideal S1x256 .f32) (v410 : FVec Ideal S1x256 .f32) (v411 : BitVec 32) (init : FVec Ideal S1x256 .f32)  (z13 : BufTy.Contents (Elt Ideal) arg13.view.ty) :
    Idealize.ShloMosaic.LoopInv (M := 𝕄) Idealize.ShloMosaic.frame
      (wpE (defs₀ (F := Ideal)) Variants.none (c : Thread nD τ) none) Set.univ
      (k0_t29_loop k0_t2).lb (k0_t29_loop k0_t2).ub (k0_t29_loop k0_t2).st (k0_t29_ok k0_t2) init
      (k0_t29_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411) where
  inv k acc := iprop((∃ f13 : BufTy.Contents (Elt Ideal) arg13.view.ty, (arg13.view.loc (c : Thread nD τ) ↦[arg13.view.set]{fullShare} f13) ∗ ⌜atStart k f13 = atStart k z13⌝ ∗ ⌜FB  v410 k (arg13.view.read (Elt Ideal) f13, acc) (arg13.view.read (Elt Ideal) z13, init)⌝))
  step k acc := by
    have hk : 512 * (k.val + 1) ≤ 4096 := by have := lt29 k0_t2 k; omega
    unfold k0_t29_body
    iintro ⟨%f13, H13, %e13, %h⟩
    sl_exec
    sl_step
    iexists _
    isplitl [H13]
    · iexact H13
    isplitr
    · ipureintro; rfl
    ipureintro
    rw [View.read_writes_cons_put arg13.view f13 _ _ [] (off82 k0_t2 k), View.writes_nil]
    simp only [View.readAt_unit arg13.view _ _ (off82 k0_t2 k) (off82 k0_t2 k ▸ k0_off82_inb k0_t2 k)]
    exact FB.step hk h _

end Cert.Proof.Val
-- ==== Proof.S.LoopC.lean ====
/-
  The loops over the key blocks: probabilities.
-/
module

public import proofs.«01_k».proof.Proof.Gen.KernelIdeal.Skeleton
public import proofs.«01_k».proof.Proof.Gen.KernelIdeal.Frame
public import proofs.«01_k».proof.Proof.S.Steps
public import Idealize.ShloMosaic.Lib.LoopRemainder
public import proofs.«01_k».proof.Proof.S.Offs
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the run. -/
local notation "𝕄" => MT nD τ sig Unit (Elt Ideal) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

theorem trips7 : ∀ t2 : Fin k0_t2_loop.trips, (k0_t7_loop t2).trips = t2.val / 2 + 1 := by decide
theorem lt7 (t2 : Fin k0_t2_loop.trips) (k : Fin (k0_t7_loop t2).trips) : k.val < 8 := by
  have h := k.isLt
  have h2 := t2.isLt
  have e : k0_t2_loop.trips = 16 := by decide
  have := trips7 t2
  omega
theorem off18 (t2 : Fin k0_t2_loop.trips) (k : Fin (k0_t7_loop t2).trips) : k0_off18 t2 k = ![512 * k.val, 0] := off_blk k.val (lt7 t2 k)
theorem off19 (t2 : Fin k0_t2_loop.trips) (k : Fin (k0_t7_loop t2).trips) : k0_off19 t2 k = ![0, 512 * k.val] := offT_blk k.val (lt7 t2 k)

set_option warn.classDefReducibility false in
/-- Loop `k0_t7`, over the key blocks of the probabilities. -/
@[sl_loop] def vloop7 (k0_t2 : Fin k0_t2_loop.trips) (v23 : BitVec 32) (v26 : FVec Ideal S256x128 .fp8e4m3) (v29 : FVec Ideal S256x128 .fp8e5m2) (v32 : FVec Ideal S1x256 .f32) (v35 : FVec Ideal S1x256 .f32) (v74 : FVec Ideal S1x256 .f32) (v76 : FVec Ideal S1x256 .f32) (c0_i32_41 : BitVec 32) (v81 : BitVec 32) (v83 : FVec Ideal S1x256 .f32) (init : FVec Ideal S128x256 .f32) (X15 : BufTy.Contents (Elt Ideal) arg15.view.ty) (z13 : BufTy.Contents (Elt Ideal) arg13.view.ty) (z19 : BufTy.Contents (Elt Ideal) arg19.view.ty) :
    Idealize.ShloMosaic.LoopInv (M := 𝕄) Idealize.ShloMosaic.frame
      (wpE (defs₀ (F := Ideal)) Variants.none (c : Thread nD τ) none) Set.univ
      (k0_t7_loop k0_t2).lb (k0_t7_loop k0_t2).ub (k0_t7_loop k0_t2).st (k0_t7_ok k0_t2) init
      (k0_t7_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81 v83) where
  inv k acc := iprop((arg15.view.loc (c : Thread nD τ) ↦[arg15.view.set]{fullShare} X15) ∗ (∃ f13 : BufTy.Contents (Elt Ideal) arg13.view.ty, ∃ f19 : BufTy.Contents (Elt Ideal) arg19.view.ty, (arg13.view.loc (c : Thread nD τ) ↦[arg13.view.set]{fullShare} f13) ∗ (arg19.view.loc (c : Thread nD τ) ↦[arg19.view.set]{fullShare} f19) ∗ ⌜atStart k f13 = atStart k z13⌝ ∗ ⌜atStart k f19 = atStart k z19⌝ ∗ ⌜FC (arg15.view.read (Elt Ideal) X15) (k0_pay41 v29 v35) (k0_pay40 v74 v83) k (arg13.view.read (Elt Ideal) f13, arg19.view.read (Elt Ideal) f19, acc) (arg13.view.read (Elt Ideal) z13, arg19.view.read (Elt Ideal) z19, init)⌝))
  step k acc := by
    have hk : 512 * (k.val + 1) ≤ 4096 := by have := lt7 k0_t2 k; omega
    unfold k0_t7_body
    iintro ⟨H15, ⟨%f13, %f19, H13, H19, %e13, %e19, %h⟩⟩
    sl_exec
    sl_step
    isplitl [H15]
    · iexact H15
    iexists _
    iexists _
    isplitl [H13]
    · iexact H13
    isplitl [H19]
    · iexact H19
    isplitr
    · ipureintro; rfl
    isplitr
    · ipureintro; rfl
    ipureintro
    rw [View.read_writes_cons_put arg13.view f13 _ _ [] (off18 k0_t2 k), View.writes_nil]
    rw [View.read_writes_cons_put arg19.view f19 _ _ [] (off19 k0_t2 k), View.writes_nil]
    simp only [View.readAt_unit arg13.view _ _ (off18 k0_t2 k) (off18 k0_t2 k ▸ k0_off18_inb k0_t2 k), View.readAt_unit arg15.view _ _ (off19 k0_t2 k) (off19 k0_t2 k ▸ k0_off19_inb k0_t2 k), View.readAt_unit arg19.view _ _ (off19 k0_t2 k) (off19 k0_t2 k ▸ k0_off19_inb k0_t2 k)]
    exact FC.step hk h _ _ _

theorem trips15 : ∀ t2 : Fin k0_t2_loop.trips, (k0_t15_loop t2).trips = t2.val / 2 + 1 := by decide
theorem lt15 (t2 : Fin k0_t2_loop.trips) (k : Fin (k0_t15_loop t2).trips) : k.val < 8 := by
  have h := k.isLt
  have h2 := t2.isLt
  have e : k0_t2_loop.trips = 16 := by decide
  have := trips15 t2
  omega
theorem off40 (t2 : Fin k0_t2_loop.trips) (k : Fin (k0_t15_loop t2).trips) : k0_off40 t2 k = ![512 * k.val, 0] := off_blk k.val (lt15 t2 k)
theorem off41 (t2 : Fin k0_t2_loop.trips) (k : Fin (k0_t15_loop t2).trips) : k0_off41 t2 k = ![0, 512 * k.val] := offT_blk k.val (lt15 t2 k)

set_option warn.classDefReducibility false in
/-- Loop `k0_t15`, over the key blocks of the probabilities. -/
@[sl_loop] def vloop15 (k0_t2 : Fin k0_t2_loop.trips) (v6 : BitVec 32) (v23 : BitVec 32) (v138 : FVec Ideal S256x128 .fp8e4m3) (v141 : FVec Ideal S256x128 .fp8e5m2) (v144 : FVec Ideal S1x256 .f32) (v147 : FVec Ideal S1x256 .f32) (v201 : FVec Ideal S1x256 .f32) (v206 : FVec Ideal S128x256 .bf16) (c1_i32_93 : BitVec 32) (init : FVec Ideal S128x256 .f32) (X15 : BufTy.Contents (Elt Ideal) arg15.view.ty) (z13 : BufTy.Contents (Elt Ideal) arg13.view.ty) (z19 : BufTy.Contents (Elt Ideal) arg19.view.ty) :
    Idealize.ShloMosaic.LoopInv (M := 𝕄) Idealize.ShloMosaic.frame
      (wpE (defs₀ (F := Ideal)) Variants.none (c : Thread nD τ) none) Set.univ
      (k0_t15_loop k0_t2).lb (k0_t15_loop k0_t2).ub (k0_t15_loop k0_t2).st (k0_t15_ok k0_t2) init
      (k0_t15_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93) where
  inv k acc := iprop((arg15.view.loc (c : Thread nD τ) ↦[arg15.view.set]{fullShare} X15) ∗ (∃ f13 : BufTy.Contents (Elt Ideal) arg13.view.ty, ∃ f19 : BufTy.Contents (Elt Ideal) arg19.view.ty, (arg13.view.loc (c : Thread nD τ) ↦[arg13.view.set]{fullShare} f13) ∗ (arg19.view.loc (c : Thread nD τ) ↦[arg19.view.set]{fullShare} f19) ∗ ⌜atStart k f13 = atStart k z13⌝ ∗ ⌜atStart k f19 = atStart k z19⌝ ∗ ⌜FC (arg15.view.read (Elt Ideal) X15) v206 v201 k (arg13.view.read (Elt Ideal) f13, arg19.view.read (Elt Ideal) f19, acc) (arg13.view.read (Elt Ideal) z13, arg19.view.read (Elt Ideal) z19, init)⌝))
  step k acc := by
    have hk : 512 * (k.val + 1) ≤ 4096 := by have := lt15 k0_t2 k; omega
    unfold k0_t15_body
    iintro ⟨H15, ⟨%f13, %f19, H13, H19, %e13, %e19, %h⟩⟩
    sl_exec
    sl_step
    isplitl [H15]
    · iexact H15
    iexists _
    iexists _
    isplitl [H13]
    · iexact H13
    isplitl [H19]
    · iexact H19
    isplitr
    · ipureintro; rfl
    isplitr
    · ipureintro; rfl
    ipureintro
    rw [View.read_writes_cons_put arg13.view f13 _ _ [] (off40 k0_t2 k), View.writes_nil]
    rw [View.read_writes_cons_put arg19.view f19 _ _ [] (off41 k0_t2 k), View.writes_nil]
    simp only [View.readAt_unit arg13.view _ _ (off40 k0_t2 k) (off40 k0_t2 k ▸ k0_off40_inb k0_t2 k), View.readAt_unit arg15.view _ _ (off41 k0_t2 k) (off41 k0_t2 k ▸ k0_off41_inb k0_t2 k), View.readAt_unit arg19.view _ _ (off41 k0_t2 k) (off41 k0_t2 k ▸ k0_off41_inb k0_t2 k)]
    exact FC.step hk h _ _ _

theorem trips23 : ∀ t2 : Fin k0_t2_loop.trips, (k0_t23_loop t2).trips = t2.val / 2 + 1 := by decide
theorem lt23 (t2 : Fin k0_t2_loop.trips) (k : Fin (k0_t23_loop t2).trips) : k.val < 8 := by
  have h := k.isLt
  have h2 := t2.isLt
  have e : k0_t2_loop.trips = 16 := by decide
  have := trips23 t2
  omega
theorem off62 (t2 : Fin k0_t2_loop.trips) (k : Fin (k0_t23_loop t2).trips) : k0_off62 t2 k = ![512 * k.val, 0] := off_blk k.val (lt23 t2 k)
theorem off63 (t2 : Fin k0_t2_loop.trips) (k : Fin (k0_t23_loop t2).trips) : k0_off63 t2 k = ![0, 512 * k.val] := offT_blk k.val (lt23 t2 k)

set_option warn.classDefReducibility false in
/-- Loop `k0_t23`, over the key blocks of the probabilities. -/
@[sl_loop] def vloop23 (k0_t2 : Fin k0_t2_loop.trips) (v23 : BitVec 32) (v253 : FVec Ideal S256x128 .fp8e5m2) (v259 : FVec Ideal S1x256 .f32) (v269 : FVec Ideal S1x256 .f32) (v271 : BitVec 32) (v281 : FVec Ideal S512x256 .f32) (v285 : IVec S512x256 32) (v286 : IVec S512x256 32) (v287 : IVec S512x256 32) (v307 : FVec Ideal S1x256 .f32) (init : FVec Ideal S128x256 .f32) (X15 : BufTy.Contents (Elt Ideal) arg15.view.ty) (z13 : BufTy.Contents (Elt Ideal) arg13.view.ty) (z19 : BufTy.Contents (Elt Ideal) arg19.view.ty) :
    Idealize.ShloMosaic.LoopInv (M := 𝕄) Idealize.ShloMosaic.frame
      (wpE (defs₀ (F := Ideal)) Variants.none (c : Thread nD τ) none) Set.univ
      (k0_t23_loop k0_t2).lb (k0_t23_loop k0_t2).ub (k0_t23_loop k0_t2).st (k0_t23_ok k0_t2) init
      (k0_t23_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v253 v259 v269 v271 v281 v285 v286 v287 v307) where
  inv k acc := iprop((arg15.view.loc (c : Thread nD τ) ↦[arg15.view.set]{fullShare} X15) ∗ (∃ f13 : BufTy.Contents (Elt Ideal) arg13.view.ty, ∃ f19 : BufTy.Contents (Elt Ideal) arg19.view.ty, (arg13.view.loc (c : Thread nD τ) ↦[arg13.view.set]{fullShare} f13) ∗ (arg19.view.loc (c : Thread nD τ) ↦[arg19.view.set]{fullShare} f19) ∗ ⌜atStart k f13 = atStart k z13⌝ ∗ ⌜atStart k f19 = atStart k z19⌝ ∗ ⌜FC (arg15.view.read (Elt Ideal) X15) (k0_pay134 v253 v259) (k0_pay133 v269 v281 v285 v286 v287 v307) k (arg13.view.read (Elt Ideal) f13, arg19.view.read (Elt Ideal) f19, acc) (arg13.view.read (Elt Ideal) z13, arg19.view.read (Elt Ideal) z19, init)⌝))
  step k acc := by
    have hk : 512 * (k.val + 1) ≤ 4096 := by have := lt23 k0_t2 k; omega
    unfold k0_t23_body
    iintro ⟨H15, ⟨%f13, %f19, H13, H19, %e13, %e19, %h⟩⟩
    sl_exec
    sl_step
    isplitl [H15]
    · iexact H15
    iexists _
    iexists _
    isplitl [H13]
    · iexact H13
    isplitl [H19]
    · iexact H19
    isplitr
    · ipureintro; rfl
    isplitr
    · ipureintro; rfl
    ipureintro
    rw [View.read_writes_cons_put arg13.view f13 _ _ [] (off62 k0_t2 k), View.writes_nil]
    rw [View.read_writes_cons_put arg19.view f19 _ _ [] (off63 k0_t2 k), View.writes_nil]
    simp only [View.readAt_unit arg13.view _ _ (off62 k0_t2 k) (off62 k0_t2 k ▸ k0_off62_inb k0_t2 k), View.readAt_unit arg15.view _ _ (off63 k0_t2 k) (off63 k0_t2 k ▸ k0_off63_inb k0_t2 k), View.readAt_unit arg19.view _ _ (off63 k0_t2 k) (off63 k0_t2 k ▸ k0_off63_inb k0_t2 k)]
    exact FC.step hk h _ _ _

theorem trips31 : ∀ t2 : Fin k0_t2_loop.trips, (k0_t31_loop t2).trips = t2.val / 2 + 1 := by decide
theorem lt31 (t2 : Fin k0_t2_loop.trips) (k : Fin (k0_t31_loop t2).trips) : k.val < 8 := by
  have h := k.isLt
  have h2 := t2.isLt
  have e : k0_t2_loop.trips = 16 := by decide
  have := trips31 t2
  omega
theorem off84 (t2 : Fin k0_t2_loop.trips) (k : Fin (k0_t31_loop t2).trips) : k0_off84 t2 k = ![512 * k.val, 0] := off_blk k.val (lt31 t2 k)
theorem off85 (t2 : Fin k0_t2_loop.trips) (k : Fin (k0_t31_loop t2).trips) : k0_off85 t2 k = ![0, 512 * k.val] := offT_blk k.val (lt31 t2 k)

set_option warn.classDefReducibility false in
/-- Loop `k0_t31`, over the key blocks of the probabilities. -/
@[sl_loop] def vloop31 (k0_t2 : Fin k0_t2_loop.trips) (v23 : BitVec 32) (v362 : FVec Ideal S256x128 .fp8e4m3) (v365 : FVec Ideal S256x128 .fp8e5m2) (v368 : FVec Ideal S1x256 .f32) (v371 : FVec Ideal S1x256 .f32) (v410 : FVec Ideal S1x256 .f32) (v411 : BitVec 32) (v419 : FVec Ideal S1x256 .f32) (init : FVec Ideal S128x256 .f32) (X15 : BufTy.Contents (Elt Ideal) arg15.view.ty) (z13 : BufTy.Contents (Elt Ideal) arg13.view.ty) (z19 : BufTy.Contents (Elt Ideal) arg19.view.ty) :
    Idealize.ShloMosaic.LoopInv (M := 𝕄) Idealize.ShloMosaic.frame
      (wpE (defs₀ (F := Ideal)) Variants.none (c : Thread nD τ) none) Set.univ
      (k0_t31_loop k0_t2).lb (k0_t31_loop k0_t2).ub (k0_t31_loop k0_t2).st (k0_t31_ok k0_t2) init
      (k0_t31_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v362 v365 v368 v371 v410 v411 v419) where
  inv k acc := iprop((arg15.view.loc (c : Thread nD τ) ↦[arg15.view.set]{fullShare} X15) ∗ (∃ f13 : BufTy.Contents (Elt Ideal) arg13.view.ty, ∃ f19 : BufTy.Contents (Elt Ideal) arg19.view.ty, (arg13.view.loc (c : Thread nD τ) ↦[arg13.view.set]{fullShare} f13) ∗ (arg19.view.loc (c : Thread nD τ) ↦[arg19.view.set]{fullShare} f19) ∗ ⌜atStart k f13 = atStart k z13⌝ ∗ ⌜atStart k f19 = atStart k z19⌝ ∗ ⌜FC (arg15.view.read (Elt Ideal) X15) (k0_pay181 v365 v371) (k0_pay180 v410 v419) k (arg13.view.read (Elt Ideal) f13, arg19.view.read (Elt Ideal) f19, acc) (arg13.view.read (Elt Ideal) z13, arg19.view.read (Elt Ideal) z19, init)⌝))
  step k acc := by
    have hk : 512 * (k.val + 1) ≤ 4096 := by have := lt31 k0_t2 k; omega
    unfold k0_t31_body
    iintro ⟨H15, ⟨%f13, %f19, H13, H19, %e13, %e19, %h⟩⟩
    sl_exec
    sl_step
    isplitl [H15]
    · iexact H15
    iexists _
    iexists _
    isplitl [H13]
    · iexact H13
    isplitl [H19]
    · iexact H19
    isplitr
    · ipureintro; rfl
    isplitr
    · ipureintro; rfl
    ipureintro
    rw [View.read_writes_cons_put arg13.view f13 _ _ [] (off84 k0_t2 k), View.writes_nil]
    rw [View.read_writes_cons_put arg19.view f19 _ _ [] (off85 k0_t2 k), View.writes_nil]
    simp only [View.readAt_unit arg13.view _ _ (off84 k0_t2 k) (off84 k0_t2 k ▸ k0_off84_inb k0_t2 k), View.readAt_unit arg15.view _ _ (off85 k0_t2 k) (off85 k0_t2 k ▸ k0_off85_inb k0_t2 k), View.readAt_unit arg19.view _ _ (off85 k0_t2 k) (off85 k0_t2 k ▸ k0_off85_inb k0_t2 k)]
    exact FC.step hk h _ _ _

end Cert.Proof.Val
-- ==== Proof.S.LoopD.lean ====
/-
  The loops over the key blocks: gradients.
-/
module

public import proofs.«01_k».proof.Proof.Gen.KernelIdeal.Skeleton
public import proofs.«01_k».proof.Proof.Gen.KernelIdeal.Frame
public import proofs.«01_k».proof.Proof.S.Steps
public import Idealize.ShloMosaic.Lib.LoopRemainder
public import proofs.«01_k».proof.Proof.S.Offs
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the run. -/
local notation "𝕄" => MT nD τ sig Unit (Elt Ideal) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

theorem trips9 : ∀ t2 : Fin k0_t2_loop.trips, (k0_t9_loop t2).trips = t2.val / 2 + 1 := by decide
theorem lt9 (t2 : Fin k0_t2_loop.trips) (k : Fin (k0_t9_loop t2).trips) : k.val < 8 := by
  have h := k.isLt
  have h2 := t2.isLt
  have e : k0_t2_loop.trips = 16 := by decide
  have := trips9 t2
  omega
theorem off22 (t2 : Fin k0_t2_loop.trips) (k : Fin (k0_t9_loop t2).trips) : k0_off22 t2 k = ![0, 512 * k.val, 0] := off3_blk k.val (lt9 t2 k)
theorem off24 (t2 : Fin k0_t2_loop.trips) (k : Fin (k0_t9_loop t2).trips) : k0_off24 t2 k = ![512 * k.val, 0] := off_blk k.val (lt9 t2 k)
theorem off25 (t2 : Fin k0_t2_loop.trips) (k : Fin (k0_t9_loop t2).trips) : k0_off25 t2 k = ![0, 512 * k.val] := offT_blk k.val (lt9 t2 k)
theorem off23 (t2 : Fin k0_t2_loop.trips) (k : Fin (k0_t9_loop t2).trips) : k0_off23 t2 k = ![512 * k.val, 0] := off_blk k.val (lt9 t2 k)

set_option warn.classDefReducibility false in
/-- Loop `k0_t9`, over the key blocks of the gradients. -/
@[sl_loop] def vloop9 (k0_t2 : Fin k0_t2_loop.trips) (v23 : BitVec 32) (v26 : FVec Ideal S256x128 .fp8e4m3) (v29 : FVec Ideal S256x128 .fp8e5m2) (v32 : FVec Ideal S1x256 .f32) (v35 : FVec Ideal S1x256 .f32) (v74 : FVec Ideal S1x256 .f32) (v76 : FVec Ideal S1x256 .f32) (c0_i32_41 : BitVec 32) (v81 : BitVec 32) (v103 : FVec Ideal S128x256 .f32) (init : FVec Ideal S128x256 .f32) (X4 : BufTy.Contents (Elt Ideal) arg4.view.ty) (X17 : BufTy.Contents (Elt Ideal) arg17.view.ty) (X13 : BufTy.Contents (Elt Ideal) arg13.view.ty) (X14 : BufTy.Contents (Elt Ideal) arg14.view.ty) (z18 : BufTy.Contents (Elt Ideal) arg18.view.ty) :
    Idealize.ShloMosaic.LoopInv (M := 𝕄) Idealize.ShloMosaic.frame
      (wpE (defs₀ (F := Ideal)) Variants.none (c : Thread nD τ) none) Set.univ
      (k0_t9_loop k0_t2).lb (k0_t9_loop k0_t2).ub (k0_t9_loop k0_t2).st (k0_t9_ok k0_t2) init
      (k0_t9_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v23 v26 v29 v32 v35 v74 v76 c0_i32_41 v81 v103) where
  inv k acc := iprop((arg4.view.loc (c : Thread nD τ) ↦[arg4.view.set]{fullShare} X4) ∗ (arg17.view.loc (c : Thread nD τ) ↦[arg17.view.set]{fullShare} X17) ∗ (arg13.view.loc (c : Thread nD τ) ↦[arg13.view.set]{fullShare} X13) ∗ (arg14.view.loc (c : Thread nD τ) ↦[arg14.view.set]{fullShare} X14) ∗ (∃ f18 : BufTy.Contents (Elt Ideal) arg18.view.ty, (arg18.view.loc (c : Thread nD τ) ↦[arg18.view.set]{fullShare} f18) ∗ ⌜atStart k f18 = atStart k z18⌝ ∗ ⌜FD (arg4.view.read (Elt Ideal) X4) (arg17.view.read (Elt Ideal) X17) (arg13.view.read (Elt Ideal) X13) (arg14.view.read (Elt Ideal) X14) v29 (k0_pay53 v29 v35 v103) (k0_pay54 v26 v32 v35) k (arg18.view.read (Elt Ideal) f18, acc) (arg18.view.read (Elt Ideal) z18, init)⌝))
  step k acc := by
    have hk : 512 * (k.val + 1) ≤ 4096 := by have := lt9 k0_t2 k; omega
    unfold k0_t9_body
    iintro ⟨H4, H17, H13, H14, ⟨%f18, H18, %e18, %h⟩⟩
    sl_exec
    sl_step
    isplitl [H4]
    · iexact H4
    isplitl [H17]
    · iexact H17
    isplitl [H13]
    · iexact H13
    isplitl [H14]
    · iexact H14
    iexists _
    isplitl [H18]
    · iexact H18
    isplitr
    · ipureintro; rfl
    ipureintro
    rw [View.read_writes_cons_put arg18.view f18 _ _ [] (off25 k0_t2 k), View.writes_nil]
    simp only [View.readAt_unit arg4.view _ _ (off22 k0_t2 k) (off22 k0_t2 k ▸ k0_off22_inb k0_t2 k), View.readAt_unit arg13.view _ _ (off24 k0_t2 k) (off24 k0_t2 k ▸ k0_off24_inb k0_t2 k), View.readAt_unit arg14.view _ _ (off25 k0_t2 k) (off25 k0_t2 k ▸ k0_off25_inb k0_t2 k), View.readAt_unit arg17.view _ _ (off23 k0_t2 k) (off23 k0_t2 k ▸ k0_off23_inb k0_t2 k), View.readAt_unit arg18.view _ _ (off25 k0_t2 k) (off25 k0_t2 k ▸ k0_off25_inb k0_t2 k)]
    exact FD.step hk h _ _ _ _ _

theorem trips17 : ∀ t2 : Fin k0_t2_loop.trips, (k0_t17_loop t2).trips = t2.val / 2 + 1 := by decide
theorem lt17 (t2 : Fin k0_t2_loop.trips) (k : Fin (k0_t17_loop t2).trips) : k.val < 8 := by
  have h := k.isLt
  have h2 := t2.isLt
  have e : k0_t2_loop.trips = 16 := by decide
  have := trips17 t2
  omega
theorem off44 (t2 : Fin k0_t2_loop.trips) (k : Fin (k0_t17_loop t2).trips) : k0_off44 t2 k = ![0, 512 * k.val, 0] := off3_blk k.val (lt17 t2 k)
theorem off46 (t2 : Fin k0_t2_loop.trips) (k : Fin (k0_t17_loop t2).trips) : k0_off46 t2 k = ![512 * k.val, 0] := off_blk k.val (lt17 t2 k)
theorem off47 (t2 : Fin k0_t2_loop.trips) (k : Fin (k0_t17_loop t2).trips) : k0_off47 t2 k = ![0, 512 * k.val] := offT_blk k.val (lt17 t2 k)
theorem off45 (t2 : Fin k0_t2_loop.trips) (k : Fin (k0_t17_loop t2).trips) : k0_off45 t2 k = ![512 * k.val, 0] := off_blk k.val (lt17 t2 k)

set_option warn.classDefReducibility false in
/-- Loop `k0_t17`, over the key blocks of the gradients. -/
@[sl_loop] def vloop17 (k0_t2 : Fin k0_t2_loop.trips) (v6 : BitVec 32) (v23 : BitVec 32) (v138 : FVec Ideal S256x128 .fp8e4m3) (v141 : FVec Ideal S256x128 .fp8e5m2) (v144 : FVec Ideal S1x256 .f32) (v147 : FVec Ideal S1x256 .f32) (v201 : FVec Ideal S1x256 .f32) (v206 : FVec Ideal S128x256 .bf16) (c1_i32_93 : BitVec 32) (v215 : FVec Ideal S128x256 .f32) (init : FVec Ideal S128x256 .f32) (X4 : BufTy.Contents (Elt Ideal) arg4.view.ty) (X17 : BufTy.Contents (Elt Ideal) arg17.view.ty) (X13 : BufTy.Contents (Elt Ideal) arg13.view.ty) (X14 : BufTy.Contents (Elt Ideal) arg14.view.ty) (z18 : BufTy.Contents (Elt Ideal) arg18.view.ty) :
    Idealize.ShloMosaic.LoopInv (M := 𝕄) Idealize.ShloMosaic.frame
      (wpE (defs₀ (F := Ideal)) Variants.none (c : Thread nD τ) none) Set.univ
      (k0_t17_loop k0_t2).lb (k0_t17_loop k0_t2).ub (k0_t17_loop k0_t2).st (k0_t17_ok k0_t2) init
      (k0_t17_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v138 v141 v144 v147 v201 v206 c1_i32_93 v215) where
  inv k acc := iprop((arg4.view.loc (c : Thread nD τ) ↦[arg4.view.set]{fullShare} X4) ∗ (arg17.view.loc (c : Thread nD τ) ↦[arg17.view.set]{fullShare} X17) ∗ (arg13.view.loc (c : Thread nD τ) ↦[arg13.view.set]{fullShare} X13) ∗ (arg14.view.loc (c : Thread nD τ) ↦[arg14.view.set]{fullShare} X14) ∗ (∃ f18 : BufTy.Contents (Elt Ideal) arg18.view.ty, (arg18.view.loc (c : Thread nD τ) ↦[arg18.view.set]{fullShare} f18) ∗ ⌜atStart k f18 = atStart k z18⌝ ∗ ⌜FD (arg4.view.read (Elt Ideal) X4) (arg17.view.read (Elt Ideal) X17) (arg13.view.read (Elt Ideal) X13) (arg14.view.read (Elt Ideal) X14) v141 (k0_pay98 v147 v206 v215) (k0_pay99 v138 v144 v147) k (arg18.view.read (Elt Ideal) f18, acc) (arg18.view.read (Elt Ideal) z18, init)⌝))
  step k acc := by
    have hk : 512 * (k.val + 1) ≤ 4096 := by have := lt17 k0_t2 k; omega
    unfold k0_t17_body
    iintro ⟨H4, H17, H13, H14, ⟨%f18, H18, %e18, %h⟩⟩
    sl_exec
    sl_step
    isplitl [H4]
    · iexact H4
    isplitl [H17]
    · iexact H17
    isplitl [H13]
    · iexact H13
    isplitl [H14]
    · iexact H14
    iexists _
    isplitl [H18]
    · iexact H18
    isplitr
    · ipureintro; rfl
    ipureintro
    rw [View.read_writes_cons_put arg18.view f18 _ _ [] (off47 k0_t2 k), View.writes_nil]
    simp only [View.readAt_unit arg4.view _ _ (off44 k0_t2 k) (off44 k0_t2 k ▸ k0_off44_inb k0_t2 k), View.readAt_unit arg13.view _ _ (off46 k0_t2 k) (off46 k0_t2 k ▸ k0_off46_inb k0_t2 k), View.readAt_unit arg14.view _ _ (off47 k0_t2 k) (off47 k0_t2 k ▸ k0_off47_inb k0_t2 k), View.readAt_unit arg17.view _ _ (off45 k0_t2 k) (off45 k0_t2 k ▸ k0_off45_inb k0_t2 k), View.readAt_unit arg18.view _ _ (off47 k0_t2 k) (off47 k0_t2 k ▸ k0_off47_inb k0_t2 k)]
    exact FD.step hk h _ _ _ _ _

theorem trips25 : ∀ t2 : Fin k0_t2_loop.trips, (k0_t25_loop t2).trips = t2.val / 2 + 1 := by decide
theorem lt25 (t2 : Fin k0_t2_loop.trips) (k : Fin (k0_t25_loop t2).trips) : k.val < 8 := by
  have h := k.isLt
  have h2 := t2.isLt
  have e : k0_t2_loop.trips = 16 := by decide
  have := trips25 t2
  omega
theorem off66 (t2 : Fin k0_t2_loop.trips) (k : Fin (k0_t25_loop t2).trips) : k0_off66 t2 k = ![0, 512 * k.val, 0] := off3_blk k.val (lt25 t2 k)
theorem off68 (t2 : Fin k0_t2_loop.trips) (k : Fin (k0_t25_loop t2).trips) : k0_off68 t2 k = ![512 * k.val, 0] := off_blk k.val (lt25 t2 k)
theorem off69 (t2 : Fin k0_t2_loop.trips) (k : Fin (k0_t25_loop t2).trips) : k0_off69 t2 k = ![0, 512 * k.val] := offT_blk k.val (lt25 t2 k)
theorem off67 (t2 : Fin k0_t2_loop.trips) (k : Fin (k0_t25_loop t2).trips) : k0_off67 t2 k = ![512 * k.val, 0] := off_blk k.val (lt25 t2 k)

set_option warn.classDefReducibility false in
/-- Loop `k0_t25`, over the key blocks of the gradients. -/
@[sl_loop] def vloop25 (k0_t2 : Fin k0_t2_loop.trips) (v6 : BitVec 32) (v23 : BitVec 32) (v250 : FVec Ideal S256x128 .fp8e4m3) (v253 : FVec Ideal S256x128 .fp8e5m2) (v256 : FVec Ideal S1x256 .f32) (v259 : FVec Ideal S1x256 .f32) (v327 : FVec Ideal S128x256 .f32) (v328 : FVec Ideal S128x256 .f32) (v329 : FVec Ideal S128x256 .f32) (init : FVec Ideal S128x256 .f32) (X4 : BufTy.Contents (Elt Ideal) arg4.view.ty) (X17 : BufTy.Contents (Elt Ideal) arg17.view.ty) (X13 : BufTy.Contents (Elt Ideal) arg13.view.ty) (X14 : BufTy.Contents (Elt Ideal) arg14.view.ty) (z18 : BufTy.Contents (Elt Ideal) arg18.view.ty) :
    Idealize.ShloMosaic.LoopInv (M := 𝕄) Idealize.ShloMosaic.frame
      (wpE (defs₀ (F := Ideal)) Variants.none (c : Thread nD τ) none) Set.univ
      (k0_t25_loop k0_t2).lb (k0_t25_loop k0_t2).ub (k0_t25_loop k0_t2).st (k0_t25_ok k0_t2) init
      (k0_t25_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v6 v23 v250 v253 v256 v259 v327 v328 v329) where
  inv k acc := iprop((arg4.view.loc (c : Thread nD τ) ↦[arg4.view.set]{fullShare} X4) ∗ (arg17.view.loc (c : Thread nD τ) ↦[arg17.view.set]{fullShare} X17) ∗ (arg13.view.loc (c : Thread nD τ) ↦[arg13.view.set]{fullShare} X13) ∗ (arg14.view.loc (c : Thread nD τ) ↦[arg14.view.set]{fullShare} X14) ∗ (∃ f18 : BufTy.Contents (Elt Ideal) arg18.view.ty, (arg18.view.loc (c : Thread nD τ) ↦[arg18.view.set]{fullShare} f18) ∗ ⌜atStart k f18 = atStart k z18⌝ ∗ ⌜FD (arg4.view.read (Elt Ideal) X4) (arg17.view.read (Elt Ideal) X17) (arg13.view.read (Elt Ideal) X13) (arg14.view.read (Elt Ideal) X14) v253 (k0_pay148 v259 v327 v328 v329) (k0_pay149 v250 v256 v259) k (arg18.view.read (Elt Ideal) f18, acc) (arg18.view.read (Elt Ideal) z18, init)⌝))
  step k acc := by
    have hk : 512 * (k.val + 1) ≤ 4096 := by have := lt25 k0_t2 k; omega
    unfold k0_t25_body
    iintro ⟨H4, H17, H13, H14, ⟨%f18, H18, %e18, %h⟩⟩
    sl_exec
    sl_step
    isplitl [H4]
    · iexact H4
    isplitl [H17]
    · iexact H17
    isplitl [H13]
    · iexact H13
    isplitl [H14]
    · iexact H14
    iexists _
    isplitl [H18]
    · iexact H18
    isplitr
    · ipureintro; rfl
    ipureintro
    rw [View.read_writes_cons_put arg18.view f18 _ _ [] (off69 k0_t2 k), View.writes_nil]
    simp only [View.readAt_unit arg4.view _ _ (off66 k0_t2 k) (off66 k0_t2 k ▸ k0_off66_inb k0_t2 k), View.readAt_unit arg13.view _ _ (off68 k0_t2 k) (off68 k0_t2 k ▸ k0_off68_inb k0_t2 k), View.readAt_unit arg14.view _ _ (off69 k0_t2 k) (off69 k0_t2 k ▸ k0_off69_inb k0_t2 k), View.readAt_unit arg17.view _ _ (off67 k0_t2 k) (off67 k0_t2 k ▸ k0_off67_inb k0_t2 k), View.readAt_unit arg18.view _ _ (off69 k0_t2 k) (off69 k0_t2 k ▸ k0_off69_inb k0_t2 k)]
    exact FD.step hk h _ _ _ _ _

theorem trips33 : ∀ t2 : Fin k0_t2_loop.trips, (k0_t33_loop t2).trips = t2.val / 2 + 1 := by decide
theorem lt33 (t2 : Fin k0_t2_loop.trips) (k : Fin (k0_t33_loop t2).trips) : k.val < 8 := by
  have h := k.isLt
  have h2 := t2.isLt
  have e : k0_t2_loop.trips = 16 := by decide
  have := trips33 t2
  omega
theorem off88 (t2 : Fin k0_t2_loop.trips) (k : Fin (k0_t33_loop t2).trips) : k0_off88 t2 k = ![0, 512 * k.val, 0] := off3_blk k.val (lt33 t2 k)
theorem off90 (t2 : Fin k0_t2_loop.trips) (k : Fin (k0_t33_loop t2).trips) : k0_off90 t2 k = ![512 * k.val, 0] := off_blk k.val (lt33 t2 k)
theorem off91 (t2 : Fin k0_t2_loop.trips) (k : Fin (k0_t33_loop t2).trips) : k0_off91 t2 k = ![0, 512 * k.val] := offT_blk k.val (lt33 t2 k)
theorem off89 (t2 : Fin k0_t2_loop.trips) (k : Fin (k0_t33_loop t2).trips) : k0_off89 t2 k = ![512 * k.val, 0] := off_blk k.val (lt33 t2 k)

set_option warn.classDefReducibility false in
/-- Loop `k0_t33`, over the key blocks of the gradients. -/
@[sl_loop] def vloop33 (k0_t2 : Fin k0_t2_loop.trips) (v365 : FVec Ideal S256x128 .fp8e5m2) (v446 : FVec Ideal S1x256 .f32) (v452 : FVec Ideal S128x256 .bf16) (init : FVec Ideal S128x256 .f32) (X4 : BufTy.Contents (Elt Ideal) arg4.view.ty) (X17 : BufTy.Contents (Elt Ideal) arg17.view.ty) (X13 : BufTy.Contents (Elt Ideal) arg13.view.ty) (X14 : BufTy.Contents (Elt Ideal) arg14.view.ty) (z18 : BufTy.Contents (Elt Ideal) arg18.view.ty) :
    Idealize.ShloMosaic.LoopInv (M := 𝕄) Idealize.ShloMosaic.frame
      (wpE (defs₀ (F := Ideal)) Variants.none (c : Thread nD τ) none) Set.univ
      (k0_t33_loop k0_t2).lb (k0_t33_loop k0_t2).ub (k0_t33_loop k0_t2).st (k0_t33_ok k0_t2) init
      (k0_t33_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t2 v365 v446 v452) where
  inv k acc := iprop((arg4.view.loc (c : Thread nD τ) ↦[arg4.view.set]{fullShare} X4) ∗ (arg17.view.loc (c : Thread nD τ) ↦[arg17.view.set]{fullShare} X17) ∗ (arg13.view.loc (c : Thread nD τ) ↦[arg13.view.set]{fullShare} X13) ∗ (arg14.view.loc (c : Thread nD τ) ↦[arg14.view.set]{fullShare} X14) ∗ (∃ f18 : BufTy.Contents (Elt Ideal) arg18.view.ty, (arg18.view.loc (c : Thread nD τ) ↦[arg18.view.set]{fullShare} f18) ∗ ⌜atStart k f18 = atStart k z18⌝ ∗ ⌜FD (arg4.view.read (Elt Ideal) X4) (arg17.view.read (Elt Ideal) X17) (arg13.view.read (Elt Ideal) X13) (arg14.view.read (Elt Ideal) X14) v365 v446 v452 k (arg18.view.read (Elt Ideal) f18, acc) (arg18.view.read (Elt Ideal) z18, init)⌝))
  step k acc := by
    have hk : 512 * (k.val + 1) ≤ 4096 := by have := lt33 k0_t2 k; omega
    unfold k0_t33_body
    iintro ⟨H4, H17, H13, H14, ⟨%f18, H18, %e18, %h⟩⟩
    sl_exec
    sl_step
    isplitl [H4]
    · iexact H4
    isplitl [H17]
    · iexact H17
    isplitl [H13]
    · iexact H13
    isplitl [H14]
    · iexact H14
    iexists _
    isplitl [H18]
    · iexact H18
    isplitr
    · ipureintro; rfl
    ipureintro
    rw [View.read_writes_cons_put arg18.view f18 _ _ [] (off91 k0_t2 k), View.writes_nil]
    simp only [View.readAt_unit arg4.view _ _ (off88 k0_t2 k) (off88 k0_t2 k ▸ k0_off88_inb k0_t2 k), View.readAt_unit arg13.view _ _ (off90 k0_t2 k) (off90 k0_t2 k ▸ k0_off90_inb k0_t2 k), View.readAt_unit arg14.view _ _ (off91 k0_t2 k) (off91 k0_t2 k ▸ k0_off91_inb k0_t2 k), View.readAt_unit arg17.view _ _ (off89 k0_t2 k) (off89 k0_t2 k ▸ k0_off89_inb k0_t2 k), View.readAt_unit arg18.view _ _ (off91 k0_t2 k) (off91 k0_t2 k ▸ k0_off91_inb k0_t2 k)]
    exact FD.step hk h _ _ _ _ _

end Cert.Proof.Val
-- ==== Proof.S.Outer.lean ====
/-
  The loop over the row blocks: what the arrays hold after `k` blocks of 256 rows.
-/
module

public import proofs.«01_k».proof.Proof.S.LoopA
public import proofs.«01_k».proof.Proof.S.LoopB
public import proofs.«01_k».proof.Proof.S.LoopC
public import proofs.«01_k».proof.Proof.S.LoopD
public import proofs.«01_k».proof.Proof.S.Rows
public import Idealize.ShloMosaic.Lib.LoopRemainder
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The resource algebra of the run. -/
local notation "𝕄" => MT nD τ sig Unit (Elt Ideal) ℕ (UR sig nD τ) ℕ
variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)
set_option maxHeartbeats 1500000

theorem trips2 : k0_t2_loop.trips = 16 := by decide
theorem lt2 (k : Fin k0_t2_loop.trips) : k.val < 16 := by have h := k.isLt; have e := trips2; omega
theorem off5 : ∀ k : Fin k0_t2_loop.trips, k0_off5 k = ![0, 256 * k.val, 0] := by decide
theorem off30 : ∀ k : Fin k0_t2_loop.trips, k0_off30 k = ![0, 256 * k.val, 128] := by decide
theorem off52 : ∀ k : Fin k0_t2_loop.trips, k0_off52 k = ![0, 256 * k.val, 256] := by decide
theorem off74 : ∀ k : Fin k0_t2_loop.trips, k0_off74 k = ![0, 256 * k.val, 384] := by decide
theorem off6 : ∀ k : Fin k0_t2_loop.trips, k0_off6 k = ![0, 0, 0, 256 * k.val] := by decide
theorem off31 : ∀ k : Fin k0_t2_loop.trips, k0_off31 k = ![0, 0, 1, 256 * k.val] := by decide
theorem off53 : ∀ k : Fin k0_t2_loop.trips, k0_off53 k = ![0, 0, 2, 256 * k.val] := by decide
theorem off75 : ∀ k : Fin k0_t2_loop.trips, k0_off75 k = ![0, 0, 3, 256 * k.val] := by decide
theorem off13 : ∀ k : Fin k0_t2_loop.trips, k0_off13 k = ![0, 512 * (k.val / 2), 0] := by decide
theorem off14 : ∀ k : Fin k0_t2_loop.trips, k0_off14 k = ![512 * (k.val / 2), 0] := by decide
theorem off15 : ∀ k : Fin k0_t2_loop.trips, k0_off15 k = ![512 * (k.val / 2), 0] := by decide

theorem tile_put (f : BufTy.Contents (Elt Ideal) arg13.view.ty) (k : Fin k0_t2_loop.trips) (w : Vec Ideal S512x256 .f32) :
    arg13.view.read (Elt Ideal) (arg13.view.writes (Elt Ideal) f [⟨Rect.unit (k0_off15 k) S512x256.size (k0_off15_inb k), w⟩])
      = VecWindow.put (arg13.view.read (Elt Ideal) f) ![512 * (k.val / 2), 0] S512x256.size w := by
  rw [View.read_writes_cons_put arg13.view _ _ _ [] (off15 k), View.writes_nil]
theorem rows_put (f : BufTy.Contents (Elt Ideal) arg10.view.ty) (k : Fin k0_t2_loop.trips) (w0 w1 w2 w3 : Vec Ideal S1x256x128 .bf16) :
    arg10.view.read (Elt Ideal) (arg10.view.writes (Elt Ideal) f [⟨Rect.unit (k0_off74 k) S1x256x128.size (k0_off74_inb k), w3⟩,
      ⟨Rect.unit (k0_off52 k) S1x256x128.size (k0_off52_inb k), w2⟩, ⟨Rect.unit (k0_off30 k) S1x256x128.size (k0_off30_inb k), w1⟩,
      ⟨Rect.unit (k0_off5 k) S1x256x128.size (k0_off5_inb k), w0⟩])
      = VecWindow.put (VecWindow.put (VecWindow.put (VecWindow.put (arg10.view.read (Elt Ideal) f) ![0, 256 * k.val, 0] S1x256x128.size w0)
          ![0, 256 * k.val, 128] S1x256x128.size w1) ![0, 256 * k.val, 256] S1x256x128.size w2) ![0, 256 * k.val, 384] S1x256x128.size w3 := by
  rw [View.read_writes_cons_put arg10.view _ _ _ _ (off74 k), View.read_writes_cons_put arg10.view _ _ _ _ (off52 k),
    View.read_writes_cons_put arg10.view _ _ _ _ (off30 k), View.read_writes_cons_put arg10.view _ _ _ _ (off5 k), View.writes_nil]

set_option warn.classDefReducibility false in
/-- The loop over the row blocks. -/
@[sl_loop] def vloop2 (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (z10 : BufTy.Contents (Elt Ideal) arg10.view.ty) (z18 : BufTy.Contents (Elt Ideal) arg18.view.ty) (z19 : BufTy.Contents (Elt Ideal) arg19.view.ty) :
    Idealize.ShloMosaic.LoopInv (M := 𝕄) Idealize.ShloMosaic.frame
      (wpE (defs₀ (F := Ideal)) Variants.none (c : Thread nD τ) none) Set.univ
      k0_t2_loop.lb k0_t2_loop.ub k0_t2_loop.st k0_t2_ok ()
      (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) where
  inv k _ := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (∃ f10 : BufTy.Contents (Elt Ideal) arg10.view.ty, ∃ f13 : BufTy.Contents (Elt Ideal) arg13.view.ty, ∃ f18 : BufTy.Contents (Elt Ideal) arg18.view.ty, ∃ f19 : BufTy.Contents (Elt Ideal) arg19.view.ty, (arg10.view.loc (c : Thread nD τ) ↦[arg10.view.set]{fullShare} f10) ∗ (arg13.view.loc (c : Thread nD τ) ↦[arg13.view.set]{fullShare} f13) ∗ (arg18.view.loc (c : Thread nD τ) ↦[arg18.view.set]{fullShare} f18) ∗ (arg19.view.loc (c : Thread nD τ) ↦[arg19.view.set]{fullShare} f19) ∗ ⌜atStart k f10 = atStart k z10⌝ ∗ ⌜atStart k f18 = atStart k z18⌝ ∗ ⌜atStart k f19 = atStart k z19⌝ ∗ ⌜FO ⟨(arg2.view.read (Elt Ideal) X2), (arg3.view.read (Elt Ideal) X3), (arg4.view.read (Elt Ideal) X4), (arg5.view.read (Elt Ideal) X5), (arg6.view.read (Elt Ideal) X6), (arg7.view.read (Elt Ideal) X7), (arg8.view.read (Elt Ideal) X8), (arg9.view.read (Elt Ideal) X9)⟩ (arg14.view.read (Elt Ideal) X14) (arg15.view.read (Elt Ideal) X15) (arg16.view.read (Elt Ideal) X16) (arg17.view.read (Elt Ideal) X17) k ((arg10.view.read (Elt Ideal) f10), (arg18.view.read (Elt Ideal) f18), (arg19.view.read (Elt Ideal) f19)) ((arg10.view.read (Elt Ideal) z10), (arg18.view.read (Elt Ideal) z18), (arg19.view.read (Elt Ideal) z19))⌝))
  step k acc := by
    unfold k0_t2_body
    iintro ⟨H2, H3, H4, H5, H6, H7, H8, H9, H14, H15, H16, H17, ⟨%f10, %f13, %f18, %f19, H10, H13, H18, H19, %e10, %e18, %e19, %hO⟩⟩
    sl_exec_parts
    sl_step
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H14]
    · iexact H14
    isplitl [H15]
    · iexact H15
    isplitl [H16]
    · iexact H16
    isplitl [H17]
    · iexact H17
    iexists _
    iexists _
    iexists _
    iexists _
    isplitl [H10]
    · iexact H10
    isplitl [H13]
    · iexact H13
    isplitl [H18]
    · iexact H18
    isplitl [H19]
    · iexact H19
    isplitr
    · ipureintro; rfl
    isplitr
    · ipureintro; rfl
    isplitr
    · ipureintro; rfl
    ipureintro
    intro P
    have hb6 : ∀ k : Fin k0_t2_loop.trips, vloop2.sl.v5 k = BitVec.ofNat 32 (256 * k.val) := by decide
    have hb23 : ∀ k : Fin k0_t2_loop.trips, vloop2.sl.v23 k = BitVec.ofNat 32 (k.val / 2) := by decide
    let I : Ops := ⟨(arg2.view.read (Elt Ideal) X2), (arg3.view.read (Elt Ideal) X3), (arg4.view.read (Elt Ideal) X4), (arg5.view.read (Elt Ideal) X5), (arg6.view.read (Elt Ideal) X6), (arg7.view.read (Elt Ideal) X7), (arg8.view.read (Elt Ideal) X8), (arg9.view.read (Elt Ideal) X9)⟩
    have hA0 : FA (arg3.view.read (Elt Ideal) X3) (arg16.view.read (Elt Ideal) X16) (k0_pay18 (F := Ideal) (View.readAt (Elt Ideal) arg2.view (Rect.unit (k0_off5 k) _ (k0_off5_inb k)).toLoadRect X2)) (k0_pay22 (F := Ideal) (View.readAt (Elt Ideal) arg6.view (Rect.unit (k0_off6 k) _ (k0_off6_inb k)).toLoadRect X6)) _ (_, _) (_, k0_pay23 (F := Ideal)) := hL4
    have hB0 : FB (k0_pay32 (F := Ideal) (vloop2.sl.v5 k) (vloop2.sl.v23 k) (k0_pay18 (F := Ideal) (View.readAt (Elt Ideal) arg2.view (Rect.unit (k0_off5 k) _ (k0_off5_inb k)).toLoadRect X2)) (k0_pay22 (F := Ideal) (View.readAt (Elt Ideal) arg6.view (Rect.unit (k0_off6 k) _ (k0_off6_inb k)).toLoadRect X6)) _ (View.readAt (Elt Ideal) arg3.view (Rect.unit (k0_off13 k) _ (k0_off13_inb k)).toLoadRect X3) (View.readAt (Elt Ideal) arg16.view (Rect.unit (k0_off14 k) _ (k0_off14_inb k)).toLoadRect X16)) _ (_, _) (_, k0_pay33 (F := Ideal)) := hL8
    have hC0 : FC (arg15.view.read (Elt Ideal) X15) (k0_pay41 (F := Ideal) (k0_pay19 (F := Ideal) (View.readAt (Elt Ideal) arg5.view (Rect.unit (k0_off5 k) _ (k0_off5_inb k)).toLoadRect X5)) (k0_pay21 (F := Ideal) (View.readAt (Elt Ideal) arg9.view (Rect.unit (k0_off6 k) _ (k0_off6_inb k)).toLoadRect X9))) (k0_pay40 (F := Ideal) (k0_pay32 (F := Ideal) (vloop2.sl.v5 k) (vloop2.sl.v23 k) (k0_pay18 (F := Ideal) (View.readAt (Elt Ideal) arg2.view (Rect.unit (k0_off5 k) _ (k0_off5_inb k)).toLoadRect X2)) (k0_pay22 (F := Ideal) (View.readAt (Elt Ideal) arg6.view (Rect.unit (k0_off6 k) _ (k0_off6_inb k)).toLoadRect X6)) _ (View.readAt (Elt Ideal) arg3.view (Rect.unit (k0_off13 k) _ (k0_off13_inb k)).toLoadRect X3) (View.readAt (Elt Ideal) arg16.view (Rect.unit (k0_off14 k) _ (k0_off14_inb k)).toLoadRect X16)) _) _ (_, _, _) (_, _, k0_pay42 (F := Ideal)) := hL15
    have hD0 : FD (arg4.view.read (Elt Ideal) X4) (arg17.view.read (Elt Ideal) X17) _ (arg14.view.read (Elt Ideal) X14) (k0_pay19 (F := Ideal) (View.readAt (Elt Ideal) arg5.view (Rect.unit (k0_off5 k) _ (k0_off5_inb k)).toLoadRect X5)) (k0_pay53 (F := Ideal) (k0_pay19 (F := Ideal) (View.readAt (Elt Ideal) arg5.view (Rect.unit (k0_off5 k) _ (k0_off5_inb k)).toLoadRect X5)) (k0_pay21 (F := Ideal) (View.readAt (Elt Ideal) arg9.view (Rect.unit (k0_off6 k) _ (k0_off6_inb k)).toLoadRect X9)) _) (k0_pay54 (F := Ideal) (k0_pay18 (F := Ideal) (View.readAt (Elt Ideal) arg2.view (Rect.unit (k0_off5 k) _ (k0_off5_inb k)).toLoadRect X2)) (k0_pay20 (F := Ideal) (View.readAt (Elt Ideal) arg6.view (Rect.unit (k0_off6 k) _ (k0_off6_inb k)).toLoadRect X6)) (k0_pay21 (F := Ideal) (View.readAt (Elt Ideal) arg9.view (Rect.unit (k0_off6 k) _ (k0_off6_inb k)).toLoadRect X9))) _ (_, _) (_, k0_pay55 (F := Ideal)) := hL23
    have h0 := head_rows (I := I) 0 (lt2 k) 0 0 rfl rfl P
      (View.readAt_unit arg2.view X2 (k0_off5_inb k) (off5 k) (off5 k ▸ k0_off5_inb k)) (View.readAt_unit arg5.view X5 (k0_off5_inb k) (off5 k) (off5 k ▸ k0_off5_inb k)) (View.readAt_unit arg6.view X6 (k0_off6_inb k) (off6 k) (off6 k ▸ k0_off6_inb k)) (View.readAt_unit arg9.view X9 (k0_off6_inb k) (off6 k) (off6 k ▸ k0_off6_inb k)) (View.readAt_unit arg3.view X3 (k0_off13_inb k) (off13 k) (off13 k ▸ k0_off13_inb k)) (View.readAt_unit arg16.view X16 (k0_off14_inb k) (off14 k) (off14 k ▸ k0_off14_inb k))
      (hb6 k) (hb23 k) (trips3 k) (trips5 k) (trips7 k) (trips9 k)
      (tile_put arg13 _ k _) hA0 hB0 hC0 hD0
    have hA1 : FA (arg3.view.read (Elt Ideal) X3) (arg16.view.read (Elt Ideal) X16) (k0_pay18 (F := Ideal) (View.readAt (Elt Ideal) arg2.view (Rect.unit (k0_off30 k) _ (k0_off30_inb k)).toLoadRect X2)) (k0_pay22 (F := Ideal) (View.readAt (Elt Ideal) arg6.view (Rect.unit (k0_off31 k) _ (k0_off31_inb k)).toLoadRect X6)) _ (_, _) (_, k0_pay23 (F := Ideal)) := hL29
    have hB1 : FB (k0_pay32 (F := Ideal) (vloop2.sl.v5 k) (vloop2.sl.v23 k) (k0_pay18 (F := Ideal) (View.readAt (Elt Ideal) arg2.view (Rect.unit (k0_off30 k) _ (k0_off30_inb k)).toLoadRect X2)) (k0_pay22 (F := Ideal) (View.readAt (Elt Ideal) arg6.view (Rect.unit (k0_off31 k) _ (k0_off31_inb k)).toLoadRect X6)) _ (View.readAt (Elt Ideal) arg3.view (Rect.unit (k0_off13 k) _ (k0_off13_inb k)).toLoadRect X3) (View.readAt (Elt Ideal) arg16.view (Rect.unit (k0_off14 k) _ (k0_off14_inb k)).toLoadRect X16)) _ (_, _) (_, k0_pay33 (F := Ideal)) := hL33
    have hC1 : FC (arg15.view.read (Elt Ideal) X15) (k0_pay41 (F := Ideal) (k0_pay19 (F := Ideal) (View.readAt (Elt Ideal) arg5.view (Rect.unit (k0_off30 k) _ (k0_off30_inb k)).toLoadRect X5)) (k0_pay21 (F := Ideal) (View.readAt (Elt Ideal) arg9.view (Rect.unit (k0_off31 k) _ (k0_off31_inb k)).toLoadRect X9))) (k0_pay40 (F := Ideal) (k0_pay32 (F := Ideal) (vloop2.sl.v5 k) (vloop2.sl.v23 k) (k0_pay18 (F := Ideal) (View.readAt (Elt Ideal) arg2.view (Rect.unit (k0_off30 k) _ (k0_off30_inb k)).toLoadRect X2)) (k0_pay22 (F := Ideal) (View.readAt (Elt Ideal) arg6.view (Rect.unit (k0_off31 k) _ (k0_off31_inb k)).toLoadRect X6)) _ (View.readAt (Elt Ideal) arg3.view (Rect.unit (k0_off13 k) _ (k0_off13_inb k)).toLoadRect X3) (View.readAt (Elt Ideal) arg16.view (Rect.unit (k0_off14 k) _ (k0_off14_inb k)).toLoadRect X16)) _) _ (_, _, _) (_, _, k0_pay42 (F := Ideal)) := hL40
    have hD1 : FD (arg4.view.read (Elt Ideal) X4) (arg17.view.read (Elt Ideal) X17) _ (arg14.view.read (Elt Ideal) X14) (k0_pay19 (F := Ideal) (View.readAt (Elt Ideal) arg5.view (Rect.unit (k0_off30 k) _ (k0_off30_inb k)).toLoadRect X5)) (k0_pay53 (F := Ideal) (k0_pay19 (F := Ideal) (View.readAt (Elt Ideal) arg5.view (Rect.unit (k0_off30 k) _ (k0_off30_inb k)).toLoadRect X5)) (k0_pay21 (F := Ideal) (View.readAt (Elt Ideal) arg9.view (Rect.unit (k0_off31 k) _ (k0_off31_inb k)).toLoadRect X9)) _) (k0_pay54 (F := Ideal) (k0_pay18 (F := Ideal) (View.readAt (Elt Ideal) arg2.view (Rect.unit (k0_off30 k) _ (k0_off30_inb k)).toLoadRect X2)) (k0_pay20 (F := Ideal) (View.readAt (Elt Ideal) arg6.view (Rect.unit (k0_off31 k) _ (k0_off31_inb k)).toLoadRect X6)) (k0_pay21 (F := Ideal) (View.readAt (Elt Ideal) arg9.view (Rect.unit (k0_off31 k) _ (k0_off31_inb k)).toLoadRect X9))) _ (_, _) (_, k0_pay55 (F := Ideal)) := hL48
    have h1 := head_rows (I := I) 1 (lt2 k) 128 1 rfl rfl P
      (View.readAt_unit arg2.view X2 (k0_off30_inb k) (off30 k) (off30 k ▸ k0_off30_inb k)) (View.readAt_unit arg5.view X5 (k0_off30_inb k) (off30 k) (off30 k ▸ k0_off30_inb k)) (View.readAt_unit arg6.view X6 (k0_off31_inb k) (off31 k) (off31 k ▸ k0_off31_inb k)) (View.readAt_unit arg9.view X9 (k0_off31_inb k) (off31 k) (off31 k ▸ k0_off31_inb k)) (View.readAt_unit arg3.view X3 (k0_off13_inb k) (off13 k) (off13 k ▸ k0_off13_inb k)) (View.readAt_unit arg16.view X16 (k0_off14_inb k) (off14 k) (off14 k ▸ k0_off14_inb k))
      (hb6 k) (hb23 k) (trips11 k) (trips13 k) (trips15 k) (trips17 k)
      (tile_put arg13 _ k _) hA1 hB1 hC1 hD1
    have hA2 : FA (arg3.view.read (Elt Ideal) X3) (arg16.view.read (Elt Ideal) X16) (k0_pay18 (F := Ideal) (View.readAt (Elt Ideal) arg2.view (Rect.unit (k0_off52 k) _ (k0_off52_inb k)).toLoadRect X2)) (k0_pay22 (F := Ideal) (View.readAt (Elt Ideal) arg6.view (Rect.unit (k0_off53 k) _ (k0_off53_inb k)).toLoadRect X6)) _ (_, _) (_, k0_pay23 (F := Ideal)) := hL54
    have hB2 : FB (k0_pay32 (F := Ideal) (vloop2.sl.v5 k) (vloop2.sl.v23 k) (k0_pay18 (F := Ideal) (View.readAt (Elt Ideal) arg2.view (Rect.unit (k0_off52 k) _ (k0_off52_inb k)).toLoadRect X2)) (k0_pay22 (F := Ideal) (View.readAt (Elt Ideal) arg6.view (Rect.unit (k0_off53 k) _ (k0_off53_inb k)).toLoadRect X6)) _ (View.readAt (Elt Ideal) arg3.view (Rect.unit (k0_off13 k) _ (k0_off13_inb k)).toLoadRect X3) (View.readAt (Elt Ideal) arg16.view (Rect.unit (k0_off14 k) _ (k0_off14_inb k)).toLoadRect X16)) _ (_, _) (_, k0_pay33 (F := Ideal)) := hL58
    have hC2 : FC (arg15.view.read (Elt Ideal) X15) (k0_pay41 (F := Ideal) (k0_pay19 (F := Ideal) (View.readAt (Elt Ideal) arg5.view (Rect.unit (k0_off52 k) _ (k0_off52_inb k)).toLoadRect X5)) (k0_pay21 (F := Ideal) (View.readAt (Elt Ideal) arg9.view (Rect.unit (k0_off53 k) _ (k0_off53_inb k)).toLoadRect X9))) (k0_pay40 (F := Ideal) (k0_pay32 (F := Ideal) (vloop2.sl.v5 k) (vloop2.sl.v23 k) (k0_pay18 (F := Ideal) (View.readAt (Elt Ideal) arg2.view (Rect.unit (k0_off52 k) _ (k0_off52_inb k)).toLoadRect X2)) (k0_pay22 (F := Ideal) (View.readAt (Elt Ideal) arg6.view (Rect.unit (k0_off53 k) _ (k0_off53_inb k)).toLoadRect X6)) _ (View.readAt (Elt Ideal) arg3.view (Rect.unit (k0_off13 k) _ (k0_off13_inb k)).toLoadRect X3) (View.readAt (Elt Ideal) arg16.view (Rect.unit (k0_off14 k) _ (k0_off14_inb k)).toLoadRect X16)) _) _ (_, _, _) (_, _, k0_pay42 (F := Ideal)) := hL65
    have hD2 : FD (arg4.view.read (Elt Ideal) X4) (arg17.view.read (Elt Ideal) X17) _ (arg14.view.read (Elt Ideal) X14) (k0_pay19 (F := Ideal) (View.readAt (Elt Ideal) arg5.view (Rect.unit (k0_off52 k) _ (k0_off52_inb k)).toLoadRect X5)) (k0_pay53 (F := Ideal) (k0_pay19 (F := Ideal) (View.readAt (Elt Ideal) arg5.view (Rect.unit (k0_off52 k) _ (k0_off52_inb k)).toLoadRect X5)) (k0_pay21 (F := Ideal) (View.readAt (Elt Ideal) arg9.view (Rect.unit (k0_off53 k) _ (k0_off53_inb k)).toLoadRect X9)) _) (k0_pay54 (F := Ideal) (k0_pay18 (F := Ideal) (View.readAt (Elt Ideal) arg2.view (Rect.unit (k0_off52 k) _ (k0_off52_inb k)).toLoadRect X2)) (k0_pay20 (F := Ideal) (View.readAt (Elt Ideal) arg6.view (Rect.unit (k0_off53 k) _ (k0_off53_inb k)).toLoadRect X6)) (k0_pay21 (F := Ideal) (View.readAt (Elt Ideal) arg9.view (Rect.unit (k0_off53 k) _ (k0_off53_inb k)).toLoadRect X9))) _ (_, _) (_, k0_pay55 (F := Ideal)) := hL73
    have h2 := head_rows (I := I) 2 (lt2 k) 256 2 rfl rfl P
      (View.readAt_unit arg2.view X2 (k0_off52_inb k) (off52 k) (off52 k ▸ k0_off52_inb k)) (View.readAt_unit arg5.view X5 (k0_off52_inb k) (off52 k) (off52 k ▸ k0_off52_inb k)) (View.readAt_unit arg6.view X6 (k0_off53_inb k) (off53 k) (off53 k ▸ k0_off53_inb k)) (View.readAt_unit arg9.view X9 (k0_off53_inb k) (off53 k) (off53 k ▸ k0_off53_inb k)) (View.readAt_unit arg3.view X3 (k0_off13_inb k) (off13 k) (off13 k ▸ k0_off13_inb k)) (View.readAt_unit arg16.view X16 (k0_off14_inb k) (off14 k) (off14 k ▸ k0_off14_inb k))
      (hb6 k) (hb23 k) (trips19 k) (trips21 k) (trips23 k) (trips25 k)
      (tile_put arg13 _ k _) hA2 hB2 hC2 hD2
    have hA3 : FA (arg3.view.read (Elt Ideal) X3) (arg16.view.read (Elt Ideal) X16) (k0_pay18 (F := Ideal) (View.readAt (Elt Ideal) arg2.view (Rect.unit (k0_off74 k) _ (k0_off74_inb k)).toLoadRect X2)) (k0_pay22 (F := Ideal) (View.readAt (Elt Ideal) arg6.view (Rect.unit (k0_off75 k) _ (k0_off75_inb k)).toLoadRect X6)) _ (_, _) (_, k0_pay23 (F := Ideal)) := hL79
    have hB3 : FB (k0_pay32 (F := Ideal) (vloop2.sl.v5 k) (vloop2.sl.v23 k) (k0_pay18 (F := Ideal) (View.readAt (Elt Ideal) arg2.view (Rect.unit (k0_off74 k) _ (k0_off74_inb k)).toLoadRect X2)) (k0_pay22 (F := Ideal) (View.readAt (Elt Ideal) arg6.view (Rect.unit (k0_off75 k) _ (k0_off75_inb k)).toLoadRect X6)) _ (View.readAt (Elt Ideal) arg3.view (Rect.unit (k0_off13 k) _ (k0_off13_inb k)).toLoadRect X3) (View.readAt (Elt Ideal) arg16.view (Rect.unit (k0_off14 k) _ (k0_off14_inb k)).toLoadRect X16)) _ (_, _) (_, k0_pay33 (F := Ideal)) := hL83
    have hC3 : FC (arg15.view.read (Elt Ideal) X15) (k0_pay41 (F := Ideal) (k0_pay19 (F := Ideal) (View.readAt (Elt Ideal) arg5.view (Rect.unit (k0_off74 k) _ (k0_off74_inb k)).toLoadRect X5)) (k0_pay21 (F := Ideal) (View.readAt (Elt Ideal) arg9.view (Rect.unit (k0_off75 k) _ (k0_off75_inb k)).toLoadRect X9))) (k0_pay40 (F := Ideal) (k0_pay32 (F := Ideal) (vloop2.sl.v5 k) (vloop2.sl.v23 k) (k0_pay18 (F := Ideal) (View.readAt (Elt Ideal) arg2.view (Rect.unit (k0_off74 k) _ (k0_off74_inb k)).toLoadRect X2)) (k0_pay22 (F := Ideal) (View.readAt (Elt Ideal) arg6.view (Rect.unit (k0_off75 k) _ (k0_off75_inb k)).toLoadRect X6)) _ (View.readAt (Elt Ideal) arg3.view (Rect.unit (k0_off13 k) _ (k0_off13_inb k)).toLoadRect X3) (View.readAt (Elt Ideal) arg16.view (Rect.unit (k0_off14 k) _ (k0_off14_inb k)).toLoadRect X16)) _) _ (_, _, _) (_, _, k0_pay42 (F := Ideal)) := hL90
    have hD3 : FD (arg4.view.read (Elt Ideal) X4) (arg17.view.read (Elt Ideal) X17) _ (arg14.view.read (Elt Ideal) X14) (k0_pay19 (F := Ideal) (View.readAt (Elt Ideal) arg5.view (Rect.unit (k0_off74 k) _ (k0_off74_inb k)).toLoadRect X5)) (k0_pay53 (F := Ideal) (k0_pay19 (F := Ideal) (View.readAt (Elt Ideal) arg5.view (Rect.unit (k0_off74 k) _ (k0_off74_inb k)).toLoadRect X5)) (k0_pay21 (F := Ideal) (View.readAt (Elt Ideal) arg9.view (Rect.unit (k0_off75 k) _ (k0_off75_inb k)).toLoadRect X9)) _) (k0_pay54 (F := Ideal) (k0_pay18 (F := Ideal) (View.readAt (Elt Ideal) arg2.view (Rect.unit (k0_off74 k) _ (k0_off74_inb k)).toLoadRect X2)) (k0_pay20 (F := Ideal) (View.readAt (Elt Ideal) arg6.view (Rect.unit (k0_off75 k) _ (k0_off75_inb k)).toLoadRect X6)) (k0_pay21 (F := Ideal) (View.readAt (Elt Ideal) arg9.view (Rect.unit (k0_off75 k) _ (k0_off75_inb k)).toLoadRect X9))) _ (_, _) (_, k0_pay55 (F := Ideal)) := hL98
    have h3 := head_rows (I := I) 3 (lt2 k) 384 3 rfl rfl P
      (View.readAt_unit arg2.view X2 (k0_off74_inb k) (off74 k) (off74 k ▸ k0_off74_inb k)) (View.readAt_unit arg5.view X5 (k0_off74_inb k) (off74 k) (off74 k ▸ k0_off74_inb k)) (View.readAt_unit arg6.view X6 (k0_off75_inb k) (off75 k) (off75 k ▸ k0_off75_inb k)) (View.readAt_unit arg9.view X9 (k0_off75_inb k) (off75 k) (off75 k ▸ k0_off75_inb k)) (View.readAt_unit arg3.view X3 (k0_off13_inb k) (off13 k) (off13 k ▸ k0_off13_inb k)) (View.readAt_unit arg16.view X16 (k0_off14_inb k) (off14 k) (off14 k ▸ k0_off14_inb k))
      (hb6 k) (hb23 k) (trips27 k) (trips29 k) (trips31 k) (trips33 k)
      (tile_put arg13 _ k _) hA3 hB3 hC3 hD3
    have hs := FO.step (I := I) (lt2 k) (hO P) h0 h1 h2 h3
    rw [← rows_put arg10 f10 k] at hs
    exact hs
end Cert.Proof.Val
-- ==== Proof.S.ValRun.lean ====
/-
  One launch of the kernel: from its blocks owned, it runs to its return and leaves the three gradients that `Rows` names.
-/
module

public import proofs.«01_k».proof.Proof.S.EndLoops
public import proofs.«01_k».proof.Proof.S.Outer
public import Idealize.ShloMosaic.Lib.Pipeline.FrameBody
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped BigOperators
open Cert.Proof.Math
open Idealize.ShloMosaic.Pipeline (Dat Cfg Window BodyObligation cellOf)

/-- The resource algebra of the run. -/
local notation "𝕄" => MT nD τ sig Unit (Elt Ideal) ℕ (UR sig nD τ) ℕ

/-- The query gradients of a launch. -/
def outDq (I : Ops) : Vec Ideal S1x4096x512 .bf16 := fun x =>
  I.dq ⟨(x 2).val / 128, by have : (x 2).val < 512 := (x 2).isLt; omega⟩ (x 1) ⟨(x 2).val % 128, by omega⟩
/-- The key gradients of a launch. -/
def outDk (I : Ops) : Vec Ideal S1x4096x128 .bf16 := fun x => (∑ r : Fin 4096, ∑ g : Fin 4, I.dk g r (x 1) (x 2)) * SM8
/-- The value gradients of a launch. -/
def outDv (I : Ops) : Vec Ideal S1x4096x128 .bf16 := fun x => (∑ r : Fin 4096, ∑ g : Fin 4, I.dv g r (x 1) (x 2)) * I256

theorem ix3_zero {n1 n2 : ℕ} (x : (⟨3, ![1, n1, n2]⟩ : Shape).Idx) : x = ix3 0 (x 1) (x 2) := by
  funext a
  match a with
  | ⟨0, _⟩ => exact Fin.ext (by have h : (x 0).val < 1 := (x 0).isLt; show (x 0).val = 0; omega)
  | ⟨1, _⟩ => rfl
  | ⟨2, _⟩ => rfl

theorem outDq_eq {I : Ops} {s : Vec Ideal S1x4096x512 .bf16} (h : ∀ (r : Fin 4096) (g : Fin 4) (j : Fin 128), s (ix3 0 r (col g j)) = I.dq g r j) : s = outDq I := by
  funext x
  have hx2 : (x 2).val < 512 := (x 2).isLt
  have hc : (x 2 : Fin 512) = col ⟨(x 2).val / 128, by omega⟩ ⟨(x 2).val % 128, by omega⟩ := Fin.ext (by simp only [col]; omega)
  refine Eq.trans ?_ (h (x 1) ⟨(x 2).val / 128, by omega⟩ ⟨(x 2).val % 128, by omega⟩)
  exact congrArg s ((ix3_zero x).trans (congrArg (ix3 0 (x 1)) hc))

theorem outDk_eq {I : Ops} {s : Vec Ideal S1x4096x128 .bf16} (h : ∀ (κ : Fin 4096) (j : Fin 128), s (ix3 0 κ j) = (∑ r : Fin 4096, ∑ g : Fin 4, I.dk g r κ j) * SM8) : s = outDk I := by
  funext x
  exact (congrArg s (ix3_zero x)).trans (h (x 1) (x 2))

theorem outDv_eq {I : Ops} {s : Vec Ideal S1x4096x128 .bf16} (h : ∀ (κ : Fin 4096) (j : Fin 128), s (ix3 0 κ j) = (∑ r : Fin 4096, ∑ g : Fin 4, I.dv g r κ j) * I256) : s = outDv I := by
  funext x
  exact (congrArg s (ix3_zero x)).trans (h (x 1) (x 2))

/-- The accumulators after every row block, from the loops' facts. -/
theorem accs {I : Ops} {K14 K15 : Vec Ideal S128x4096 .bf16} {K16 K17 : Vec Ideal S4096x128 .f32} {z18 z19 : VT} {zz s z : _}
    (hP : PF I.k I.v I.ks I.vs 32 (K14, K15, K16, K17, z18, z19) zz) (hz : z.2 = (z18, z19)) (hF : FO I K14 K15 K16 K17 16 s z) :
    (∀ (r : Fin 4096) (g : Fin 4) (j : Fin 128), s.1 (ix3 0 r (col g j)) = I.dq g r j)
    ∧ (∀ (j : Fin 128) (κ : Fin 4096), s.2.1 (ix2 j κ) = ∑ r : Fin 4096, ∑ g : Fin 4, I.dk g r κ j)
    ∧ (∀ (j : Fin 128) (κ : Fin 4096), s.2.2 (ix2 j κ) = ∑ r : Fin 4096, ∑ g : Fin 4, I.dv g r κ j) := by
  have h := hF hP.prep
  refine ⟨fun r g j => (h.dq r g j).trans (if_pos (by omega)), fun j κ => (h.dk j κ).trans ?_, fun j κ => (h.dv j κ).trans ?_⟩
  · rw [rsum_all, hz, show (z18, z19).1 (ix2 j κ) = 0 from hP.zk j κ κ.isLt, zero_add]
  · rw [rsum_all, hz, show (z18, z19).2 (ix2 j κ) = 0 from hP.zv j κ κ.isLt, zero_add]

section Body

variable (c : Dev nD) (i : grid0.Coords)
variable (arg2 : Memref sig .tc .vmem S1x4096x512 .fp8e4m3) (harg2 : arg2.IsWhole)
variable (arg3 : Memref sig .tc .vmem S1x4096x128 .fp8e4m3) (harg3 : arg3.IsWhole)
variable (arg4 : Memref sig .tc .vmem S1x4096x128 .fp8e4m3) (harg4 : arg4.IsWhole)
variable (arg5 : Memref sig .tc .vmem S1x4096x512 .fp8e5m2) (harg5 : arg5.IsWhole)
variable (arg6 : Memref sig .tc .vmem S1x1x4x4096 .f32) (harg6 : arg6.IsWhole)
variable (arg7 : Memref sig .tc .vmem S1x1x1x4096 .f32) (harg7 : arg7.IsWhole)
variable (arg8 : Memref sig .tc .vmem S1x1x1x4096 .f32) (harg8 : arg8.IsWhole)
variable (arg9 : Memref sig .tc .vmem S1x1x4x4096 .f32) (harg9 : arg9.IsWhole)
variable (arg10 : Memref sig .tc .vmem S1x4096x512 .bf16) (harg10 : arg10.IsWhole)
variable (arg11 : Memref sig .tc .vmem S1x4096x128 .bf16) (harg11 : arg11.IsWhole)
variable (arg12 : Memref sig .tc .vmem S1x4096x128 .bf16) (harg12 : arg12.IsWhole)
variable (arg13 : Memref sig .tc .vmem S4096x256 .f32) (harg13 : arg13.IsWhole)
variable (arg14 : Memref sig .tc .vmem S128x4096 .bf16) (harg14 : arg14.IsWhole)
variable (arg15 : Memref sig .tc .vmem S128x4096 .bf16) (harg15 : arg15.IsWhole)
variable (arg16 : Memref sig .tc .vmem S4096x128 .f32) (harg16 : arg16.IsWhole)
variable (arg17 : Memref sig .tc .vmem S4096x128 .f32) (harg17 : arg17.IsWhole)
variable (arg18 : Memref sig .tc .vmem S128x4096 .f32) (harg18 : arg18.IsWhole)
variable (arg19 : Memref sig .tc .vmem S128x4096 .f32) (harg19 : arg19.IsWhole)

set_option maxHeartbeats 4000000 in
/-- One grid point of the kernel: from its blocks owned, every other buffer at anything, it runs to its return and gives the
    blocks back as they were and the three gradients in the output buffers. -/
theorem kernelRun (x2 : Vec Ideal S1x4096x512 .fp8e4m3) (x3 : Vec Ideal S1x4096x128 .fp8e4m3) (x4 : Vec Ideal S1x4096x128 .fp8e4m3) (x5 : Vec Ideal S1x4096x512 .fp8e5m2) (x6 : Vec Ideal S1x1x4x4096 .f32) (x7 : Vec Ideal S1x1x1x4096 .f32) (x8 : Vec Ideal S1x1x1x4096 .f32) (x9 : Vec Ideal S1x1x4x4096 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outDq ⟨x2, x3, x4, x5, x6, x7, x8, x9⟩) ∗ owns (c : Thread nD τ) arg11 fullShare (outDk ⟨x2, x3, x4, x5, x6, x7, x8, x9⟩) ∗ owns (c : Thread nD τ) arg12 fullShare (outDv ⟨x2, x3, x4, x5, x6, x7, x8, x9⟩) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := Ideal)) Variants.none c none) Set.univ (cc0_attention_backward i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attention_backward_eq_skeleton]; unfold cc0_attention_backward_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  subst hf2 hf3 hf4 hf5 hf6 hf7 hf8 hf9
  sl_exec
  rw [show Scf.trips k0_t1_loop.lb k0_t1_loop.ub k0_t1_loop.st = 32 from trips1] at hL10
  rw [show Scf.trips k0_t2_loop.lb k0_t2_loop.ub k0_t2_loop.st = 16 from trips2] at hL30
  rw [show Scf.trips k0_t35_loop.lb k0_t35_loop.ub k0_t35_loop.st = 32 from trips35] at hL35
  obtain ⟨hq, hk, hv⟩ := accs (I := ⟨arg2.view.read (Elt Ideal) f2, arg3.view.read (Elt Ideal) f3, arg4.view.read (Elt Ideal) f4, arg5.view.read (Elt Ideal) f5, arg6.view.read (Elt Ideal) f6, arg7.view.read (Elt Ideal) f7, arg8.view.read (Elt Ideal) f8, arg9.view.read (Elt Ideal) f9⟩) hL10 rfl hL30
  have hdk := fun (κ : Fin 4096) (j : Fin 128) => (hL35.dk κ j (by omega)).trans (congrArg (· * SM8) (hk j κ))
  have hdv := fun (κ : Fin 4096) (j : Fin 128) => (hL35.dv κ j (by omega)).trans (congrArg (· * I256) (hv j κ))
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro; exact outDq_eq hq
  isplitl [H11]
  · iexists _; isplitr; swap; · iexact H11
    ipureintro; exact outDk_eq hdk
  isplitl [H12]
  · iexists _; isplitr; swap; · iexact H12
    ipureintro; exact outDv_eq hdv
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  iexists _, _; isplitr; swap; · iexact H19
  ipureintro; rfl

end Body

end Cert.Proof.Val
-- ==== Proof.S.ValPipe.lean ====
/-
  The launches of the kernel over the grid: every array ends at what the launches write back.
-/
module

public import proofs.«01_k».proof.Proof.S.ValRun
public import proofs.«01_k».proof.Proof.Gen.KernelIdeal.Frame
public import Idealize.ShloMosaic.Lib.Pipeline.FrameBody
public import Idealize.ShloMosaic.Lib.Exec
public import Idealize.ShloMosaic.Lib.Tactic
public import Idealize.ShloMosaic.Lib.VecWindow

@[expose] public section

set_option maxRecDepth 8192

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open scoped BigOperators
open Cert.Proof.Math
open Idealize.ShloMosaic.Pipeline (Dat Cfg Window BodyObligation cellOf)

/-- The resource algebra of the run. -/
local notation "𝕄" => MT nD τ sig Unit (Elt Ideal) ℕ (UR sig nD τ) ℕ

variable (m : (ℓ : Loc nD τ sig) → Buf (Elt Ideal) ℓ) (ρ : Dev nD → PrngReg)

/-- The blocks of a launch. -/
def blks (c : Dev nD) (t : Fin cfg0.N) : Ops :=
  ⟨iblk m c 0 t, iblk m c 1 t, iblk m c 2 t, iblk m c 3 t, iblk m c 4 t, iblk m c 5 t, iblk m c 6 t, iblk m c 7 t⟩

/-- The proof data: inputs keep their blocks, the outputs hold the three gradients. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outDq (blks m c t)
    | ⟨9, _⟩ => outDk (blks m c t)
    | ⟨10, _⟩ => outDv (blks m c t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outDq (blks m c t) := by dsimp only [dats]
theorem after0_9 (c : Dev nD) (t : Fin cfg0.N) : (dats m 0 c).after 9 t = outDk (blks m c t) := by dsimp only [dats]
theorem after0_10 (c : Dev nD) (t : Fin cfg0.N) : (dats m 0 c).after 10 t = outDv (blks m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The scratch and the generator register, conjunct by conjunct. -/
theorem Phi_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at a point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after0_0, after0_1, after0_2, after0_3, after0_4, after0_5, after0_6, after0_7, after0_8, after0_9, after0_10]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := Ideal) .tc cfg0.body (cfg0.bodyArgs t (cfg0.slots t)) = bodyAt0 t := by
  unfold defs₀; rw [Defs.onTc_tc]

/-- The pipeline's obligation. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution of @main ends with every array at what the proof data say. -/
theorem run_main : θ_run defs (onTc (τ := τ) (main (F := Ideal))) (s₀ m ρ) (Pipeline.FramePost cfgs (dats m) 0 (V m)) :=
  (θ_run defs _ _).mono (fun _ h => h.1) (Pipeline.θ_run_frame
    (Q' := fun r => (Pipeline.FramePost cfgs (dats m) 0 (V m)) r ∧ r.2.sem = fun _ => 0) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl))

end Cert.Proof.Val

end
-- ==== Proof.S.RefScores.lean ====
/-
  What the reference computes, entry by entry: its operands, its scores and probabilities, its scores' gradients and its three results, each
  as the row mathematics of `Math` over the argument arrays.
-/
module

public import proofs.«01_k».proof.Proof.Gen.ReferenceIdeal.Value
public import proofs.«01_k».proof.Proof.S.Math
public import Idealize.ShloMosaic.Lib.Pointwise

@[expose] public section

set_option maxRecDepth 8192

noncomputable section

namespace Cert.Proof.Ref

open Cert.ReferenceIdeal Cert.ReferenceIdeal.Gen
open Idealize.ShloMosaic
open scoped BigOperators
open Cert.Proof.Math

/-- The masked scores. -/
def refS (v1 : FVec Ideal S8x4096x4x4x128 .fp8e4m3) (v5 : FVec Ideal S8x4096x4x128 .fp8e4m3) (v9 : FVec Ideal S8x4x4096x4 .f32) (v13 : FVec Ideal S8x4x4096 .f32) : FVec Ideal S8x4x4096x4x4096 .f32 :=
  have cst : FVec Ideal S8x4x4096x4x4096 .f32 := constant S8x4x4096x4x4096 .f32 0x00000000#32
  have v40 : FVec Ideal S8x4x4096x4x4096 .f32 := matmul dot_S8x4096x4x4x128_S8x4096x4x128_S8x4x4096x4x4096_4_3_13_1_02_02 none v1 v5 cst
  have cst_27 : Ideal .f32 := Scalar.ofBits .f32 0x3DB504F3#32
  have v41 : FVec Ideal S8x4x4096x4 .f32 := broadcast S8x4x4096x4 cst_27
  have v42 : FVec Ideal S8x4x4096x4 .f32 := mulf v9 v41
  have v43 : FVec Ideal S8x4x4096x4x1 .f32 := shapeCast S8x4x4096x4x1 v42 shapeCasts_S8x4x4096x4_S8x4x4096x4x1
  have v44 : FVec Ideal S8x4x4096x4x4096 .f32 := broadcastTo S8x4x4096x4x4096 v43 broadcasts_S8x4x4096x4x1_S8x4x4096x4x4096
  have v45 : FVec Ideal S8x4x4096x4x4096 .f32 := mulf v40 v44
  have v46 : FVec Ideal S8x4x1x1x4096 .f32 := shapeCast S8x4x1x1x4096 v13 shapeCasts_S8x4x4096_S8x4x1x1x4096
  have v47 : FVec Ideal S8x4x4096x4x4096 .f32 := broadcastTo S8x4x4096x4x4096 v46 broadcasts_S8x4x1x1x4096_S8x4x4096x4x4096
  have v48 : FVec Ideal S8x4x4096x4x4096 .f32 := mulf v45 v47
  have v49 : IVec S8x4x4096x4x4096 32 := iota .tc S8x4x4096x4x4096 32 [2] iota_S8x4x4096x4x4096_d2_w32
  have v50 : IVec S8x4x4096x4x4096 32 := iota .tc S8x4x4096x4x4096 32 [4] iota_S8x4x4096x4x4096_d4_w32
  have v51 : IVec S8x4x4096x4x4096 1 := cmpi .sge v49 v50
  have cst_28 : Ideal .f32 := Scalar.ofBits .f32 0xFF800000#32
  have v52 : FVec Ideal S8x4x4096x4x4096 .f32 := broadcast S8x4x4096x4x4096 cst_28
  have v53 : FVec Ideal S8x4x4096x4x4096 .f32 := select v51 v48 v52
  v53
/-- The largest score of a row. -/
def refRed (v53 : FVec Ideal S8x4x4096x4x4096 .f32) : FVec Ideal S8x4x4096x4 .f32 :=
  multiReduction .maximumf [4] S8x4x4096x4 v53 0xFF800000#32 reduces_S8x4x4096x4x4096_S8x4x4096x4 (.inl rfl) rfl
/-- The largest score of a row, taken against `-∞`. -/
def refMax (v54 : FVec Ideal S8x4x4096x4 .f32) : FVec Ideal S8x4x4096x4 .f32 :=
  have cst_30 : Ideal .f32 := Scalar.ofBits .f32 0xFF800000#32
  have v55 : FVec Ideal S8x4x4096x4 .f32 := broadcast S8x4x4096x4 cst_30
  have v56 : FVec Ideal S8x4x4096x4 .f32 := maximumf v55 v54
  v56
/-- The shift of the log-sum-exp, from the largest score. -/
def refShift (v56 : FVec Ideal S8x4x4096x4 .f32) : FVec Ideal S8x4x4096x4 .f32 :=
  have v57 : IVec S8x4x4096x4 1 := weird v56
  have cst_31 : IVec S8x4x4096x4 1 := constantI S8x4x4096x4 1 1#1
  have v58 : IVec S8x4x4096x4 1 := xori v57 cst_31
  have cst_32 : Ideal .f32 := Scalar.ofBits .f32 0x00000000#32
  have v59 : FVec Ideal S8x4x4096x4 .f32 := broadcast S8x4x4096x4 cst_32
  have v60 : FVec Ideal S8x4x4096x4 .f32 := select v58 v56 v59
  v60
/-- The probabilities, from the scores and the shift. -/
def refP (v53 : FVec Ideal S8x4x4096x4x4096 .f32) (v60 : FVec Ideal S8x4x4096x4 .f32) : FVec Ideal S8x4x4096x4x4096 .f32 :=
  have v61 : FVec Ideal S8x4x4096x4x1 .f32 := shapeCast S8x4x4096x4x1 v60 shapeCasts_S8x4x4096x4_S8x4x4096x4x1
  have v62 : FVec Ideal S8x4x4096x4x4096 .f32 := broadcastTo S8x4x4096x4x4096 v61 broadcasts_S8x4x4096x4x1_S8x4x4096x4x4096
  have v63 : FVec Ideal S8x4x4096x4x4096 .f32 := subf v53 v62
  have v64 : FVec Ideal S8x4x4096x4x4096 .f32 := exp v63
  have v65 : FVec Ideal S8x4x4096x4 .f32 := multiReduction .add [4] S8x4x4096x4 v64 0x00000000#32 reduces_S8x4x4096x4x4096_S8x4x4096x4 (.inl rfl) rfl
  have v66 : FVec Ideal S8x4x4096x4 .f32 := absf v65
  have v67 : FVec Ideal S8x4x4096x4 .f32 := log v66
  have v68 : FVec Ideal S8x4x4096x4 .f32 := addf v67 v60
  have v69 : FVec Ideal S8x4x4096x4x1 .f32 := shapeCast S8x4x4096x4x1 v68 shapeCasts_S8x4x4096x4_S8x4x4096x4x1
  have v70 : FVec Ideal S8x4x4096x4x4096 .f32 := broadcastTo S8x4x4096x4x4096 v69 broadcasts_S8x4x4096x4x1_S8x4x4096x4x4096
  have v71 : FVec Ideal S8x4x4096x4x4096 .f32 := subf v53 v70
  have v72 : FVec Ideal S8x4x4096x4x4096 .f32 := exp v71
  v72

theorem pay20_parts (v1 : FVec Ideal S8x4096x4x4x128 .fp8e4m3) (v5 : FVec Ideal S8x4096x4x128 .fp8e4m3) (v9 : FVec Ideal S8x4x4096x4 .f32) (v13 : FVec Ideal S8x4x4096 .f32) :
    k0_pay20 (F := Ideal) v1 v5 v9 v13 = refP (refS v1 v5 v9 v13) (refShift (refMax (refRed (refS v1 v5 v9 v13)))) := rfl

/-- Column `128*(4*h+g)+j` of a query's array. -/
abbrev qcol (h g : Fin 4) (j : Fin 128) : Fin 2048 := ⟨h.val * 512 + g.val * 128 + j.val, by omega⟩
/-- Column `128*h+j` of a key's array. -/
abbrev kcol (h : Fin 4) (j : Fin 128) : Fin 512 := ⟨h.val * 128 + j.val, by omega⟩

theorem pay6_at (v0 : Vec Ideal S8x4096x2048 .fp8e4m3) (b : Fin 8) (r : Fin 4096) (h g : Fin 4) (j : Fin 128) :
    k0_pay6 (F := Ideal) v0 (ix5 b r h g j) = v0 (ix3 b r (qcol h g j)) := by
  pointwise [k0_pay6]

theorem pay7_at (v0 : Vec Ideal S8x4096x2048 .fp8e5m2) (b : Fin 8) (r : Fin 4096) (h g : Fin 4) (j : Fin 128) :
    k0_pay7 (F := Ideal) v0 (ix5 b r h g j) = v0 (ix3 b r (qcol h g j)) := by
  pointwise [k0_pay7]

theorem pay8_at (v0 : Vec Ideal S8x4096x512 .fp8e4m3) (b : Fin 8) (r : Fin 4096) (h : Fin 4) (j : Fin 128) :
    k0_pay8 (F := Ideal) v0 (ix4 b r h j) = v0 (ix3 b r (kcol h j)) := by
  pointwise [k0_pay8]

theorem pay9_at (v0 : Vec Ideal S8x4096x512 .fp8e4m3) (b : Fin 8) (r : Fin 4096) (h : Fin 4) (j : Fin 128) :
    k0_pay9 (F := Ideal) v0 (ix4 b r h j) = v0 (ix3 b r (kcol h j)) := by
  pointwise [k0_pay9]

theorem pay10_at (v : Vec Ideal S8x4x4x4096 .f32) (b : Fin 8) (h : Fin 4) (r : Fin 4096) (g : Fin 4) :
    k0_pay10 (F := Ideal) v (ix4 b h r g) = v (ix4 b h g r) := by
  pointwise [k0_pay10]

theorem pay11_at (v : Vec Ideal S8x4x4x4096 .f32) (b : Fin 8) (h : Fin 4) (r : Fin 4096) (g : Fin 4) :
    k0_pay11 (F := Ideal) v (ix4 b h r g) = v (ix4 b h g r) := by
  pointwise [k0_pay11]

theorem pay12_at (v : Vec Ideal S8x4x1x4096 .f32) (b : Fin 8) (h : Fin 4) (κ : Fin 4096) :
    k0_pay12 (F := Ideal) v (ix3 b h κ) = v (ix4 b h 0 κ) := by
  pointwise [k0_pay12]

theorem pay13_at (v : Vec Ideal S8x4x1x4096 .f32) (b : Fin 8) (h : Fin 4) (κ : Fin 4096) :
    k0_pay13 (F := Ideal) v (ix3 b h κ) = v (ix4 b h 0 κ) := by
  pointwise [k0_pay13]

theorem pay14_at (v0 : Vec Ideal S8x4096x2048 .fp8e4m3) (v8 : Vec Ideal S8x4x4x4096 .f32) (b : Fin 8) (r : Fin 4096) (h g : Fin 4) (j : Fin 128) :
    k0_pay14 (F := Ideal) v0 v8 (ix5 b r h g j) = v0 (ix3 b r (qcol h g j)) * v8 (ix4 b h g r) := by
  rw [← pay6_at v0, ← pay10_at v8]
  pointwise [k0_pay14]

theorem pay15_at (v4 : Vec Ideal S8x4096x512 .fp8e4m3) (v12 : Vec Ideal S8x4x1x4096 .f32) (b : Fin 8) (r : Fin 4096) (h : Fin 4) (j : Fin 128) :
    k0_pay15 (F := Ideal) v4 v12 (ix4 b r h j) = v4 (ix3 b r (kcol h j)) * v12 (ix4 b h 0 r) := by
  rw [← pay8_at v4, ← pay12_at v12]
  pointwise [k0_pay15]

theorem pay18_at (v6 : Vec Ideal S8x4096x512 .fp8e4m3) (v14 : Vec Ideal S8x4x1x4096 .f32) (b : Fin 8) (r : Fin 4096) (h : Fin 4) (j : Fin 128) :
    k0_pay18 (F := Ideal) (k0_pay16 v6) (k0_pay17 v14) (ix4 b r h j) = v6 (ix3 b r (kcol h j)) * v14 (ix4 b h 0 r) := by
  rw [← pay9_at v6, ← pay13_at v14]
  pointwise [k0_pay18, k0_pay16, k0_pay17]

theorem pay19_at (v3 : FVec Ideal S8x4096x4x4x128 .fp8e5m2) (v11 : FVec Ideal S8x4x4096x4 .f32) (b : Fin 8) (r : Fin 4096) (h g : Fin 4) (j : Fin 128) :
    k0_pay19 (F := Ideal) v3 v11 (ix5 b r h g j) = v3 (ix5 b r h g j) * v11 (ix4 b h r g) := by
  pointwise [k0_pay19]

section Scores
variable (v1 : FVec Ideal S8x4096x4x4x128 .fp8e4m3) (v5 : FVec Ideal S8x4096x4x128 .fp8e4m3) (v9 : FVec Ideal S8x4x4096x4 .f32) (v13 : FVec Ideal S8x4x4096 .f32)
  (S : FVec Ideal S8x4x4096x4x4096 .f32) (M : FVec Ideal S8x4x4096x4 .f32)
  (b : Fin 8) (h : Fin 4) (r : Fin 4096) (g : Fin 4) (κ : Fin 4096)

theorem refS_at :
    refS v1 v5 v9 v13 (ix5 b h r g κ)
      = Scalar.select (Scalar.cmpi .sge (BitVec.ofNat 32 r.val) (BitVec.ofNat 32 κ.val))
          ((∑ j : Fin 128, v1 (ix5 b r h g j) * v5 (ix4 b κ h j)) * (v9 (ix4 b h r g) * SM) * v13 (ix3 b h κ)) ⊥ := by
  rw [← NINF_eq]
  pointwise [refS]
  rfl

theorem max_bot {n : ℕ} (f : Fin n → EReal) : max ⊥ (Finset.fold max ⊥ f Finset.univ) = Finset.univ.sup f := by
  have e : Finset.fold max ⊥ f Finset.univ = Finset.univ.sup f := rfl
  rw [e]; exact max_eq_right bot_le

theorem refRed_at : refRed S (ix4 b h r g)
    = Finset.fold max (Ideal.ofBits .f32 0xFF800000#32) (fun κ : Fin 4096 => S (ix5 b h r g κ)) Finset.univ := by
  pointwise [refRed]

theorem refMax_at : refMax M (ix4 b h r g) = max (Ideal.ofBits .f32 0xFF800000#32) (M (ix4 b h r g)) := by
  pointwise [refMax]

theorem refTop_at : refMax (refRed S) (ix4 b h r g) = Finset.univ.sup (fun κ : Fin 4096 => S (ix5 b h r g κ)) := by
  rw [refMax_at, refRed_at, NINF_eq, max_bot]

theorem refShift_at : refShift M (ix4 b h r g) = if M (ix4 b h r g) = ⊤ ∨ M (ix4 b h r g) = ⊥ then 0 else M (ix4 b h r g) := by
  have e : refShift M (ix4 b h r g) = Scalar.select (IntOp.xori (FloatOps.weird (F := Ideal) (M (ix4 b h r g))) 1#1) (M (ix4 b h r g)) 0 := by
    pointwise [refShift]
  rw [e]
  by_cases hm : M (ix4 b h r g) = ⊤ ∨ M (ix4 b h r g) = ⊥
  · rw [if_pos hm, show FloatOps.weird (F := Ideal) (M (ix4 b h r g)) = BitVec.ofBool (decide (M (ix4 b h r g) = ⊤ ∨ M (ix4 b h r g) = ⊥)) from rfl, decide_eq_true hm]
    rfl
  · rw [if_neg hm, show FloatOps.weird (F := Ideal) (M (ix4 b h r g)) = BitVec.ofBool (decide (M (ix4 b h r g) = ⊤ ∨ M (ix4 b h r g) = ⊥)) from rfl, decide_eq_false hm]
    rfl

theorem refP_at :
    refP S M (ix5 b h r g κ)
      = Ideal.exp (S (ix5 b h r g κ) - (Ideal.log (FloatOps.absf (F := Ideal) (φ := .f32) (∑ κ : Fin 4096, Ideal.exp (S (ix5 b h r g κ) - M (ix4 b h r g)))) + M (ix4 b h r g))) := by
  pointwise [refP]

theorem pay21_at : k0_pay21 (F := Ideal) v1 v5 v9 v13 (ix5 b h r g κ) = min HI (max LO (k0_pay20 (F := Ideal) v1 v5 v9 v13 (ix5 b h r g κ) * C256)) := by
  pointwise [k0_pay21]
  rfl

end Scores

end Cert.Proof.Ref
-- ==== Proof.S.RefRows.lean ====
/-
  The reference's scores and probabilities are the row mathematics of `Math` over its operands.
-/
module

public import proofs.«01_k».proof.Proof.S.RefScores

@[expose] public section

set_option maxRecDepth 8192

noncomputable section

namespace Cert.Proof.Ref

open Cert.ReferenceIdeal Cert.ReferenceIdeal.Gen
open Idealize.ShloMosaic
open scoped BigOperators
open Cert.Proof.Math

theorem toInt_ofNat (m : ℕ) (h : m < 2 ^ 31) : (BitVec.ofNat 32 m).toInt = m := by
  rw [BitVec.toInt_eq_toNat_of_lt (by rw [BitVec.toNat_ofNat]; omega), BitVec.toNat_ofNat]; omega

theorem sge_ofNat (m n : ℕ) (hm : m < 2 ^ 31) (hn : n < 2 ^ 31) :
    Scalar.cmpi .sge (BitVec.ofNat 32 m) (BitVec.ofNat 32 n) = BitVec.ofBool (decide (n ≤ m)) := by
  show BitVec.ofBool (BitVec.sle (BitVec.ofNat 32 n) (BitVec.ofNat 32 m)) = _
  unfold BitVec.sle
  rw [toInt_ofNat m hm, toInt_ofNat n hn]
  congr 1
  exact decide_eq_decide.2 (by omega)

theorem select_ofBool {α : Type} (p : Prop) [Decidable p] (x y : α) : Scalar.select (BitVec.ofBool (decide p)) x y = if p then x else y := by
  by_cases h : p
  · rw [decide_eq_true h, if_pos h]; rfl
  · rw [decide_eq_false h, if_neg h]; rfl

section Rows
variable (v1 : FVec Ideal S8x4096x4x4x128 .fp8e4m3) (v5 : FVec Ideal S8x4096x4x128 .fp8e4m3) (v9 : FVec Ideal S8x4x4096x4 .f32) (v13 : FVec Ideal S8x4x4096 .f32)
  (q : Fin 128 → EReal) (a : EReal) (k : Fin 4096 → Fin 128 → EReal) (ks : Fin 4096 → EReal)
  (b : Fin 8) (h : Fin 4) (r : Fin 4096) (g : Fin 4)

theorem refS_row (hq : ∀ j, v1 (ix5 b r h g j) = q j) (ha : v9 (ix4 b h r g) = a) (hk : ∀ κ j, v5 (ix4 b κ h j) = k κ j) (hks : ∀ κ, v13 (ix3 b h κ) = ks κ) (κ : Fin 4096) :
    refS v1 v5 v9 v13 (ix5 b h r g κ) = rS q a k ks (fun κ => κ.val ≤ r.val) κ := by
  rw [refS_at, sge_ofNat _ _ (by omega) (by omega), select_ofBool, ha, hks]
  simp only [hq, hk]
  rfl

/-- The probability of a key. -/
theorem pay20_row (hq : ∀ j, v1 (ix5 b r h g j) = q j) (ha : v9 (ix4 b h r g) = a) (hk : ∀ κ j, v5 (ix4 b κ h j) = k κ j) (hks : ∀ κ, v13 (ix3 b h κ) = ks κ) (κ : Fin 4096) :
    k0_pay20 (F := Ideal) v1 v5 v9 v13 (ix5 b h r g κ) = rP q a k ks (fun κ => κ.val ≤ r.val) κ := by
  have hS := refS_row v1 v5 v9 v13 q a k ks b h r g hq ha hk hks
  have hM : refMax (refRed (refS v1 v5 v9 v13)) (ix4 b h r g) = rM q a k ks (fun κ => κ.val ≤ r.val) := by
    rw [refTop_at]; unfold rM; exact congrArg (Finset.sup Finset.univ) (funext hS)
  have hM' : refShift (refMax (refRed (refS v1 v5 v9 v13))) (ix4 b h r g) = rM' q a k ks (fun κ => κ.val ≤ r.val) := by
    rw [refShift_at, hM]; rfl
  have hsum : (∑ κ : Fin 4096, Ideal.exp (refS v1 v5 v9 v13 (ix5 b h r g κ) - refShift (refMax (refRed (refS v1 v5 v9 v13))) (ix4 b h r g)))
      = rSum q a k ks (fun κ => κ.val ≤ r.val) := by
    rw [hM']; unfold rSum; exact Finset.sum_congr rfl fun κ _ => by rw [hS]
  have habs : FloatOps.absf (F := Ideal) (φ := .f32) (rSum q a k ks (fun κ : Fin 4096 => κ.val ≤ r.val)) = rSum q a k ks (fun κ : Fin 4096 => κ.val ≤ r.val) := by
    have h0 := rSum_nonneg q a k ks (fun κ : Fin 4096 => κ.val ≤ r.val)
    show max _ (-_) = _
    exact max_eq_left ((EReal.neg_le_neg_iff.2 h0 |>.trans (by rw [neg_zero])).trans h0)
  rw [pay20_parts, refP_at, hsum, habs, hM', hS]
  rfl

/-- The dequantised probability's code. -/
theorem pay21_row (hq : ∀ j, v1 (ix5 b r h g j) = q j) (ha : v9 (ix4 b h r g) = a) (hk : ∀ κ j, v5 (ix4 b κ h j) = k κ j) (hks : ∀ κ, v13 (ix3 b h κ) = ks κ) (κ : Fin 4096) :
    k0_pay21 (F := Ideal) v1 v5 v9 v13 (ix5 b h r g κ) = rC q a k ks (fun κ => κ.val ≤ r.val) κ := by
  rw [pay21_at, pay20_row v1 v5 v9 v13 q a k ks b h r g hq ha hk hks]
  rfl

end Rows

end Cert.Proof.Ref
-- ==== Proof.S.RefGrads.lean ====
/-
  The reference's results, entry by entry: its scores' gradients, and from them the three gradients, each as the row mathematics of `Math`
  over the argument arrays.
-/
module

public import proofs.«01_k».proof.Proof.S.RefRows

@[expose] public section

set_option maxRecDepth 8192

noncomputable section

namespace Cert.Proof.Ref

open Cert.ReferenceIdeal Cert.ReferenceIdeal.Gen
open Idealize.ShloMosaic
open scoped BigOperators
open Cert.Proof.Math

theorem pay1_at (v80 : FVec Ideal S8x4x4096x4x4096 .bf16) (b : Fin 8) (h : Fin 4) (r : Fin 4096) (g : Fin 4) (κ : Fin 4096) :
    k0_pay1 (F := Ideal) v80 (ix5 b h r g κ) = v80 (ix5 b h r g κ) * J256 := by
  pointwise [k0_pay1]
  rfl

section Grads
variable (v3 : FVec Ideal S8x4096x4x4x128 .fp8e5m2) (v7 : FVec Ideal S8x4096x4x128 .fp8e4m3) (v11 : FVec Ideal S8x4x4096x4 .f32) (v15 : FVec Ideal S8x4x4096 .f32)
  (v21 : FVec Ideal S8x4096x4x4x128 .bf16) (v27 v33 : FVec Ideal S8x4096x4x128 .bf16) (v39 : FVec Ideal S8x4096x4x4x128 .bf16) (v72 : FVec Ideal S8x4x4096x4x4096 .f32) (v80 : FVec Ideal S8x4x4096x4x4096 .bf16)
  (b : Fin 8) (h : Fin 4) (r : Fin 4096) (g : Fin 4) (κ : Fin 4096) (j : Fin 128)

theorem pay2_at :
    k0_pay2 (F := Ideal) v3 v7 v11 v15 v33 v39 v72 v80 (ix5 b h r g κ)
      = v72 (ix5 b h r g κ) * ((∑ x : Fin 128, v3 (ix5 b r h g x) * v7 (ix4 b κ h x)) * v11 (ix4 b h r g) * v15 (ix3 b h κ)
          - ∑ x : Fin 128, v39 (ix5 b r h g x) * (∑ y : Fin 4096, k0_pay1 (F := Ideal) v80 (ix5 b h r g y) * v33 (ix4 b y h x))) := by
  pointwise [k0_pay2]

theorem pay3_at :
    k0_pay3 (F := Ideal) v3 v7 v11 v15 v27 v33 v39 v72 v80 (ix3 b r (qcol h g j))
      = (∑ y : Fin 4096, v27 (ix4 b y h j) * k0_pay2 (F := Ideal) v3 v7 v11 v15 v33 v39 v72 v80 (ix5 b h r g y)) * SM := by
  have e1 : (⟨(h.val * 512 + g.val * 128 + j.val) / 512, by omega⟩ : Fin 4) = h := Fin.ext (by show _ / 512 = _; omega)
  have e2 : (⟨(h.val * 512 + g.val * 128 + j.val) / 128 % 4, by omega⟩ : Fin 4) = g := Fin.ext (by show _ / 128 % 4 = _; omega)
  have e3 : (⟨(h.val * 512 + g.val * 128 + j.val) % 128, by omega⟩ : Fin 128) = j := Fin.ext (by show _ % 128 = _; omega)
  unfold SM
  pointwise [k0_pay3]
  rw [e1, e2, e3]

theorem pay4_at :
    k0_pay4 (F := Ideal) v3 v7 v11 v15 v21 v33 v39 v72 v80 (ix3 b κ (kcol h j))
      = (∑ y : Fin 4, ∑ x : Fin 4096, v21 (ix5 b x h y j) * k0_pay2 (F := Ideal) v3 v7 v11 v15 v33 v39 v72 v80 (ix5 b h x y κ)) * SM := by
  have e1 : (⟨(h.val * 128 + j.val) / 128, by omega⟩ : Fin 4) = h := Fin.ext (by show _ / 128 = _; omega)
  have e2 : (⟨(h.val * 128 + j.val) % 128, by omega⟩ : Fin 128) = j := Fin.ext (by show _ % 128 = _; omega)
  unfold SM
  pointwise [k0_pay4]
  rw [e1, e2]

theorem pay5_at :
    k0_pay5 (F := Ideal) v39 v80 (ix3 b κ (kcol h j))
      = ∑ y : Fin 4, ∑ x : Fin 4096, v39 (ix5 b x h y j) * k0_pay1 (F := Ideal) v80 (ix5 b h x y κ) := by
  have e1 : (⟨(h.val * 128 + j.val) / 128, by omega⟩ : Fin 4) = h := Fin.ext (by show _ / 128 = _; omega)
  have e2 : (⟨(h.val * 128 + j.val) % 128, by omega⟩ : Fin 128) = j := Fin.ext (by show _ % 128 = _; omega)
  pointwise [k0_pay5]
  rw [e1, e2]

end Grads

end Cert.Proof.Ref
-- ==== Proof.S.RefFinal.lean ====
/-
  The reference's three results, entry by entry, over the argument arrays.
-/
module

public import proofs.«01_k».proof.Proof.S.RefGrads
public import proofs.«01_k».proof.Proof.Gen.ReferenceIdeal.Value

@[expose] public section

set_option maxRecDepth 8192

noncomputable section

namespace Cert.Proof.Ref

open Cert.ReferenceIdeal Cert.ReferenceIdeal.Gen Cert.ReferenceIdeal.Value
open Idealize.ShloMosaic
open scoped BigOperators
open Cert.Proof.Math

variable (a0 : Vec Ideal S8x4096x2048 .fp8e4m3) (a1 a2 : Vec Ideal S8x4096x512 .fp8e4m3) (a3 : Vec Ideal S8x4096x2048 .fp8e5m2)
  (a4 : Vec Ideal S8x4x4x4096 .f32) (a5 a6 : Vec Ideal S8x4x1x4096 .f32) (a7 : Vec Ideal S8x4x4x4096 .f32)
  (b : Fin 8) (h : Fin 4) (r : Fin 4096) (g : Fin 4) (κ : Fin 4096) (j : Fin 128)

theorem in22 : k0_pay22 (F := Ideal) a0 a1 a2 a3 a4 a5 a6 a7 (ix5 b r h g j) = a0 (ix3 b r (qcol h g j)) := by
  unfold k0_pay22
  rw [View.ld_unit_zero (S := S8x4096x2048) hz0 _ a0]
  exact pay6_at a0 b r h g j

theorem in23 : k0_pay23 (F := Ideal) a0 a1 a2 a3 a4 a5 a6 a7 (ix5 b r h g j) = a3 (ix3 b r (qcol h g j)) := by
  unfold k0_pay23
  rw [View.ld_unit_zero (S := S8x4096x2048) hz3 _ a3]
  exact pay7_at a3 b r h g j

theorem in24 : k0_pay24 (F := Ideal) a0 a1 a2 a3 a4 a5 a6 a7 (ix4 b κ h j) = a1 (ix3 b κ (kcol h j)) := by
  unfold k0_pay24
  rw [View.ld_unit_zero (S := S8x4096x512) hz1 _ a1]
  exact pay8_at a1 b κ h j

theorem in25 : k0_pay25 (F := Ideal) a0 a1 a2 a3 a4 a5 a6 a7 (ix4 b κ h j) = a2 (ix3 b κ (kcol h j)) := by
  unfold k0_pay25
  rw [View.ld_unit_zero (S := S8x4096x512) hz2 _ a2]
  exact pay9_at a2 b κ h j

theorem in26 : k0_pay26 (F := Ideal) a0 a1 a2 a3 a4 a5 a6 a7 (ix4 b h r g) = a4 (ix4 b h g r) := by
  unfold k0_pay26
  rw [View.ld_unit_zero (S := S8x4x4x4096) hz4 _ a4]
  exact pay10_at a4 b h r g

theorem in27 : k0_pay27 (F := Ideal) a0 a1 a2 a3 a4 a5 a6 a7 (ix4 b h r g) = a7 (ix4 b h g r) := by
  unfold k0_pay27
  rw [View.ld_unit_zero (S := S8x4x4x4096) hz7 _ a7]
  exact pay11_at a7 b h r g

theorem in28 : k0_pay28 (F := Ideal) a0 a1 a2 a3 a4 a5 a6 a7 (ix3 b h κ) = a5 (ix4 b h 0 κ) := by
  unfold k0_pay28
  rw [View.ld_unit_zero (S := S8x4x1x4096) hz5 _ a5]
  exact pay12_at a5 b h κ

theorem in29 : k0_pay29 (F := Ideal) a0 a1 a2 a3 a4 a5 a6 a7 (ix3 b h κ) = a6 (ix4 b h 0 κ) := by
  unfold k0_pay29
  rw [View.ld_unit_zero (S := S8x4x1x4096) hz6 _ a6]
  exact pay13_at a6 b h κ

theorem in30 : k0_pay30 (F := Ideal) a0 a1 a2 a3 a4 a5 a6 a7 (ix4 b κ h j) = a2 (ix3 b κ (kcol h j)) * a6 (ix4 b h 0 κ) := by
  unfold k0_pay30
  rw [View.ld_unit_zero (S := S8x4096x512) hz2 _ a2, View.ld_unit_zero (S := S8x4x1x4096) hz6 _ a6]
  exact pay18_at a2 a6 b κ h j

theorem in31 : k0_pay31 (F := Ideal) a0 a1 a2 a3 a4 a5 a6 a7 (ix5 b r h g j) = a3 (ix3 b r (qcol h g j)) * a7 (ix4 b h g r) := by
  unfold k0_pay31
  rw [pay19_at, in23, in27]

theorem in32 : k0_pay32 (F := Ideal) a0 a1 a2 a3 a4 a5 a6 a7 (ix5 b h r g κ) = rP (fun j : Fin 128 => a0 (ix3 b r (qcol h g j))) (a4 (ix4 b h g r)) (fun (κ : Fin 4096) (j : Fin 128) => a1 (ix3 b κ (kcol h j))) (fun κ : Fin 4096 => a5 (ix4 b h 0 κ)) (fun κ : Fin 4096 => κ.val ≤ r.val) κ := by
  unfold k0_pay32
  exact pay20_row _ _ _ _ _ _ _ _ b h r g (fun j => in22 a0 a1 a2 a3 a4 a5 a6 a7 b h r g j) (in26 a0 a1 a2 a3 a4 a5 a6 a7 b h r g) (fun κ j => in24 a0 a1 a2 a3 a4 a5 a6 a7 b h κ j) (fun κ => in28 a0 a1 a2 a3 a4 a5 a6 a7 b h κ) κ

theorem in33 : k0_pay33 (F := Ideal) a0 a1 a2 a3 a4 a5 a6 a7 (ix5 b h r g κ) = rC (fun j : Fin 128 => a0 (ix3 b r (qcol h g j))) (a4 (ix4 b h g r)) (fun (κ : Fin 4096) (j : Fin 128) => a1 (ix3 b κ (kcol h j))) (fun κ : Fin 4096 => a5 (ix4 b h 0 κ)) (fun κ : Fin 4096 => κ.val ≤ r.val) κ := by
  unfold k0_pay33
  exact pay21_row _ _ _ _ _ _ _ _ b h r g (fun j => in22 a0 a1 a2 a3 a4 a5 a6 a7 b h r g j) (in26 a0 a1 a2 a3 a4 a5 a6 a7 b h r g) (fun κ j => in24 a0 a1 a2 a3 a4 a5 a6 a7 b h κ j) (fun κ => in28 a0 a1 a2 a3 a4 a5 a6 a7 b h κ) κ

/-- The dequantised probability of a key. -/
theorem inPd : k0_pay1 (F := Ideal) (k0_pay33 (F := Ideal) a0 a1 a2 a3 a4 a5 a6 a7) (ix5 b h r g κ) = rPd (fun j : Fin 128 => a0 (ix3 b r (qcol h g j))) (a4 (ix4 b h g r)) (fun (κ : Fin 4096) (j : Fin 128) => a1 (ix3 b κ (kcol h j))) (fun κ : Fin 4096 => a5 (ix4 b h 0 κ)) (fun κ : Fin 4096 => κ.val ≤ r.val) κ := by
  rw [pay1_at, in33]; rfl

/-- The gradient of a score. -/
theorem inDs : k0_pay2 (F := Ideal) (k0_pay23 (F := Ideal) a0 a1 a2 a3 a4 a5 a6 a7) (k0_pay25 (F := Ideal) a0 a1 a2 a3 a4 a5 a6 a7) (k0_pay27 (F := Ideal) a0 a1 a2 a3 a4 a5 a6 a7) (k0_pay29 (F := Ideal) a0 a1 a2 a3 a4 a5 a6 a7) (k0_pay30 (F := Ideal) a0 a1 a2 a3 a4 a5 a6 a7) (k0_pay31 (F := Ideal) a0 a1 a2 a3 a4 a5 a6 a7) (k0_pay32 (F := Ideal) a0 a1 a2 a3 a4 a5 a6 a7) (k0_pay33 (F := Ideal) a0 a1 a2 a3 a4 a5 a6 a7) (ix5 b h r g κ) = rDs (fun j : Fin 128 => a0 (ix3 b r (qcol h g j))) (fun j : Fin 128 => a3 (ix3 b r (qcol h g j))) (a4 (ix4 b h g r)) (a7 (ix4 b h g r)) (fun (κ : Fin 4096) (j : Fin 128) => a1 (ix3 b κ (kcol h j))) (fun (κ : Fin 4096) (j : Fin 128) => a2 (ix3 b κ (kcol h j))) (fun κ : Fin 4096 => a5 (ix4 b h 0 κ)) (fun κ : Fin 4096 => a6 (ix4 b h 0 κ)) (fun κ : Fin 4096 => κ.val ≤ r.val) κ := by
  rw [pay2_at, in32, in27, in29]
  have e1 : (∑ x : Fin 128, k0_pay23 (F := Ideal) a0 a1 a2 a3 a4 a5 a6 a7 (ix5 b r h g x) * k0_pay25 (F := Ideal) a0 a1 a2 a3 a4 a5 a6 a7 (ix4 b κ h x)) = ∑ x : Fin 128, a3 (ix3 b r (qcol h g x)) * a2 (ix3 b κ (kcol h x)) :=
    Finset.sum_congr rfl fun x _ => by rw [in23, in25]
  have e2 : (∑ x : Fin 128, k0_pay31 (F := Ideal) a0 a1 a2 a3 a4 a5 a6 a7 (ix5 b r h g x) * (∑ y : Fin 4096, k0_pay1 (F := Ideal) (k0_pay33 (F := Ideal) a0 a1 a2 a3 a4 a5 a6 a7) (ix5 b h r g y) * k0_pay30 (F := Ideal) a0 a1 a2 a3 a4 a5 a6 a7 (ix4 b y h x)))
      = rDel (fun j : Fin 128 => a0 (ix3 b r (qcol h g j))) (fun j : Fin 128 => a3 (ix3 b r (qcol h g j))) (a4 (ix4 b h g r)) (a7 (ix4 b h g r)) (fun (κ : Fin 4096) (j : Fin 128) => a1 (ix3 b κ (kcol h j))) (fun (κ : Fin 4096) (j : Fin 128) => a2 (ix3 b κ (kcol h j))) (fun κ : Fin 4096 => a5 (ix4 b h 0 κ)) (fun κ : Fin 4096 => a6 (ix4 b h 0 κ)) (fun κ : Fin 4096 => κ.val ≤ r.val) := by
    unfold rDel
    refine Finset.sum_congr rfl fun x _ => ?_
    rw [in31]
    refine congrArg (fun z => a3 (ix3 b r (qcol h g x)) * a7 (ix4 b h g r) * z) ?_
    unfold rO
    exact Finset.sum_congr rfl fun y _ => by rw [inPd, in30]
  rw [e1, e2]; unfold rDs; with_reducible rfl

/-- The query's gradient. -/
theorem G8_at : G8 (F := Ideal) a0 a1 a2 a3 a4 a5 a6 a7 (ix3 b r (qcol h g j)) = rDq (fun j : Fin 128 => a0 (ix3 b r (qcol h g j))) (fun j : Fin 128 => a3 (ix3 b r (qcol h g j))) (a4 (ix4 b h g r)) (a7 (ix4 b h g r)) (fun (κ : Fin 4096) (j : Fin 128) => a1 (ix3 b κ (kcol h j))) (fun (κ : Fin 4096) (j : Fin 128) => a2 (ix3 b κ (kcol h j))) (fun κ : Fin 4096 => a5 (ix4 b h 0 κ)) (fun κ : Fin 4096 => a6 (ix4 b h 0 κ)) (fun κ : Fin 4096 => κ.val ≤ r.val) j := by
  unfold G8
  rw [pay3_at]; unfold rDq
  exact congrArg (· * SM) (Finset.sum_congr rfl fun κ _ => by rw [pay15_at, inDs])

/-- The key's gradient. -/
theorem G9_at : G9 (F := Ideal) a0 a1 a2 a3 a4 a5 a6 a7 (ix3 b κ (kcol h j)) = (∑ g : Fin 4, ∑ r : Fin 4096, rDk (fun j : Fin 128 => a0 (ix3 b r (qcol h g j))) (fun j : Fin 128 => a3 (ix3 b r (qcol h g j))) (a4 (ix4 b h g r)) (a7 (ix4 b h g r)) (fun (κ : Fin 4096) (j : Fin 128) => a1 (ix3 b κ (kcol h j))) (fun (κ : Fin 4096) (j : Fin 128) => a2 (ix3 b κ (kcol h j))) (fun κ : Fin 4096 => a5 (ix4 b h 0 κ)) (fun κ : Fin 4096 => a6 (ix4 b h 0 κ)) (fun κ : Fin 4096 => κ.val ≤ r.val) κ j) * SM := by
  unfold G9
  rw [pay4_at]
  exact congrArg (· * SM) (Finset.sum_congr rfl fun g _ => Finset.sum_congr rfl fun r _ => by rw [pay14_at, inDs]; unfold rDk; with_reducible rfl)

/-- The value's gradient. -/
theorem G10_at : G10 (F := Ideal) a0 a1 a2 a3 a4 a5 a6 a7 (ix3 b κ (kcol h j)) = ∑ g : Fin 4, ∑ r : Fin 4096, rDv (fun j : Fin 128 => a0 (ix3 b r (qcol h g j))) (fun j : Fin 128 => a3 (ix3 b r (qcol h g j))) (a4 (ix4 b h g r)) (a7 (ix4 b h g r)) (fun (κ : Fin 4096) (j : Fin 128) => a1 (ix3 b κ (kcol h j))) (fun κ : Fin 4096 => a5 (ix4 b h 0 κ)) (fun κ : Fin 4096 => κ.val ≤ r.val) κ j := by
  unfold G10
  rw [pay5_at]
  exact Finset.sum_congr rfl fun g _ => Finset.sum_congr rfl fun r _ => by rw [in31, inPd]; unfold rDv; with_reducible rfl

end Cert.Proof.Ref

end
-- ==== Proof.S.ValBlocks.lean ====
/-
  The blocks of a launch inside the arrays.
-/
module

public import proofs.«01_k».proof.Proof.S.ValPipe
public import proofs.«01_k».proof.Proof.S.RefFinal
public import Idealize.ShloMosaic.Lib.Pipeline.Value

@[expose] public section

set_option maxRecDepth 8192

noncomputable section

namespace Cert.Proof.Val

open Cert.KernelIdeal Cert.KernelIdeal.Gen
open Idealize.ShloMosaic Idealize.ShloMosaic.TcCoe Idealize.SL.Sem
open Idealize.ShloMosaic.Pipeline (Dat)
open scoped BigOperators
open Cert.Proof.Math
open Cert.Proof.Ref (qcol kcol)

variable (m : (ℓ : Loc nD τ sig) → Buf (Elt Ideal) ℓ) (ρ : Dev nD → PrngReg)

theorem N_eq : cfg0.N = 32 := by decide

/-- The batch entry of a launch. -/
def tb (t : Fin cfg0.N) : Fin 8 := ⟨t.val / 4, by have h : t.val < 32 := lt_of_lt_of_eq t.isLt N_eq; omega⟩
/-- The key head of a launch. -/
def th (t : Fin cfg0.N) : Fin 4 := ⟨t.val % 4, by omega⟩
/-- The launch of a batch entry and a key head. -/
def pt (b h : ℕ) (hb : b < 8) (hh : h < 4) : Fin cfg0.N := ⟨4 * b + h, lt_of_lt_of_eq (by omega : 4 * b + h < 32) N_eq.symm⟩

theorem idx0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, win0_0.index t (0 : Fin 3) = t.val / 4 ∧ win0_0.index t (1 : Fin 3) = 0 ∧ win0_0.index t (2 : Fin 3) = t.val % 4)

theorem emb0 (t : Fin cfg0.N) (x : S1x4096x512.Idx) : ((cfg0.win 0).blk t).view.emb x
    = ix3 (tb t) (x 1) ⟨512 * (th t).val + (x 2).val, by have h1 := (th t).isLt; have h2 : (x 2).val < 512 := (x 2).isLt; omega⟩ := by
  obtain ⟨e0, e1, e2⟩ := idx0 t
  funext a; apply Fin.ext
  match a with
  | ⟨0, _⟩ => show win0_0.index t (0 : Fin 3) * 1 + 1 * (x 0).val = t.val / 4; have h : (x 0).val < 1 := (x 0).isLt; omega
  | ⟨1, _⟩ => show win0_0.index t (1 : Fin 3) * 4096 + 1 * (x 1).val = (x 1).val; omega
  | ⟨2, _⟩ => show win0_0.index t (2 : Fin 3) * 512 + 1 * (x 2).val = 512 * (t.val % 4) + (x 2).val; omega

theorem blk0 (c : Dev nD) (t : Fin cfg0.N) (r : Fin 4096) (g : Fin 4) (j : Fin 128) : iblk m c 0 t (ix3 0 r (col g j)) = m ((c : Thread nD τ).loc main_arg0) (ix3 (tb t) r (qcol (th t) g j)) := by
  show V m c main_arg0 (((cfg0.win 0).blk t).view.emb (ix3 0 r (col g j))) = _
  rw [emb0, V_main_arg0]
  exact congrArg (m ((c : Thread nD τ).loc main_arg0)) (congrArg (ix3 (tb t) r) (Fin.ext (by show 512 * (th t).val + (128 * g.val + j.val) = (th t).val * 512 + g.val * 128 + j.val; omega)))

theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, win0_1.index t (0 : Fin 3) = t.val / 4 ∧ win0_1.index t (1 : Fin 3) = 0 ∧ win0_1.index t (2 : Fin 3) = t.val % 4)

theorem emb1 (t : Fin cfg0.N) (x : S1x4096x128.Idx) : ((cfg0.win 1).blk t).view.emb x
    = ix3 (tb t) (x 1) ⟨128 * (th t).val + (x 2).val, by have h1 := (th t).isLt; have h2 : (x 2).val < 128 := (x 2).isLt; omega⟩ := by
  obtain ⟨e0, e1, e2⟩ := idx1 t
  funext a; apply Fin.ext
  match a with
  | ⟨0, _⟩ => show win0_1.index t (0 : Fin 3) * 1 + 1 * (x 0).val = t.val / 4; have h : (x 0).val < 1 := (x 0).isLt; omega
  | ⟨1, _⟩ => show win0_1.index t (1 : Fin 3) * 4096 + 1 * (x 1).val = (x 1).val; omega
  | ⟨2, _⟩ => show win0_1.index t (2 : Fin 3) * 128 + 1 * (x 2).val = 128 * (t.val % 4) + (x 2).val; omega

theorem blk1 (c : Dev nD) (t : Fin cfg0.N) (κ : Fin 4096) (j : Fin 128) : iblk m c 1 t (ix3 0 κ j) = m ((c : Thread nD τ).loc main_arg1) (ix3 (tb t) κ (kcol (th t) j)) := by
  show V m c main_arg1 (((cfg0.win 1).blk t).view.emb (ix3 0 κ j)) = _
  rw [emb1, V_main_arg1]
  exact congrArg (m ((c : Thread nD τ).loc main_arg1)) (congrArg (ix3 (tb t) κ) (Fin.ext (by show 128 * (th t).val + j.val = (th t).val * 128 + j.val; omega)))

theorem idx2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, win0_2.index t (0 : Fin 3) = t.val / 4 ∧ win0_2.index t (1 : Fin 3) = 0 ∧ win0_2.index t (2 : Fin 3) = t.val % 4)

theorem emb2 (t : Fin cfg0.N) (x : S1x4096x128.Idx) : ((cfg0.win 2).blk t).view.emb x
    = ix3 (tb t) (x 1) ⟨128 * (th t).val + (x 2).val, by have h1 := (th t).isLt; have h2 : (x 2).val < 128 := (x 2).isLt; omega⟩ := by
  obtain ⟨e0, e1, e2⟩ := idx2 t
  funext a; apply Fin.ext
  match a with
  | ⟨0, _⟩ => show win0_2.index t (0 : Fin 3) * 1 + 1 * (x 0).val = t.val / 4; have h : (x 0).val < 1 := (x 0).isLt; omega
  | ⟨1, _⟩ => show win0_2.index t (1 : Fin 3) * 4096 + 1 * (x 1).val = (x 1).val; omega
  | ⟨2, _⟩ => show win0_2.index t (2 : Fin 3) * 128 + 1 * (x 2).val = 128 * (t.val % 4) + (x 2).val; omega

theorem blk2 (c : Dev nD) (t : Fin cfg0.N) (κ : Fin 4096) (j : Fin 128) : iblk m c 2 t (ix3 0 κ j) = m ((c : Thread nD τ).loc main_arg2) (ix3 (tb t) κ (kcol (th t) j)) := by
  show V m c main_arg2 (((cfg0.win 2).blk t).view.emb (ix3 0 κ j)) = _
  rw [emb2, V_main_arg2]
  exact congrArg (m ((c : Thread nD τ).loc main_arg2)) (congrArg (ix3 (tb t) κ) (Fin.ext (by show 128 * (th t).val + j.val = (th t).val * 128 + j.val; omega)))

theorem idx3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, win0_3.index t (0 : Fin 3) = t.val / 4 ∧ win0_3.index t (1 : Fin 3) = 0 ∧ win0_3.index t (2 : Fin 3) = t.val % 4)

theorem emb3 (t : Fin cfg0.N) (x : S1x4096x512.Idx) : ((cfg0.win 3).blk t).view.emb x
    = ix3 (tb t) (x 1) ⟨512 * (th t).val + (x 2).val, by have h1 := (th t).isLt; have h2 : (x 2).val < 512 := (x 2).isLt; omega⟩ := by
  obtain ⟨e0, e1, e2⟩ := idx3 t
  funext a; apply Fin.ext
  match a with
  | ⟨0, _⟩ => show win0_3.index t (0 : Fin 3) * 1 + 1 * (x 0).val = t.val / 4; have h : (x 0).val < 1 := (x 0).isLt; omega
  | ⟨1, _⟩ => show win0_3.index t (1 : Fin 3) * 4096 + 1 * (x 1).val = (x 1).val; omega
  | ⟨2, _⟩ => show win0_3.index t (2 : Fin 3) * 512 + 1 * (x 2).val = 512 * (t.val % 4) + (x 2).val; omega

theorem blk3 (c : Dev nD) (t : Fin cfg0.N) (r : Fin 4096) (g : Fin 4) (j : Fin 128) : iblk m c 3 t (ix3 0 r (col g j)) = m ((c : Thread nD τ).loc main_arg3) (ix3 (tb t) r (qcol (th t) g j)) := by
  show V m c main_arg3 (((cfg0.win 3).blk t).view.emb (ix3 0 r (col g j))) = _
  rw [emb3, V_main_arg3]
  exact congrArg (m ((c : Thread nD τ).loc main_arg3)) (congrArg (ix3 (tb t) r) (Fin.ext (by show 512 * (th t).val + (128 * g.val + j.val) = (th t).val * 512 + g.val * 128 + j.val; omega)))

theorem idx4 : ∀ t : Fin cfg0.N, win0_4.index t (0 : Fin 4) = t.val / 4 ∧ win0_4.index t (1 : Fin 4) = t.val % 4 ∧ win0_4.index t (2 : Fin 4) = 0 ∧ win0_4.index t (3 : Fin 4) = 0 :=
  (by decide +kernel : ∀ t : Fin grid0.N, win0_4.index t (0 : Fin 4) = t.val / 4 ∧ win0_4.index t (1 : Fin 4) = t.val % 4 ∧ win0_4.index t (2 : Fin 4) = 0 ∧ win0_4.index t (3 : Fin 4) = 0)

theorem emb4 (t : Fin cfg0.N) (x : S1x1x4x4096.Idx) : ((cfg0.win 4).blk t).view.emb x = ix4 (tb t) (th t) (x 2) (x 3) := by
  obtain ⟨e0, e1, e2, e3⟩ := idx4 t
  funext a; apply Fin.ext
  match a with
  | ⟨0, _⟩ => show win0_4.index t (0 : Fin 4) * 1 + 1 * (x 0).val = t.val / 4; have h : (x 0).val < 1 := (x 0).isLt; omega
  | ⟨1, _⟩ => show win0_4.index t (1 : Fin 4) * 1 + 1 * (x 1).val = t.val % 4; have h : (x 1).val < 1 := (x 1).isLt; omega
  | ⟨2, _⟩ => show win0_4.index t (2 : Fin 4) * 4 + 1 * (x 2).val = (x 2).val; omega
  | ⟨3, _⟩ => show win0_4.index t (3 : Fin 4) * 4096 + 1 * (x 3).val = (x 3).val; omega

theorem blk4 (c : Dev nD) (t : Fin cfg0.N) (g : Fin 4) (r : Fin 4096) : iblk m c 4 t (ix4 0 0 g r) = m ((c : Thread nD τ).loc main_arg4) (ix4 (tb t) (th t) g r) := by
  show V m c main_arg4 (((cfg0.win 4).blk t).view.emb (ix4 0 0 g r)) = _
  rw [emb4, V_main_arg4]
  rfl

theorem idx5 : ∀ t : Fin cfg0.N, win0_5.index t (0 : Fin 4) = t.val / 4 ∧ win0_5.index t (1 : Fin 4) = t.val % 4 ∧ win0_5.index t (2 : Fin 4) = 0 ∧ win0_5.index t (3 : Fin 4) = 0 :=
  (by decide +kernel : ∀ t : Fin grid0.N, win0_5.index t (0 : Fin 4) = t.val / 4 ∧ win0_5.index t (1 : Fin 4) = t.val % 4 ∧ win0_5.index t (2 : Fin 4) = 0 ∧ win0_5.index t (3 : Fin 4) = 0)

theorem emb5 (t : Fin cfg0.N) (x : S1x1x1x4096.Idx) : ((cfg0.win 5).blk t).view.emb x = ix4 (tb t) (th t) (x 2) (x 3) := by
  obtain ⟨e0, e1, e2, e3⟩ := idx5 t
  funext a; apply Fin.ext
  match a with
  | ⟨0, _⟩ => show win0_5.index t (0 : Fin 4) * 1 + 1 * (x 0).val = t.val / 4; have h : (x 0).val < 1 := (x 0).isLt; omega
  | ⟨1, _⟩ => show win0_5.index t (1 : Fin 4) * 1 + 1 * (x 1).val = t.val % 4; have h : (x 1).val < 1 := (x 1).isLt; omega
  | ⟨2, _⟩ => show win0_5.index t (2 : Fin 4) * 1 + 1 * (x 2).val = (x 2).val; omega
  | ⟨3, _⟩ => show win0_5.index t (3 : Fin 4) * 4096 + 1 * (x 3).val = (x 3).val; omega

theorem blk5 (c : Dev nD) (t : Fin cfg0.N) (κ : Fin 4096) : iblk m c 5 t (ix4 0 0 0 κ) = m ((c : Thread nD τ).loc main_arg5) (ix4 (tb t) (th t) 0 κ) := by
  show V m c main_arg5 (((cfg0.win 5).blk t).view.emb (ix4 0 0 0 κ)) = _
  rw [emb5, V_main_arg5]
  rfl

theorem idx6 : ∀ t : Fin cfg0.N, win0_6.index t (0 : Fin 4) = t.val / 4 ∧ win0_6.index t (1 : Fin 4) = t.val % 4 ∧ win0_6.index t (2 : Fin 4) = 0 ∧ win0_6.index t (3 : Fin 4) = 0 :=
  (by decide +kernel : ∀ t : Fin grid0.N, win0_6.index t (0 : Fin 4) = t.val / 4 ∧ win0_6.index t (1 : Fin 4) = t.val % 4 ∧ win0_6.index t (2 : Fin 4) = 0 ∧ win0_6.index t (3 : Fin 4) = 0)

theorem emb6 (t : Fin cfg0.N) (x : S1x1x1x4096.Idx) : ((cfg0.win 6).blk t).view.emb x = ix4 (tb t) (th t) (x 2) (x 3) := by
  obtain ⟨e0, e1, e2, e3⟩ := idx6 t
  funext a; apply Fin.ext
  match a with
  | ⟨0, _⟩ => show win0_6.index t (0 : Fin 4) * 1 + 1 * (x 0).val = t.val / 4; have h : (x 0).val < 1 := (x 0).isLt; omega
  | ⟨1, _⟩ => show win0_6.index t (1 : Fin 4) * 1 + 1 * (x 1).val = t.val % 4; have h : (x 1).val < 1 := (x 1).isLt; omega
  | ⟨2, _⟩ => show win0_6.index t (2 : Fin 4) * 1 + 1 * (x 2).val = (x 2).val; omega
  | ⟨3, _⟩ => show win0_6.index t (3 : Fin 4) * 4096 + 1 * (x 3).val = (x 3).val; omega

theorem blk6 (c : Dev nD) (t : Fin cfg0.N) (κ : Fin 4096) : iblk m c 6 t (ix4 0 0 0 κ) = m ((c : Thread nD τ).loc main_arg6) (ix4 (tb t) (th t) 0 κ) := by
  show V m c main_arg6 (((cfg0.win 6).blk t).view.emb (ix4 0 0 0 κ)) = _
  rw [emb6, V_main_arg6]
  rfl

theorem idx7 : ∀ t : Fin cfg0.N, win0_7.index t (0 : Fin 4) = t.val / 4 ∧ win0_7.index t (1 : Fin 4) = t.val % 4 ∧ win0_7.index t (2 : Fin 4) = 0 ∧ win0_7.index t (3 : Fin 4) = 0 :=
  (by decide +kernel : ∀ t : Fin grid0.N, win0_7.index t (0 : Fin 4) = t.val / 4 ∧ win0_7.index t (1 : Fin 4) = t.val % 4 ∧ win0_7.index t (2 : Fin 4) = 0 ∧ win0_7.index t (3 : Fin 4) = 0)

theorem emb7 (t : Fin cfg0.N) (x : S1x1x4x4096.Idx) : ((cfg0.win 7).blk t).view.emb x = ix4 (tb t) (th t) (x 2) (x 3) := by
  obtain ⟨e0, e1, e2, e3⟩ := idx7 t
  funext a; apply Fin.ext
  match a with
  | ⟨0, _⟩ => show win0_7.index t (0 : Fin 4) * 1 + 1 * (x 0).val = t.val / 4; have h : (x 0).val < 1 := (x 0).isLt; omega
  | ⟨1, _⟩ => show win0_7.index t (1 : Fin 4) * 1 + 1 * (x 1).val = t.val % 4; have h : (x 1).val < 1 := (x 1).isLt; omega
  | ⟨2, _⟩ => show win0_7.index t (2 : Fin 4) * 4 + 1 * (x 2).val = (x 2).val; omega
  | ⟨3, _⟩ => show win0_7.index t (3 : Fin 4) * 4096 + 1 * (x 3).val = (x 3).val; omega

theorem blk7 (c : Dev nD) (t : Fin cfg0.N) (g : Fin 4) (r : Fin 4096) : iblk m c 7 t (ix4 0 0 g r) = m ((c : Thread nD τ).loc main_arg7) (ix4 (tb t) (th t) g r) := by
  show V m c main_arg7 (((cfg0.win 7).blk t).view.emb (ix4 0 0 g r)) = _
  rw [emb7, V_main_arg7]
  rfl

theorem idx8 : ∀ t : Fin cfg0.N, win0_8.index t (0 : Fin 3) = t.val / 4 ∧ win0_8.index t (1 : Fin 3) = 0 ∧ win0_8.index t (2 : Fin 3) = t.val % 4 :=
  (by decide +kernel : ∀ t : Fin grid0.N, win0_8.index t (0 : Fin 3) = t.val / 4 ∧ win0_8.index t (1 : Fin 3) = 0 ∧ win0_8.index t (2 : Fin 3) = t.val % 4)

theorem emb8 (t : Fin cfg0.N) (x : S1x4096x512.Idx) : ((cfg0.win 8).blk t).view.emb x
    = ix3 (tb t) (x 1) ⟨512 * (th t).val + (x 2).val, by have h1 := (th t).isLt; have h2 : (x 2).val < 512 := (x 2).isLt; omega⟩ := by
  obtain ⟨e0, e1, e2⟩ := idx8 t
  funext a; apply Fin.ext
  match a with
  | ⟨0, _⟩ => show win0_8.index t (0 : Fin 3) * 1 + 1 * (x 0).val = t.val / 4; have h : (x 0).val < 1 := (x 0).isLt; omega
  | ⟨1, _⟩ => show win0_8.index t (1 : Fin 3) * 4096 + 1 * (x 1).val = (x 1).val; omega
  | ⟨2, _⟩ => show win0_8.index t (2 : Fin 3) * 512 + 1 * (x 2).val = 512 * (t.val % 4) + (x 2).val; omega

theorem idx9 : ∀ t : Fin cfg0.N, win0_9.index t (0 : Fin 3) = t.val / 4 ∧ win0_9.index t (1 : Fin 3) = 0 ∧ win0_9.index t (2 : Fin 3) = t.val % 4 :=
  (by decide +kernel : ∀ t : Fin grid0.N, win0_9.index t (0 : Fin 3) = t.val / 4 ∧ win0_9.index t (1 : Fin 3) = 0 ∧ win0_9.index t (2 : Fin 3) = t.val % 4)

theorem emb9 (t : Fin cfg0.N) (x : S1x4096x128.Idx) : ((cfg0.win 9).blk t).view.emb x
    = ix3 (tb t) (x 1) ⟨128 * (th t).val + (x 2).val, by have h1 := (th t).isLt; have h2 : (x 2).val < 128 := (x 2).isLt; omega⟩ := by
  obtain ⟨e0, e1, e2⟩ := idx9 t
  funext a; apply Fin.ext
  match a with
  | ⟨0, _⟩ => show win0_9.index t (0 : Fin 3) * 1 + 1 * (x 0).val = t.val / 4; have h : (x 0).val < 1 := (x 0).isLt; omega
  | ⟨1, _⟩ => show win0_9.index t (1 : Fin 3) * 4096 + 1 * (x 1).val = (x 1).val; omega
  | ⟨2, _⟩ => show win0_9.index t (2 : Fin 3) * 128 + 1 * (x 2).val = 128 * (t.val % 4) + (x 2).val; omega

theorem idx10 : ∀ t : Fin cfg0.N, win0_10.index t (0 : Fin 3) = t.val / 4 ∧ win0_10.index t (1 : Fin 3) = 0 ∧ win0_10.index t (2 : Fin 3) = t.val % 4 :=
  (by decide +kernel : ∀ t : Fin grid0.N, win0_10.index t (0 : Fin 3) = t.val / 4 ∧ win0_10.index t (1 : Fin 3) = 0 ∧ win0_10.index t (2 : Fin 3) = t.val % 4)

theorem emb10 (t : Fin cfg0.N) (x : S1x4096x128.Idx) : ((cfg0.win 10).blk t).view.emb x
    = ix3 (tb t) (x 1) ⟨128 * (th t).val + (x 2).val, by have h1 := (th t).isLt; have h2 : (x 2).val < 128 := (x 2).isLt; omega⟩ := by
  obtain ⟨e0, e1, e2⟩ := idx10 t
  funext a; apply Fin.ext
  match a with
  | ⟨0, _⟩ => show win0_10.index t (0 : Fin 3) * 1 + 1 * (x 0).val = t.val / 4; have h : (x 0).val < 1 := (x 0).isLt; omega
  | ⟨1, _⟩ => show win0_10.index t (1 : Fin 3) * 4096 + 1 * (x 1).val = (x 1).val; omega
  | ⟨2, _⟩ => show win0_10.index t (2 : Fin 3) * 128 + 1 * (x 2).val = 128 * (t.val % 4) + (x 2).val; omega

end Cert.Proof.Val

end
-- ==== Proof.S.ValOf.lean ====
/-
  A launch's gradients over named operands.
-/
module

public import proofs.«01_k».proof.Proof.S.ValRun
public import Idealize.ShloMosaic.Lib.Pipeline.Value

@[expose] public section

set_option maxRecDepth 8192

noncomputable section

namespace Cert.Proof.Val

open Cert.KernelIdeal Cert.KernelIdeal.Gen
open Idealize.ShloMosaic Idealize.ShloMosaic.TcCoe Idealize.SL.Sem
open Idealize.ShloMosaic.Pipeline (Dat)
open scoped BigOperators
open Cert.Proof.Math

theorem dq_of (I : Ops) (g : Fin 4) (r : Fin 4096) (j : Fin 128) (q d : Fin 128 → EReal) (a o : EReal) (k v : Fin 4096 → Fin 128 → EReal) (ks vs : Fin 4096 → EReal)
    (hq : ∀ j, I.q (ix3 0 r (col g j)) = q j) (hd : ∀ j, I.d (ix3 0 r (col g j)) = d j) (ha : I.qs (ix4 0 0 g r) = a) (ho : I.ds (ix4 0 0 g r) = o)
    (hk : ∀ κ j, I.k (ix3 0 κ j) = k κ j) (hv : ∀ κ j, I.v (ix3 0 κ j) = v κ j) (hks : ∀ κ, I.ks (ix4 0 0 0 κ) = ks κ) (hvs : ∀ κ, I.vs (ix4 0 0 0 κ) = vs κ) :
    I.dq g r j = kDq q d a o k v ks vs (fun κ : Fin 4096 => κ.val ≤ r.val) j := by
  obtain rfl : q = fun j => I.q (ix3 0 r (col g j)) := funext fun j => (hq j).symm
  obtain rfl : d = fun j => I.d (ix3 0 r (col g j)) := funext fun j => (hd j).symm
  obtain rfl : k = fun κ j => I.k (ix3 0 κ j) := funext fun κ => funext fun j => (hk κ j).symm
  obtain rfl : ks = fun κ => I.ks (ix4 0 0 0 κ) := funext fun κ => (hks κ).symm
  obtain rfl : v = fun κ j => I.v (ix3 0 κ j) := funext fun κ => funext fun j => (hv κ j).symm
  obtain rfl : vs = fun κ => I.vs (ix4 0 0 0 κ) := funext fun κ => (hvs κ).symm
  subst ha ho
  unfold Ops.dq; with_reducible rfl

theorem dk_of (I : Ops) (g : Fin 4) (r : Fin 4096) (κ : Fin 4096) (j : Fin 128) (q d : Fin 128 → EReal) (a o : EReal) (k v : Fin 4096 → Fin 128 → EReal) (ks vs : Fin 4096 → EReal)
    (hq : ∀ j, I.q (ix3 0 r (col g j)) = q j) (hd : ∀ j, I.d (ix3 0 r (col g j)) = d j) (ha : I.qs (ix4 0 0 g r) = a) (ho : I.ds (ix4 0 0 g r) = o)
    (hk : ∀ κ j, I.k (ix3 0 κ j) = k κ j) (hv : ∀ κ j, I.v (ix3 0 κ j) = v κ j) (hks : ∀ κ, I.ks (ix4 0 0 0 κ) = ks κ) (hvs : ∀ κ, I.vs (ix4 0 0 0 κ) = vs κ) :
    I.dk g r κ j = kDk q d a o k v ks vs (fun κ : Fin 4096 => κ.val ≤ r.val) κ j := by
  obtain rfl : q = fun j => I.q (ix3 0 r (col g j)) := funext fun j => (hq j).symm
  obtain rfl : d = fun j => I.d (ix3 0 r (col g j)) := funext fun j => (hd j).symm
  obtain rfl : k = fun κ j => I.k (ix3 0 κ j) := funext fun κ => funext fun j => (hk κ j).symm
  obtain rfl : ks = fun κ => I.ks (ix4 0 0 0 κ) := funext fun κ => (hks κ).symm
  obtain rfl : v = fun κ j => I.v (ix3 0 κ j) := funext fun κ => funext fun j => (hv κ j).symm
  obtain rfl : vs = fun κ => I.vs (ix4 0 0 0 κ) := funext fun κ => (hvs κ).symm
  subst ha ho
  unfold Ops.dk; with_reducible rfl

theorem dv_of (I : Ops) (g : Fin 4) (r : Fin 4096) (κ : Fin 4096) (j : Fin 128) (q d : Fin 128 → EReal) (a o : EReal) (k : Fin 4096 → Fin 128 → EReal) (ks : Fin 4096 → EReal)
    (hq : ∀ j, I.q (ix3 0 r (col g j)) = q j) (hd : ∀ j, I.d (ix3 0 r (col g j)) = d j) (ha : I.qs (ix4 0 0 g r) = a) (ho : I.ds (ix4 0 0 g r) = o)
    (hk : ∀ κ j, I.k (ix3 0 κ j) = k κ j) (hks : ∀ κ, I.ks (ix4 0 0 0 κ) = ks κ) :
    I.dv g r κ j = kDv q d a o k ks (fun κ : Fin 4096 => κ.val ≤ r.val) κ j := by
  obtain rfl : q = fun j => I.q (ix3 0 r (col g j)) := funext fun j => (hq j).symm
  obtain rfl : d = fun j => I.d (ix3 0 r (col g j)) := funext fun j => (hd j).symm
  obtain rfl : k = fun κ j => I.k (ix3 0 κ j) := funext fun κ => funext fun j => (hk κ j).symm
  obtain rfl : ks = fun κ => I.ks (ix4 0 0 0 κ) := funext fun κ => (hks κ).symm
  subst ha ho
  unfold Ops.dv; with_reducible rfl

end Cert.Proof.Val

end
-- ==== Proof.S.ValEq.lean ====
/-
  The gradients of a launch are entries of the reference's results.
-/
module

public import proofs.«01_k».proof.Proof.S.ValBlocks
public import proofs.«01_k».proof.Proof.S.ValOf
public import Idealize.ShloMosaic.Lib.Pipeline.Value

@[expose] public section

set_option maxRecDepth 8192

noncomputable section

namespace Cert.Proof.Val

open Cert.KernelIdeal Cert.KernelIdeal.Gen
open Idealize.ShloMosaic Idealize.ShloMosaic.TcCoe Idealize.SL.Sem
open Idealize.ShloMosaic.Pipeline (Dat)
open scoped BigOperators
open Cert.Proof.Math
open Cert.Proof.Ref (qcol kcol)

variable (m : (ℓ : Loc nD τ sig) → Buf (Elt Ideal) ℓ) (ρ : Dev nD → PrngReg)

/-- The reference's results of the kernel's arguments. -/
abbrev R8 (c : Dev nD) : Vec Ideal S8x4096x2048 .bf16 := Cert.ReferenceIdeal.Value.G8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
abbrev R9 (c : Dev nD) : Vec Ideal S8x4096x512 .bf16 := Cert.ReferenceIdeal.Value.G9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
abbrev R10 (c : Dev nD) : Vec Ideal S8x4096x512 .bf16 := Cert.ReferenceIdeal.Value.G10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Every gradient scale is nonnegative and finite. -/
def Fine (a : FVec Ideal S8x4x4x4096 .f32) : Prop := ∀ i, (0 : EReal) ≤ a i ∧ a i ≠ (⊤ : EReal)

section Eq
variable (hs : ∀ c : Dev nD, Fine (m ((c : Thread nD τ).loc main_arg7)))
include hs

theorem dq_eq (c : Dev nD) (t : Fin cfg0.N) (g : Fin 4) (r : Fin 4096) (j : Fin 128) :
    (blks m c t).dq g r j = R8 m c (ix3 (tb t) r (qcol (th t) g j)) := by
  refine (dq_of (blks m c t) g r j _ _ _ _ _ _ _ _ (fun j => blk0 m c t r g j) (fun j => blk3 m c t r g j) (blk4 m c t g r) (blk7 m c t g r) (fun κ j => blk1 m c t κ j) (fun κ j => blk2 m c t κ j) (fun κ => blk5 m c t κ) (fun κ => blk6 m c t κ)).trans ?_
  refine (kDq_eq _ _ _ _ _ _ _ _ _ (hs c _).1 (hs c _).2 j).trans ?_
  exact (Cert.Proof.Ref.G8_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (tb t) (th t) r g j).symm

theorem dk_eq (c : Dev nD) (t : Fin cfg0.N) (κ : Fin 4096) (j : Fin 128) :
    (∑ r : Fin 4096, ∑ g : Fin 4, (blks m c t).dk g r κ j) * SM8 = R9 m c (ix3 (tb t) κ (kcol (th t) j)) := by
  refine Eq.trans ?_ (Cert.Proof.Ref.G9_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (tb t) (th t) κ j).symm
  rw [SM8_split, ← mul_assoc]
  refine congrArg (· * SM) ?_
  rw [sum_mul_const _ _ _ I256_nonneg I256_ne_top, Finset.sum_comm]
  refine Finset.sum_congr rfl fun r _ => ?_
  rw [sum_mul_const _ _ _ I256_nonneg I256_ne_top]
  refine Finset.sum_congr rfl fun g _ => ?_
  refine (congrArg (· * I256) (dk_of (blks m c t) g r κ j _ _ _ _ _ _ _ _ (fun j => blk0 m c t r g j) (fun j => blk3 m c t r g j) (blk4 m c t g r) (blk7 m c t g r) (fun κ j => blk1 m c t κ j) (fun κ j => blk2 m c t κ j) (fun κ => blk5 m c t κ) (fun κ => blk6 m c t κ))).trans ?_
  exact kDk_eq _ _ _ _ _ _ _ _ _ (hs c _).1 (hs c _).2 κ j

omit hs in
theorem dv_eq (c : Dev nD) (t : Fin cfg0.N) (κ : Fin 4096) (j : Fin 128) :
    (∑ r : Fin 4096, ∑ g : Fin 4, (blks m c t).dv g r κ j) * I256 = R10 m c (ix3 (tb t) κ (kcol (th t) j)) := by
  refine Eq.trans ?_ (Cert.Proof.Ref.G10_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (tb t) (th t) κ j).symm
  rw [sum_mul_const _ _ _ I256_nonneg I256_ne_top]
  refine Eq.trans ?_ Finset.sum_comm
  refine Finset.sum_congr rfl fun r _ => ?_
  rw [sum_mul_const _ _ _ I256_nonneg I256_ne_top]
  refine Finset.sum_congr rfl fun g _ => ?_
  refine (congrArg (· * I256) (dv_of (blks m c t) g r κ j _ _ _ _ _ _ (fun j => blk0 m c t r g j) (fun j => blk3 m c t r g j) (blk4 m c t g r) (blk7 m c t g r) (fun κ j => blk1 m c t κ j) (fun κ => blk5 m c t κ))).trans ?_
  exact kDv_eq _ _ _ _ _ _ _ κ j

end Eq

end Cert.Proof.Val

end
-- ==== Proof.S.ValFinal.lean ====
/-
  The three arrays the launches leave are the reference's three results of the kernel's arguments.
-/
module

public import proofs.«01_k».proof.Proof.S.ValEq
public import Idealize.ShloMosaic.Lib.Pipeline.Value

@[expose] public section

set_option maxRecDepth 8192

noncomputable section

namespace Cert.Proof.Val

open Cert.KernelIdeal Cert.KernelIdeal.Gen
open Idealize.ShloMosaic Idealize.ShloMosaic.TcCoe Idealize.SL.Sem
open Idealize.ShloMosaic.Pipeline (Dat)
open scoped BigOperators
open Cert.Proof.Math
open Cert.Proof.Ref (qcol kcol)

variable (m : (ℓ : Loc nD τ sig) → Buf (Elt Ideal) ℓ) (ρ : Dev nD → PrngReg)

section Eq
variable (hs : ∀ c : Dev nD, Fine (m ((c : Thread nD τ).loc main_arg7)))
include hs

/-- What a launch writes back is its block of the reference's result. -/
theorem flushed8 (c : Dev nD) (t : Fin cfg0.N) : (dats m 0 c).flushed 8 t = ((cfg0.win 8).blk t).view.read (Elt Ideal) (R8 m c) := by
  show (cfg0.win 8).cut (grid0.coords t) ((dats m 0 c).after 8 t) = _
  rw [after0_8]
  funext x
  show outDq (blks m c t) x = R8 m c (((cfg0.win 8).blk t).view.emb x)
  rw [emb8]
  have hx2 : (x 2).val < 512 := (x 2).isLt
  refine (dq_eq m hs c t ⟨(x 2).val / 128, by omega⟩ (x 1) ⟨(x 2).val % 128, by omega⟩).trans ?_
  exact congrArg (R8 m c) (congrArg (ix3 (tb t) (x 1)) (Fin.ext (by show (th t).val * 512 + (x 2).val / 128 * 128 + (x 2).val % 128 = 512 * (th t).val + (x 2).val; omega)))

omit hs in
theorem covered8 (i : S8x4096x2048.Idx) : ∃ t : Fin cfg0.N, (cfg0.win 8).flush t = true ∧ i ∈ ((cfg0.win 8).blk t).view.set := by
  have h0 : (i 0).val < 8 := (i 0).isLt
  have h2 : (i 2).val < 2048 := (i 2).isLt
  obtain ⟨t, ht⟩ : ∃ t : Fin cfg0.N, t.val = 4 * (i 0).val + (i 2).val / 512 := ⟨pt (i 0).val ((i 2).val / 512) h0 (by omega), rfl⟩
  have e : ((cfg0.win 8).blk t).view.emb (ix3 0 (i 1) ⟨(i 2).val % 512, by omega⟩ : S1x4096x512.Idx) = i := by
    rw [emb8]
    funext a; apply Fin.ext
    match a with
    | ⟨0, _⟩ => show t.val / 4 = (i 0).val; omega
    | ⟨1, _⟩ => rfl
    | ⟨2, _⟩ => show 512 * (t.val % 4) + (i 2).val % 512 = (i 2).val; omega
  have h := ((cfg0.win 8).blk t).view.emb_mem_set (ix3 0 (i 1) ⟨(i 2).val % 512, by omega⟩ : S1x4096x512.Idx)
  rw [e] at h
  exact ⟨t, flush0_8 t, h⟩

theorem final8 (c : Dev nD) : (dats m 0 c).arrAt 8 cfg0.N = R8 m c :=
  (dats m 0 c).arrAt_eq_of_cover 8 (R8 m c) (fun t _ => flushed8 m hs c t) covered8

/-- What a launch writes back is its block of the reference's result. -/
theorem flushed9 (c : Dev nD) (t : Fin cfg0.N) : (dats m 0 c).flushed 9 t = ((cfg0.win 9).blk t).view.read (Elt Ideal) (R9 m c) := by
  show (cfg0.win 9).cut (grid0.coords t) ((dats m 0 c).after 9 t) = _
  rw [after0_9]
  funext x
  show outDk (blks m c t) x = R9 m c (((cfg0.win 9).blk t).view.emb x)
  rw [emb9]
  refine (dk_eq m hs c t (x 1) (x 2)).trans ?_
  exact congrArg (R9 m c) (congrArg (ix3 (tb t) (x 1)) (Fin.ext (by show (th t).val * 128 + (x 2).val = 128 * (th t).val + (x 2).val; omega)))

omit hs in
theorem covered9 (i : S8x4096x512.Idx) : ∃ t : Fin cfg0.N, (cfg0.win 9).flush t = true ∧ i ∈ ((cfg0.win 9).blk t).view.set := by
  have h0 : (i 0).val < 8 := (i 0).isLt
  have h2 : (i 2).val < 512 := (i 2).isLt
  obtain ⟨t, ht⟩ : ∃ t : Fin cfg0.N, t.val = 4 * (i 0).val + (i 2).val / 128 := ⟨pt (i 0).val ((i 2).val / 128) h0 (by omega), rfl⟩
  have e : ((cfg0.win 9).blk t).view.emb (ix3 0 (i 1) ⟨(i 2).val % 128, by omega⟩ : S1x4096x128.Idx) = i := by
    rw [emb9]
    funext a; apply Fin.ext
    match a with
    | ⟨0, _⟩ => show t.val / 4 = (i 0).val; omega
    | ⟨1, _⟩ => rfl
    | ⟨2, _⟩ => show 128 * (t.val % 4) + (i 2).val % 128 = (i 2).val; omega
  have h := ((cfg0.win 9).blk t).view.emb_mem_set (ix3 0 (i 1) ⟨(i 2).val % 128, by omega⟩ : S1x4096x128.Idx)
  rw [e] at h
  exact ⟨t, flush0_9 t, h⟩

theorem final9 (c : Dev nD) : (dats m 0 c).arrAt 9 cfg0.N = R9 m c :=
  (dats m 0 c).arrAt_eq_of_cover 9 (R9 m c) (fun t _ => flushed9 m hs c t) covered9

omit hs in
/-- What a launch writes back is its block of the reference's result. -/
theorem flushed10 (c : Dev nD) (t : Fin cfg0.N) : (dats m 0 c).flushed 10 t = ((cfg0.win 10).blk t).view.read (Elt Ideal) (R10 m c) := by
  show (cfg0.win 10).cut (grid0.coords t) ((dats m 0 c).after 10 t) = _
  rw [after0_10]
  funext x
  show outDv (blks m c t) x = R10 m c (((cfg0.win 10).blk t).view.emb x)
  rw [emb10]
  refine (dv_eq m c t (x 1) (x 2)).trans ?_
  exact congrArg (R10 m c) (congrArg (ix3 (tb t) (x 1)) (Fin.ext (by show (th t).val * 128 + (x 2).val = 128 * (th t).val + (x 2).val; omega)))

omit hs in
theorem covered10 (i : S8x4096x512.Idx) : ∃ t : Fin cfg0.N, (cfg0.win 10).flush t = true ∧ i ∈ ((cfg0.win 10).blk t).view.set := by
  have h0 : (i 0).val < 8 := (i 0).isLt
  have h2 : (i 2).val < 512 := (i 2).isLt
  obtain ⟨t, ht⟩ : ∃ t : Fin cfg0.N, t.val = 4 * (i 0).val + (i 2).val / 128 := ⟨pt (i 0).val ((i 2).val / 128) h0 (by omega), rfl⟩
  have e : ((cfg0.win 10).blk t).view.emb (ix3 0 (i 1) ⟨(i 2).val % 128, by omega⟩ : S1x4096x128.Idx) = i := by
    rw [emb10]
    funext a; apply Fin.ext
    match a with
    | ⟨0, _⟩ => show t.val / 4 = (i 0).val; omega
    | ⟨1, _⟩ => rfl
    | ⟨2, _⟩ => show 128 * (t.val % 4) + (i 2).val % 128 = (i 2).val; omega
  have h := ((cfg0.win 10).blk t).view.emb_mem_set (ix3 0 (i 1) ⟨(i 2).val % 128, by omega⟩ : S1x4096x128.Idx)
  rw [e] at h
  exact ⟨t, flush0_10 t, h⟩

omit hs in
theorem final10 (c : Dev nD) : (dats m 0 c).arrAt 10 cfg0.N = R10 m c :=
  (dats m 0 c).arrAt_eq_of_cover 10 (R10 m c) (fun t _ => flushed10 m c t) covered10

/-- The run, read: the three results are the reference's of the kernel's arguments, the arguments unchanged. -/
theorem run : θ_run defs (onTc (τ := τ) (main (F := Ideal))) ⟨m, fun _ => 0, ρ⟩ fun r => ∀ c : Dev nD,
      r.2.mem ((c : Thread nD τ).loc main_v0_0) = R8 m c
      ∧ r.2.mem ((c : Thread nD τ).loc main_v0_1) = R9 m c
      ∧ r.2.mem ((c : Thread nD τ).loc main_v0_2) = R10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans (final8 m hs c), ((h c).1 9).trans (final9 m hs c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Eq

end Cert.Proof.Val

end
-- ==== Proof.S.Pre.lean ====
/-
  The precondition, read: every gradient scale is nonnegative and finite.
-/
module

public import proofs.«01_k».proof.Pre_scales_finite
public import Idealize.ShloMosaic.PureOps.Ideal
public import Idealize.ShloMosaic.PureOps.IdealRules
public import Idealize.ShloMosaic.Lib.ReduceAll

@[expose] public section

noncomputable section

namespace Cert.Proof.Pre

open Cert.Pre_scales_finite
open Idealize.ShloMosaic

/-- The side conditions of the predicate's operations. -/
theorem facts : Cert.Pre_scales_finite.Facts where
  bcast_S_S8x4x4x4096 := by decide
  reducesTo_S8x4x4x4096_S_d0_1_2_3 := by decide
  h_S_ := by decide

theorem INF_eq : Ideal.ofBits .f32 0x7F800000#32 = (⊤ : EReal) := by
  simp [Ideal.ofBits, Ideal.ieee]

theorem ZERO_eq : Ideal.ofBits .f32 0x00000000#32 = (0 : EReal) := by
  simp [Ideal.ofBits, Ideal.ieee]

/-- The two comparisons at an entry. -/
theorem of_bits (x : EReal) (h : IntOp.andi (Scalar.cmpf (F := Ideal) (φ := .f32) .oge x (Scalar.ofBits .f32 0x00000000#32)) (Scalar.cmpf (F := Ideal) (φ := .f32) .olt x (Scalar.ofBits .f32 0x7F800000#32)) = 1#1) :
    0 ≤ x ∧ x ≠ ⊤ := by
  have h' : (BitVec.ofBool (decide (Ideal.ofBits .f32 0x00000000#32 ≤ x)) &&& BitVec.ofBool (decide (x < Ideal.ofBits .f32 0x7F800000#32))) = 1#1 := h
  rw [INF_eq, ZERO_eq] at h'
  by_cases h0 : (0 : EReal) ≤ x
  · by_cases h1 : x < (⊤ : EReal)
    · exact ⟨h0, h1.ne⟩
    · rw [decide_eq_false h1] at h'; simp at h'
  · rw [decide_eq_false h0] at h'; simp at h'

instance : Subsingleton S_.Idx := ⟨fun a b => funext fun i => i.elim0⟩

theorem read [Cert.Pre_scales_finite.Facts] (a0 : FVec Ideal S8x4096x2048 .fp8e4m3) (a1 a2 : FVec Ideal S8x4096x512 .fp8e4m3) (a3 : FVec Ideal S8x4096x2048 .fp8e5m2)
    (a4 : FVec Ideal S8x4x4x4096 .f32) (a5 a6 : FVec Ideal S8x4x1x4096 .f32) (a7 : FVec Ideal S8x4x4x4096 .f32) (j : S_.Idx)
    (e : fn (F := Ideal) a0 a1 a2 a3 a4 a5 a6 a7 j = 1#1) (i : S8x4x4x4096.Idx) : 0 ≤ a7 i ∧ a7 i ≠ (⊤ : EReal) := by
  dsimp only [fn] at e
  exact of_bits (a7 i) (Host.reduce_andi_all _ _ _ _ j e i)

end Cert.Proof.Pre

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.S.KernelRun
public import proofs.«01_k».proof.Proof.S.KernelIdealRun
public import proofs.«01_k».proof.Proof.S.ValFinal
public import proofs.«01_k».proof.Proof.S.Pre

@[expose] public section

noncomputable section

namespace Cert.Proof

open Idealize.ShloMosaic Idealize.ShloMosaic.TcCoe Idealize.SL.Sem

/-- The two programs, from equal arguments with nonnegative finite gradient scales, leave equal results. -/
theorem algebraic : Cert.algebraic_KernelIdeal_ReferenceIdeal_pre_scales_finite (hKernelIdeal := Cert.KernelIdeal.Gen.facts)
    (hReferenceIdeal := Cert.ReferenceIdeal.Gen.facts) (hPre_scales_finite := Cert.Proof.Pre.facts) := by
  intro m g m' g' hpre harg
  letI := Cert.Proof.Pre.facts
  have hs : ∀ c : Dev Cert.KernelIdeal.nD, Val.Fine (m ((c : Thread Cert.KernelIdeal.nD Cert.KernelIdeal.τ).loc Cert.KernelIdeal.main_arg7)) := fun c i =>
    Cert.Proof.Pre.read _ _ _ _ _ _ _ _ _ (congrFun (hpre c) (fun a => a.elim0)) i
  refine ⟨fun c => Val.R8 m c, fun c => Val.R9 m c, fun c => Val.R10 m c, Val.run m g hs, ?_⟩
  refine (θ_run _ _ _).mono (fun r h c => ?_) (Cert.ReferenceIdeal.Value.run (F := Ideal) m' g')
  obtain ⟨h8, h9, h10, hk⟩ := h c
  obtain ⟨e0, e1, e2, e3, e4, e5, e6, e7⟩ := harg c
  refine ⟨h8.trans ?_, h9.trans ?_, h10.trans ?_, hk⟩
  · rw [e0, e1, e2, e3, e4, e5, e6, e7]
  · rw [e0, e1, e2, e3, e4, e5, e6, e7]
  · rw [e0, e1, e2, e3, e4, e5, e6, e7]

theorem claim : Cert.Claim :=
  ⟨Cert.Kernel.Gen.facts, Cert.KernelIdeal.Gen.facts, Cert.ReferenceIdeal.Gen.facts, Cert.Proof.Pre.facts,
    fun m ρ _ => Cert.Proof.Kernel.frame m ρ, fun m ρ _ => Cert.Proof.KernelIdeal.frame m ρ, fun m ρ _ => Cert.Proof.KernelIdeal.frame m ρ,
    fun m ρ _ => Cert.ReferenceIdeal.Gen.frame m ρ, fun m ρ _ => Cert.ReferenceIdeal.Gen.frame m ρ, trivial, algebraic⟩

end Cert.Proof

end
